-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_weights [hPre_finite_weights : Cert.Pre_finite_weights.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_weights.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5)) (m ((c.tc : Thread Cert.Kernel3Ideal.nD Cert.Kernel3Ideal.τ).loc Cert.Kernel3Ideal.main_arg6)) (m ((c.tc : Thread Cert.Kernel3Ideal.nD Cert.Kernel3Ideal.τ).loc Cert.Kernel3Ideal.main_arg7))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_weights [hPre_finite_weights : Cert.Pre_finite_weights.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_weights.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5)) (m ((c.tc : Thread Cert.Reference3Ideal.nD Cert.Reference3Ideal.τ).loc Cert.Reference3Ideal.main_arg6)) (m ((c.tc : Thread Cert.Reference3Ideal.nD Cert.Reference3Ideal.τ).loc Cert.Reference3Ideal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Kernel3Ideal_pre_finite_weights [hKernel3Ideal : Cert.Kernel3Ideal.Facts] [hPre_finite_weights : Cert.Pre_finite_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_weights m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Reference3Ideal_pre_finite_weights [hReference3Ideal : Cert.Reference3Ideal.Facts] [hPre_finite_weights : Cert.Pre_finite_weights.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_weights m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v35) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def preserves_Kernel3_Kernel3Ideal : Prop :=
  True

def algebraic_Kernel3Ideal_Reference3Ideal_pre_finite_weights [hKernel3Ideal : Cert.Kernel3Ideal.Facts] [hReference3Ideal : Cert.Reference3Ideal.Facts] [hPre_finite_weights : Cert.Pre_finite_weights.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_weights m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v71_0)) (v1 : (c : Dev Cert.Kernel3Ideal.nD) → Buf (Elt Ideal) ((c.tc : Thread Cert.Kernel3Ideal.nD Cert.Kernel3Ideal.τ).loc Cert.Kernel3Ideal.main_v71_1)) (v2 : (c : Dev Cert.Kernel3Ideal.nD) → Buf (Elt Ideal) ((c.tc : Thread Cert.Kernel3Ideal.nD Cert.Kernel3Ideal.τ).loc Cert.Kernel3Ideal.main_v71_2)) (v3 : (c : Dev Cert.Kernel3Ideal.nD) → Buf (Elt Ideal) ((c.tc : Thread Cert.Kernel3Ideal.nD Cert.Kernel3Ideal.τ).loc Cert.Kernel3Ideal.main_v71_3)) (v4 : (c : Dev Cert.Kernel3Ideal.nD) → Buf (Elt Ideal) ((c.tc : Thread Cert.Kernel3Ideal.nD Cert.Kernel3Ideal.τ).loc Cert.Kernel3Ideal.main_v71_4)) (v5 : (c : Dev Cert.Kernel3Ideal.nD) → Buf (Elt Ideal) ((c.tc : Thread Cert.Kernel3Ideal.nD Cert.Kernel3Ideal.τ).loc Cert.Kernel3Ideal.main_v71_5)) (v6 : (c : Dev Cert.Kernel3Ideal.nD) → Buf (Elt Ideal) ((c.tc : Thread Cert.Kernel3Ideal.nD Cert.Kernel3Ideal.τ).loc Cert.Kernel3Ideal.main_v71_6)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v71_0) = v0 c
          ∧ r.2.mem ((c.tc : Thread Cert.Kernel3Ideal.nD Cert.Kernel3Ideal.τ).loc Cert.Kernel3Ideal.main_v71_1) = v1 c
          ∧ r.2.mem ((c.tc : Thread Cert.Kernel3Ideal.nD Cert.Kernel3Ideal.τ).loc Cert.Kernel3Ideal.main_v71_2) = v2 c
          ∧ r.2.mem ((c.tc : Thread Cert.Kernel3Ideal.nD Cert.Kernel3Ideal.τ).loc Cert.Kernel3Ideal.main_v71_3) = v3 c
          ∧ r.2.mem ((c.tc : Thread Cert.Kernel3Ideal.nD Cert.Kernel3Ideal.τ).loc Cert.Kernel3Ideal.main_v71_4) = v4 c
          ∧ r.2.mem ((c.tc : Thread Cert.Kernel3Ideal.nD Cert.Kernel3Ideal.τ).loc Cert.Kernel3Ideal.main_v71_5) = v5 c
          ∧ r.2.mem ((c.tc : Thread Cert.Kernel3Ideal.nD Cert.Kernel3Ideal.τ).loc Cert.Kernel3Ideal.main_v71_6) = v6 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v113) = v0 c
          ∧ r.2.mem ((c.tc : Thread Cert.Reference3Ideal.nD Cert.Reference3Ideal.τ).loc Cert.Reference3Ideal.main_v115) = v1 c
          ∧ r.2.mem ((c.tc : Thread Cert.Reference3Ideal.nD Cert.Reference3Ideal.τ).loc Cert.Reference3Ideal.main_v117) = v2 c
          ∧ r.2.mem ((c.tc : Thread Cert.Reference3Ideal.nD Cert.Reference3Ideal.τ).loc Cert.Reference3Ideal.main_v36) = v3 c
          ∧ r.2.mem ((c.tc : Thread Cert.Reference3Ideal.nD Cert.Reference3Ideal.τ).loc Cert.Reference3Ideal.main_v111) = v4 c
          ∧ r.2.mem ((c.tc : Thread Cert.Reference3Ideal.nD Cert.Reference3Ideal.τ).loc Cert.Reference3Ideal.main_v118) = v5 c
          ∧ r.2.mem ((c.tc : Thread Cert.Reference3Ideal.nD Cert.Reference3Ideal.τ).loc Cert.Reference3Ideal.main_v119) = v6 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts) (hPre_finite_weights : Cert.Pre_finite_weights.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite_weights (hKernel3Ideal := hKernel3Ideal) (hPre_finite_weights := hPre_finite_weights)
    ∧ quiescent_Reference3Ideal (hReference3Ideal := hReference3Ideal)
    ∧ quiescent_Reference3Ideal_pre_finite_weights (hReference3Ideal := hReference3Ideal) (hPre_finite_weights := hPre_finite_weights)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite_weights (hKernel3Ideal := hKernel3Ideal) (hReference3Ideal := hReference3Ideal) (hPre_finite_weights := hPre_finite_weights)
-- ==== Pre_finite.lean ====
abbrev S8x8x4096x128 : Shape := ⟨4, ![8, 8, 4096, 128]⟩
abbrev S8x4x4096x128 : Shape := ⟨4, ![8, 4, 4096, 128]⟩
abbrev S_ : Shape := ⟨0, ![]⟩

class Facts : Prop where
  bitsLt_bf16_f32 : FTy.bits .bf16 < FTy.bits .f32
  bcast_S_S8x8x4096x128 : S_.BroadcastsInDim S8x8x4096x128 (![] : Fin 0 → Fin S8x8x4096x128.rank)

variable [Facts]

def fn {F : FTy → Type} [FloatOps F] (main_arg0 : FVec F S8x8x4096x128 .bf16) (main_arg1 : FVec F S8x8x4096x128 .bf16) (main_arg2 : FVec F S8x4x4096x128 .bf16) : IVec S8x8x4096x128 1 :=
  let main_v0 : FVec F S8x8x4096x128 .f32 := (extf .f32 · bitsLt_bf16_f32) main_arg0
  let main_v1 : FVec F S8x8x4096x128 .f32 := Host.absf main_v0
  let main_cst : FVec F S_ .f32 := constant S_ .f32 0x7F800000#32
  let main_v2 : FVec F S8x8x4096x128 .f32 := broadcastInDim S8x8x4096x128 ![] bcast_S_S8x8x4096x128 main_cst
  let main_v3 : IVec S8x8x4096x128 1 := cmpf .olt main_v1 main_v2
  let main_v4 : FVec F S8x8x4096x128 .f32 := (extf .f32 · bitsLt_bf16_f32) main_arg1
  let main_v5 : FVec F S8x8x4096x128 .f32 := Host.absf main_v4
  let main_cst_0 : FVec F S_ .f32 := constant S_ .f32 0x7F800000#32
  let main_v6 : FVec F S8x8x4096x128 .f32 := broadcastInDim S8x8x4096x128 ![] bcast_S_S8x8x4096x128 main_cst_0
  let main_v7 : IVec S8x8x4096x128 1 := cmpf .olt main_v5 main_v6
  let main_v8 : IVec S8x8x4096x128 1 := andi main_v3 main_v7
  main_v8
-- ==== Pre_finite_weights.lean ====
abbrev S32768x1024 : Shape := ⟨2, ![32768, 1024]⟩
abbrev S8x4096 : Shape := ⟨2, ![8, 4096]⟩
abbrev S1024 : Shape := ⟨1, ![1024]⟩
abbrev S1024x7728 : Shape := ⟨2, ![1024, 7728]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S1024x16 : Shape := ⟨2, ![1024, 16]⟩
abbrev S256x8x96 : Shape := ⟨3, ![256, 8, 96]⟩
abbrev S256x8x16 : Shape := ⟨3, ![256, 8, 16]⟩
abbrev S16384 : Shape := ⟨1, ![16384]⟩
abbrev S32768 : Shape := ⟨1, ![32768]⟩
abbrev S50432 : Shape := ⟨1, ![50432]⟩
abbrev S_ : Shape := ⟨0, ![]⟩

class Facts : Prop where
  slices_S1024x7728_S1024x16_0_400 : S1024x7728.Slices ![0, 400] S1024x16
  shapeCasts_S256x768_S256x8x96 : S256x768.ShapeCasts S256x8x96
  slices_S256x8x96_S256x8x16_0_0_80 : S256x8x96.Slices ![0, 0, 80] S256x8x16
  shapeCasts_S1024x16_S16384 : S1024x16.ShapeCasts S16384
  shapeCasts_S256x8x16_S32768 : S256x8x16.ShapeCasts S32768
  concatenates_S1024_S16384_S256_S32768_S50432_d0 : Shape.Concatenates [S1024, S16384, S256, S32768] S50432 0
  bcast_S_S50432 : S_.BroadcastsInDim S50432 (![] : Fin 0 → Fin S50432.rank)

variable [Facts]

def fn {F : FTy → Type} [FloatOps F] (main_arg0 : FVec F S32768x1024 .f32) (main_arg1 : IVec S8x4096 32) (main_arg2 : FVec F S1024 .f32) (main_arg3 : FVec F S1024x7728 .f32) (main_arg4 : FVec F S256 .f32) (main_arg5 : FVec F S128 .f32) (main_arg6 : FVec F S256x768 .f32) (main_arg7 : FVec F S128x1024 .f32) : IVec S50432 1 :=
  let main_v0 : FVec F S1024x16 .f32 := (extractStridedSlice S1024x16 ![0, 400] · slices_S1024x7728_S1024x16_0_400) main_arg3
  let main_v1 : FVec F S256x8x96 .f32 := shapeCast S256x8x96 main_arg6 shapeCasts_S256x768_S256x8x96
  let main_v2 : FVec F S256x8x16 .f32 := (extractStridedSlice S256x8x16 ![0, 0, 80] · slices_S256x8x96_S256x8x16_0_0_80) main_v1
  let main_v3 : FVec F S16384 .f32 := shapeCast S16384 main_v0 shapeCasts_S1024x16_S16384
  let main_v4 : FVec F S32768 .f32 := shapeCast S32768 main_v2 shapeCasts_S256x8x16_S32768
  let main_v5 : FVec F S50432 .f32 := concatenate S50432 0 [⟨S1024, main_arg2⟩, ⟨S16384, main_v3⟩, ⟨S256, main_arg4⟩, ⟨S32768, main_v4⟩] concatenates_S1024_S16384_S256_S32768_S50432_d0
  let main_v6 : FVec F S50432 .f32 := Host.absf main_v5
  let main_cst : FVec F S_ .f32 := constant S_ .f32 0x7F800000#32
  let main_v7 : FVec F S50432 .f32 := broadcastInDim S50432 ![] bcast_S_S50432 main_cst
  let main_v8 : IVec S50432 1 := cmpf .olt main_v6 main_v7
  main_v8
-- ==== Kernel.lean ====
abbrev S8x8x4096x128 : Shape := ⟨4, ![8, 8, 4096, 128]⟩
abbrev S8x4x4096x128 : Shape := ⟨4, ![8, 4, 4096, 128]⟩
abbrev S8x4096x512 : Shape := ⟨3, ![8, 4096, 512]⟩
abbrev S1x2x512x128 : Shape := ⟨4, ![1, 2, 512, 128]⟩
abbrev S1x2x4096x128 : Shape := ⟨4, ![1, 2, 4096, 128]⟩
abbrev S1x1x4096x128 : Shape := ⟨4, ![1, 1, 4096, 128]⟩
abbrev S1x512x128 : Shape := ⟨3, ![1, 512, 128]⟩
abbrev S512x128 : Shape := ⟨2, ![512, 128]⟩
abbrev S2x2x512x512 : Shape := ⟨4, ![2, 2, 512, 512]⟩
abbrev S1x128 : Shape := ⟨2, ![1, 128]⟩
abbrev S512x1 : Shape := ⟨2, ![512, 1]⟩
abbrev S1x1x512x128 : Shape := ⟨4, ![1, 1, 512, 128]⟩
abbrev S512x512 : Shape := ⟨2, ![512, 512]⟩
abbrev S1x1x512x512 : Shape := ⟨4, ![1, 1, 512, 512]⟩
abbrev S512 : Shape := ⟨1, ![512]⟩

abbrev nBuf : Space → Nat
  | .hbm => 4
  | .vmem => 10
  | .smem => 0
  | _ => 0

abbrev bufTy : (tb : Table) → Fin (tcTables nBuf tb) → BufTy
  | .hbm, ⟨0, _⟩ => ⟨S8x8x4096x128, .bf16⟩
  | .hbm, ⟨1, _⟩ => ⟨S8x8x4096x128, .bf16⟩
  | .hbm, ⟨2, _⟩ => ⟨S8x4x4096x128, .bf16⟩
  | .hbm, ⟨3, _⟩ => ⟨S8x4096x512, .bf16⟩
  | .local _ .vmem, ⟨0, _⟩ => ⟨S1x2x512x128, .bf16⟩
  | .local _ .vmem, ⟨1, _⟩ => ⟨S1x2x512x128, .bf16⟩
  | .local _ .vmem, ⟨2, _⟩ => ⟨S1x2x4096x128, .bf16⟩
  | .local _ .vmem, ⟨3, _⟩ => ⟨S1x2x4096x128, .bf16⟩
  | .local _ .vmem, ⟨4, _⟩ => ⟨S1x1x4096x128, .bf16⟩
  | .local _ .vmem, ⟨5, _⟩ => ⟨S1x1x4096x128, .bf16⟩
  | .local _ .vmem, ⟨6, _⟩ => ⟨S1x512x128, .bf16⟩
  | .local _ .vmem, ⟨7, _⟩ => ⟨S1x512x128, .bf16⟩
  | .local _ .vmem, ⟨8, _⟩ => ⟨S512x128, .f32⟩
  | .local _ .vmem, ⟨9, _⟩ => ⟨S2x2x512x512, .f32⟩
  | _, _ => ⟨S8x8x4096x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![8, 4, 8], ![false, false, false]⟩

def k0_mult1 : BitVec 32 :=
  let c0_i32 : BitVec 32 := 0#32
  c0_i32
@[reducible] def k0_t1_loop (i : grid0.Coords) : Scf.Loop 32 :=
  let c0_i32_31 : BitVec 32 := 0#32
  let arg2 : BitVec 32 := BitVec.ofNat 32 (i 2).val
  let c0_i32_26 : BitVec 32 := 0#32
  let v29 : BitVec 1 := Scalar.cmpi .sgt arg2 c0_i32_26
  let v30 : BitVec 32 := Scalar.extui v29
  let c0_i32_27 : BitVec 32 := 0#32
  let v31 : BitVec 1 := Scalar.cmpi .slt arg2 c0_i32_27
  let v32 : BitVec 32 := Scalar.extui v31
  let v33 : BitVec 32 := Scalar.subi v30 v32
  let c2_i32 : BitVec 32 := 2#32
  let c0_i32_28 : BitVec 32 := 0#32
  let v34 : BitVec 1 := Scalar.cmpi .sgt c2_i32 c0_i32_28
  let v35 : BitVec 32 := Scalar.extui v34
  let c0_i32_29 : BitVec 32 := 0#32
  let v36 : BitVec 1 := Scalar.cmpi .slt c2_i32 c0_i32_29
  let v37 : BitVec 32 := Scalar.extui v36
  let v38 : BitVec 32 := Scalar.subi v35 v37
  let v39 : BitVec 1 := Scalar.cmpi .ne v33 v38
  let v40 : BitVec 32 := Scalar.remsi arg2 c2_i32
  let c0_i32_30 : BitVec 32 := 0#32
  let v41 : BitVec 1 := Scalar.cmpi .ne v40 c0_i32_30
  let v42 : BitVec 1 := Scalar.andi v39 v41
  let v28 : BitVec 32 := Scalar.divsi arg2 c2_i32
  let c1_i32 : BitVec 32 := 1#32
  let v43 : BitVec 32 := Scalar.subi v28 c1_i32
  let v44 : BitVec 32 := Scalar.select v42 v43 v28
  let v45 : BitVec 32 := Scalar.subi v44 c0_i32_31
  let c1_i32_32 : BitVec 32 := 1#32
  let v47 : BitVec 32 := Scalar.divsi v45 c1_i32_32
  let v48 : BitVec 32 := Scalar.muli v47 c1_i32_32
  let v49 : BitVec 32 := Scalar.addi c0_i32_31 v48
  let c1_i32_33 : BitVec 32 := 1#32
  ⟨c0_i32_31, v49, c1_i32_33⟩
def k0_mult2 (i : grid0.Coords) (k0_t1 : Fin (k0_t1_loop i).trips) : BitVec 32 :=
  let c2_i32_48 : BitVec 32 := 2#32
  let c0_i32_31 : BitVec 32 := 0#32
  let c1_i32_33 : BitVec 32 := 1#32
  let arg9 : BitVec 32 := Scf.iv c0_i32_31 c1_i32_33 k0_t1
  let v79 : BitVec 32 := Scalar.muli c2_i32_48 arg9
  let c1_i32_49 : BitVec 32 := 1#32
  let v80 : BitVec 32 := Scalar.addi v79 c1_i32_49
  let c512_i32 : BitVec 32 := 512#32
  let v81 : BitVec 32 := Scalar.muli v80 c512_i32
  v81
def k0_off1 (i : grid0.Coords) (k0_t1 : Fin (k0_t1_loop i).trips) (c1_i32_49 : BitVec 32) : Fin 4 → Nat :=
  let c0_54 : Index := 0#32
  let c0_55 : Index := 0#32
  let c2_i32_48 : BitVec 32 := 2#32
  let c0_i32_31 : BitVec 32 := 0#32
  let c1_i32_33 : BitVec 32 := 1#32
  let arg9 : BitVec 32 := Scf.iv c0_i32_31 c1_i32_33 k0_t1
  let v79 : BitVec 32 := Scalar.muli c2_i32_48 arg9
  let v80 : BitVec 32 := Scalar.addi v79 c1_i32_49
  let c512_i32 : BitVec 32 := 512#32
  let v81 : BitVec 32 := Scalar.muli v80 c512_i32
  let v82 : BitVec 32 := v81
  let v85 : Index := Scalar.indexCast v82
  let c0_56 : Index := 0#32
  ![0, 0, v85.toNat, 0]
def k0_off2 (i : grid0.Coords) (k0_t1 : Fin (k0_t1_loop i).trips) (c1_i32_49 : BitVec 32) : Fin 4 → Nat :=
  let c0_66 : Index := 0#32
  let c1_67 : Index := 1#32
  let c2_i32_48 : BitVec 32 := 2#32
  let c0_i32_31 : BitVec 32 := 0#32
  let c1_i32_33 : BitVec 32 := 1#32
  let arg9 : BitVec 32 := Scf.iv c0_i32_31 c1_i32_33 k0_t1
  let v79 : BitVec 32 := Scalar.muli c2_i32_48 arg9
  let v80 : BitVec 32 := Scalar.addi v79 c1_i32_49
  let c512_i32 : BitVec 32 := 512#32
  let v81 : BitVec 32 := Scalar.muli v80 c512_i32
  let v82 : BitVec 32 := v81
  let v94 : Index := Scalar.indexCast v82
  let c0_68 : Index := 0#32
  ![0, 1, v94.toNat, 0]
def k0_mult3 (i : grid0.Coords) (k0_t1 : Fin (k0_t1_loop i).trips) : BitVec 32 :=
  let c2_i32_74 : BitVec 32 := 2#32
  let c0_i32_31 : BitVec 32 := 0#32
  let c1_i32_33 : BitVec 32 := 1#32
  let arg9 : BitVec 32 := Scf.iv c0_i32_31 c1_i32_33 k0_t1
  let v101 : BitVec 32 := Scalar.muli c2_i32_74 arg9
  let c512_i32_75 : BitVec 32 := 512#32
  let v102 : BitVec 32 := Scalar.muli v101 c512_i32_75
  v102
def k0_off3 (i : grid0.Coords) (k0_t1 : Fin (k0_t1_loop i).trips) : Fin 4 → Nat :=
  let c0_76 : Index := 0#32
  let c0_77 : Index := 0#32
  let c2_i32_74 : BitVec 32 := 2#32
  let c0_i32_31 : BitVec 32 := 0#32
  let c1_i32_33 : BitVec 32 := 1#32
  let arg9 : BitVec 32 := Scf.iv c0_i32_31 c1_i32_33 k0_t1
  let v101 : BitVec 32 := Scalar.muli c2_i32_74 arg9
  let c512_i32_75 : BitVec 32 := 512#32
  let v102 : BitVec 32 := Scalar.muli v101 c512_i32_75
  let v103 : BitVec 32 := v102
  let v104 : Index := Scalar.indexCast v103
  let c0_78 : Index := 0#32
  ![0, 0, v104.toNat, 0]
def k0_mult4 (i : grid0.Coords) (k0_t1 : Fin (k0_t1_loop i).trips) : BitVec 32 :=
  let c2_i32_98 : BitVec 32 := 2#32
  let c0_i32_31 : BitVec 32 := 0#32
  let c1_i32_33 : BitVec 32 := 1#32
  let arg9 : BitVec 32 := Scf.iv c0_i32_31 c1_i32_33 k0_t1
  let v160 : BitVec 32 := Scalar.muli c2_i32_98 arg9
  let c2_i32_99 : BitVec 32 := 2#32
  let v161 : BitVec 32 := Scalar.addi v160 c2_i32_99
  let c512_i32_100 : BitVec 32 := 512#32
  let v162 : BitVec 32 := Scalar.muli v161 c512_i32_100
  v162
def k0_mult5 (i : grid0.Coords) (k0_t1 : Fin (k0_t1_loop i).trips) : BitVec 32 :=
  let c2_i32_125 : BitVec 32 := 2#32
  let c0_i32_31 : BitVec 32 := 0#32
  let c1_i32_33 : BitVec 32 := 1#32
  let arg9 : BitVec 32 := Scf.iv c0_i32_31 c1_i32_33 k0_t1
  let v182 : BitVec 32 := Scalar.muli c2_i32_125 arg9
  let c1_i32_126 : BitVec 32 := 1#32
  let v183 : BitVec 32 := Scalar.addi v182 c1_i32_126
  let c512_i32_127 : BitVec 32 := 512#32
  let v184 : BitVec 32 := Scalar.muli v183 c512_i32_127
  v184
def k0_off4 (i : grid0.Coords) (k0_t1 : Fin (k0_t1_loop i).trips) : Fin 4 → Nat :=
  let c0_128 : Index := 0#32
  let c0_129 : Index := 0#32
  let c2_i32_125 : BitVec 32 := 2#32
  let c0_i32_31 : BitVec 32 := 0#32
  let c1_i32_33 : BitVec 32 := 1#32
  let arg9 : BitVec 32 := Scf.iv c0_i32_31 c1_i32_33 k0_t1
  let v182 : BitVec 32 := Scalar.muli c2_i32_125 arg9
  let c1_i32_126 : BitVec 32 := 1#32
  let v183 : BitVec 32 := Scalar.addi v182 c1_i32_126
  let c512_i32_127 : BitVec 32 := 512#32
  let v184 : BitVec 32 := Scalar.muli v183 c512_i32_127
  let v185 : BitVec 32 := v184
  let v186 : Index := Scalar.indexCast v185
  let c0_130 : Index := 0#32
  ![0, 0, v186.toNat, 0]
@[reducible] def k0_t2_loop (i : grid0.Coords) : Scf.Loop 32 :=
  let c0_i32_31 : BitVec 32 := 0#32
  let arg2 : BitVec 32 := BitVec.ofNat 32 (i 2).val
  let c0_i32_26 : BitVec 32 := 0#32
  let v29 : BitVec 1 := Scalar.cmpi .sgt arg2 c0_i32_26
  let v30 : BitVec 32 := Scalar.extui v29
  let c0_i32_27 : BitVec 32 := 0#32
  let v31 : BitVec 1 := Scalar.cmpi .slt arg2 c0_i32_27
  let v32 : BitVec 32 := Scalar.extui v31
  let v33 : BitVec 32 := Scalar.subi v30 v32
  let c2_i32 : BitVec 32 := 2#32
  let c0_i32_28 : BitVec 32 := 0#32
  let v34 : BitVec 1 := Scalar.cmpi .sgt c2_i32 c0_i32_28
  let v35 : BitVec 32 := Scalar.extui v34
  let c0_i32_29 : BitVec 32 := 0#32
  let v36 : BitVec 1 := Scalar.cmpi .slt c2_i32 c0_i32_29
  let v37 : BitVec 32 := Scalar.extui v36
  let v38 : BitVec 32 := Scalar.subi v35 v37
  let v39 : BitVec 1 := Scalar.cmpi .ne v33 v38
  let v40 : BitVec 32 := Scalar.remsi arg2 c2_i32
  let c0_i32_30 : BitVec 32 := 0#32
  let v41 : BitVec 1 := Scalar.cmpi .ne v40 c0_i32_30
  let v42 : BitVec 1 := Scalar.andi v39 v41
  let v28 : BitVec 32 := Scalar.divsi arg2 c2_i32
  let c1_i32 : BitVec 32 := 1#32
  let v43 : BitVec 32 := Scalar.subi v28 c1_i32
  let v44 : BitVec 32 := Scalar.select v42 v43 v28
  let v45 : BitVec 32 := Scalar.subi v44 c0_i32_31
  let c1_i32_32 : BitVec 32 := 1#32
  let v47 : BitVec 32 := Scalar.divsi v45 c1_i32_32
  let v48 : BitVec 32 := Scalar.muli v47 c1_i32_32
  let v49 : BitVec 32 := Scalar.addi c0_i32_31 v48
  let v46 : BitVec 32 := Scalar.addi c0_i32_31 v45
  let c1_i32_34 : BitVec 32 := 1#32
  ⟨v49, v46, c1_i32_34⟩
def k0_mult6 (i : grid0.Coords) (k0_t2 : Fin (k0_t2_loop i).trips) : BitVec 32 :=
  let c2_i32_48 : BitVec 32 := 2#32
  let c0_i32_31 : BitVec 32 := 0#32
  let arg2 : BitVec 32 := BitVec.ofNat 32 (i 2).val
  let c0_i32_26 : BitVec 32 := 0#32
  let v29 : BitVec 1 := Scalar.cmpi .sgt arg2 c0_i32_26
  let v30 : BitVec 32 := Scalar.extui v29
  let c0_i32_27 : BitVec 32 := 0#32
  let v31 : BitVec 1 := Scalar.cmpi .slt arg2 c0_i32_27
  let v32 : BitVec 32 := Scalar.extui v31
  let v33 : BitVec 32 := Scalar.subi v30 v32
  let c2_i32 : BitVec 32 := 2#32
  let c0_i32_28 : BitVec 32 := 0#32
  let v34 : BitVec 1 := Scalar.cmpi .sgt c2_i32 c0_i32_28
  let v35 : BitVec 32 := Scalar.extui v34
  let c0_i32_29 : BitVec 32 := 0#32
  let v36 : BitVec 1 := Scalar.cmpi .slt c2_i32 c0_i32_29
  let v37 : BitVec 32 := Scalar.extui v36
  let v38 : BitVec 32 := Scalar.subi v35 v37
  let v39 : BitVec 1 := Scalar.cmpi .ne v33 v38
  let v40 : BitVec 32 := Scalar.remsi arg2 c2_i32
  let c0_i32_30 : BitVec 32 := 0#32
  let v41 : BitVec 1 := Scalar.cmpi .ne v40 c0_i32_30
  let v42 : BitVec 1 := Scalar.andi v39 v41
  let v28 : BitVec 32 := Scalar.divsi arg2 c2_i32
  let c1_i32 : BitVec 32 := 1#32
  let v43 : BitVec 32 := Scalar.subi v28 c1_i32
  let v44 : BitVec 32 := Scalar.select v42 v43 v28
  let v45 : BitVec 32 := Scalar.subi v44 c0_i32_31
  let c1_i32_32 : BitVec 32 := 1#32
  let v47 : BitVec 32 := Scalar.divsi v45 c1_i32_32
  let v48 : BitVec 32 := Scalar.muli v47 c1_i32_32
  let v49 : BitVec 32 := Scalar.addi c0_i32_31 v48
  let c1_i32_34 : BitVec 32 := 1#32
  let arg9 : BitVec 32 := Scf.iv v49 c1_i32_34 k0_t2
  let v79 : BitVec 32 := Scalar.muli c2_i32_48 arg9
  let c1_i32_49 : BitVec 32 := 1#32
  let v80 : BitVec 32 := Scalar.addi v79 c1_i32_49
  let c512_i32 : BitVec 32 := 512#32
  let v81 : BitVec 32 := Scalar.muli v80 c512_i32
  v81
def k0_off5 (i : grid0.Coords) (k0_t2 : Fin (k0_t2_loop i).trips) (c1_i32_49 : BitVec 32) : Fin 4 → Nat :=
  let c0_54 : Index := 0#32
  let c0_55 : Index := 0#32
  let c2_i32_48 : BitVec 32 := 2#32
  let c0_i32_31 : BitVec 32 := 0#32
  let arg2 : BitVec 32 := BitVec.ofNat 32 (i 2).val
  let c0_i32_26 : BitVec 32 := 0#32
  let v29 : BitVec 1 := Scalar.cmpi .sgt arg2 c0_i32_26
  let v30 : BitVec 32 := Scalar.extui v29
  let c0_i32_27 : BitVec 32 := 0#32
  let v31 : BitVec 1 := Scalar.cmpi .slt arg2 c0_i32_27
  let v32 : BitVec 32 := Scalar.extui v31
  let v33 : BitVec 32 := Scalar.subi v30 v32
  let c2_i32 : BitVec 32 := 2#32
  let c0_i32_28 : BitVec 32 := 0#32
  let v34 : BitVec 1 := Scalar.cmpi .sgt c2_i32 c0_i32_28
  let v35 : BitVec 32 := Scalar.extui v34
  let c0_i32_29 : BitVec 32 := 0#32
  let v36 : BitVec 1 := Scalar.cmpi .slt c2_i32 c0_i32_29
  let v37 : BitVec 32 := Scalar.extui v36
  let v38 : BitVec 32 := Scalar.subi v35 v37
  let v39 : BitVec 1 := Scalar.cmpi .ne v33 v38
  let v40 : BitVec 32 := Scalar.remsi arg2 c2_i32
  let c0_i32_30 : BitVec 32 := 0#32
  let v41 : BitVec 1 := Scalar.cmpi .ne v40 c0_i32_30
  let v42 : BitVec 1 := Scalar.andi v39 v41
  let v28 : BitVec 32 := Scalar.divsi arg2 c2_i32
  let c1_i32 : BitVec 32 := 1#32
  let v43 : BitVec 32 := Scalar.subi v28 c1_i32
  let v44 : BitVec 32 := Scalar.select v42 v43 v28
  let v45 : BitVec 32 := Scalar.subi v44 c0_i32_31
  let c1_i32_32 : BitVec 32 := 1#32
  let v47 : BitVec 32 := Scalar.divsi v45 c1_i32_32
  let v48 : BitVec 32 := Scalar.muli v47 c1_i32_32
  let v49 : BitVec 32 := Scalar.addi c0_i32_31 v48
  let c1_i32_34 : BitVec 32 := 1#32
  let arg9 : BitVec 32 := Scf.iv v49 c1_i32_34 k0_t2
  let v79 : BitVec 32 := Scalar.muli c2_i32_48 arg9
  let v80 : BitVec 32 := Scalar.addi v79 c1_i32_49
  let c512_i32 : BitVec 32 := 512#32
  let v81 : BitVec 32 := Scalar.muli v80 c512_i32
  let v82 : BitVec 32 := v81
  let v85 : Index := Scalar.indexCast v82
  let c0_56 : Index := 0#32
  ![0, 0, v85.toNat, 0]
def k0_off6 (i : grid0.Coords) (k0_t2 : Fin (k0_t2_loop i).trips) (c1_i32_49 : BitVec 32) : Fin 4 → Nat :=
  let c0_66 : Index := 0#32
  let c1_67 : Index := 1#32
  let c2_i32_48 : BitVec 32 := 2#32
  let c0_i32_31 : BitVec 32 := 0#32
  let arg2 : BitVec 32 := BitVec.ofNat 32 (i 2).val
  let c0_i32_26 : BitVec 32 := 0#32
  let v29 : BitVec 1 := Scalar.cmpi .sgt arg2 c0_i32_26
  let v30 : BitVec 32 := Scalar.extui v29
  let c0_i32_27 : BitVec 32 := 0#32
  let v31 : BitVec 1 := Scalar.cmpi .slt arg2 c0_i32_27
  let v32 : BitVec 32 := Scalar.extui v31
  let v33 : BitVec 32 := Scalar.subi v30 v32
  let c2_i32 : BitVec 32 := 2#32
  let c0_i32_28 : BitVec 32 := 0#32
  let v34 : BitVec 1 := Scalar.cmpi .sgt c2_i32 c0_i32_28
  let v35 : BitVec 32 := Scalar.extui v34
  let c0_i32_29 : BitVec 32 := 0#32
  let v36 : BitVec 1 := Scalar.cmpi .slt c2_i32 c0_i32_29
  let v37 : BitVec 32 := Scalar.extui v36
  let v38 : BitVec 32 := Scalar.subi v35 v37
  let v39 : BitVec 1 := Scalar.cmpi .ne v33 v38
  let v40 : BitVec 32 := Scalar.remsi arg2 c2_i32
  let c0_i32_30 : BitVec 32 := 0#32
  let v41 : BitVec 1 := Scalar.cmpi .ne v40 c0_i32_30
  let v42 : BitVec 1 := Scalar.andi v39 v41
  let v28 : BitVec 32 := Scalar.divsi arg2 c2_i32
  let c1_i32 : BitVec 32 := 1#32
  let v43 : BitVec 32 := Scalar.subi v28 c1_i32
  let v44 : BitVec 32 := Scalar.select v42 v43 v28
  let v45 : BitVec 32 := Scalar.subi v44 c0_i32_31
  let c1_i32_32 : BitVec 32 := 1#32
  let v47 : BitVec 32 := Scalar.divsi v45 c1_i32_32
  let v48 : BitVec 32 := Scalar.muli v47 c1_i32_32
  let v49 : BitVec 32 := Scalar.addi c0_i32_31 v48
  let c1_i32_34 : BitVec 32 := 1#32
  let arg9 : BitVec 32 := Scf.iv v49 c1_i32_34 k0_t2
  let v79 : BitVec 32 := Scalar.muli c2_i32_48 arg9
  let v80 : BitVec 32 := Scalar.addi v79 c1_i32_49
  let c512_i32 : BitVec 32 := 512#32
  let v81 : BitVec 32 := Scalar.muli v80 c512_i32
  let v82 : BitVec 32 := v81
  let v94 : Index := Scalar.indexCast v82
  let c0_68 : Index := 0#32
  ![0, 1, v94.toNat, 0]
def k0_mult7 (i : grid0.Coords) (k0_t2 : Fin (k0_t2_loop i).trips) : BitVec 32 :=
  let c2_i32_74 : BitVec 32 := 2#32
  let c0_i32_31 : BitVec 32 := 0#32
  let arg2 : BitVec 32 := BitVec.ofNat 32 (i 2).val
  let c0_i32_26 : BitVec 32 := 0#32
  let v29 : BitVec 1 := Scalar.cmpi .sgt arg2 c0_i32_26
  let v30 : BitVec 32 := Scalar.extui v29
  let c0_i32_27 : BitVec 32 := 0#32
  let v31 : BitVec 1 := Scalar.cmpi .slt arg2 c0_i32_27
  let v32 : BitVec 32 := Scalar.extui v31
  let v33 : BitVec 32 := Scalar.subi v30 v32
  let c2_i32 : BitVec 32 := 2#32
  let c0_i32_28 : BitVec 32 := 0#32
  let v34 : BitVec 1 := Scalar.cmpi .sgt c2_i32 c0_i32_28
  let v35 : BitVec 32 := Scalar.extui v34
  let c0_i32_29 : BitVec 32 := 0#32
  let v36 : BitVec 1 := Scalar.cmpi .slt c2_i32 c0_i32_29
  let v37 : BitVec 32 := Scalar.extui v36
  let v38 : BitVec 32 := Scalar.subi v35 v37
  let v39 : BitVec 1 := Scalar.cmpi .ne v33 v38
  let v40 : BitVec 32 := Scalar.remsi arg2 c2_i32
  let c0_i32_30 : BitVec 32 := 0#32
  let v41 : BitVec 1 := Scalar.cmpi .ne v40 c0_i32_30
  let v42 : BitVec 1 := Scalar.andi v39 v41
  let v28 : BitVec 32 := Scalar.divsi arg2 c2_i32
  let c1_i32 : BitVec 32 := 1#32
  let v43 : BitVec 32 := Scalar.subi v28 c1_i32
  let v44 : BitVec 32 := Scalar.select v42 v43 v28
  let v45 : BitVec 32 := Scalar.subi v44 c0_i32_31
  let c1_i32_32 : BitVec 32 := 1#32
  let v47 : BitVec 32 := Scalar.divsi v45 c1_i32_32
  let v48 : BitVec 32 := Scalar.muli v47 c1_i32_32
  let v49 : BitVec 32 := Scalar.addi c0_i32_31 v48
  let c1_i32_34 : BitVec 32 := 1#32
  let arg9 : BitVec 32 := Scf.iv v49 c1_i32_34 k0_t2
  let v101 : BitVec 32 := Scalar.muli c2_i32_74 arg9
  let c512_i32_75 : BitVec 32 := 512#32
  let v102 : BitVec 32 := Scalar.muli v101 c512_i32_75
  v102
def k0_off7 (i : grid0.Coords) (k0_t2 : Fin (k0_t2_loop i).trips) : Fin 4 → Nat :=
  let c0_76 : Index := 0#32
  let c0_77 : Index := 0#32
  let c2_i32_74 : BitVec 32 := 2#32
  let c0_i32_31 : BitVec 32 := 0#32
  let arg2 : BitVec 32 := BitVec.ofNat 32 (i 2).val
  let c0_i32_26 : BitVec 32 := 0#32
  let v29 : BitVec 1 := Scalar.cmpi .sgt arg2 c0_i32_26
  let v30 : BitVec 32 := Scalar.extui v29
  let c0_i32_27 : BitVec 32 := 0#32
  let v31 : BitVec 1 := Scalar.cmpi .slt arg2 c0_i32_27
  let v32 : BitVec 32 := Scalar.extui v31
  let v33 : BitVec 32 := Scalar.subi v30 v32
  let c2_i32 : BitVec 32 := 2#32
  let c0_i32_28 : BitVec 32 := 0#32
  let v34 : BitVec 1 := Scalar.cmpi .sgt c2_i32 c0_i32_28
  let v35 : BitVec 32 := Scalar.extui v34
  let c0_i32_29 : BitVec 32 := 0#32
  let v36 : BitVec 1 := Scalar.cmpi .slt c2_i32 c0_i32_29
  let v37 : BitVec 32 := Scalar.extui v36
  let v38 : BitVec 32 := Scalar.subi v35 v37
  let v39 : BitVec 1 := Scalar.cmpi .ne v33 v38
  let v40 : BitVec 32 := Scalar.remsi arg2 c2_i32
  let c0_i32_30 : BitVec 32 := 0#32
  let v41 : BitVec 1 := Scalar.cmpi .ne v40 c0_i32_30
  let v42 : BitVec 1 := Scalar.andi v39 v41
  let v28 : BitVec 32 := Scalar.divsi arg2 c2_i32
  let c1_i32 : BitVec 32 := 1#32
  let v43 : BitVec 32 := Scalar.subi v28 c1_i32
  let v44 : BitVec 32 := Scalar.select v42 v43 v28
  let v45 : BitVec 32 := Scalar.subi v44 c0_i32_31
  let c1_i32_32 : BitVec 32 := 1#32
  let v47 : BitVec 32 := Scalar.divsi v45 c1_i32_32
  let v48 : BitVec 32 := Scalar.muli v47 c1_i32_32
  let v49 : BitVec 32 := Scalar.addi c0_i32_31 v48
  let c1_i32_34 : BitVec 32 := 1#32
  let arg9 : BitVec 32 := Scf.iv v49 c1_i32_34 k0_t2
  let v101 : BitVec 32 := Scalar.muli c2_i32_74 arg9
  let c512_i32_75 : BitVec 32 := 512#32
  let v102 : BitVec 32 := Scalar.muli v101 c512_i32_75
  let v103 : BitVec 32 := v102
  let v104 : Index := Scalar.indexCast v103
  let c0_78 : Index := 0#32
  ![0, 0, v104.toNat, 0]
def k0_mult8 (i : grid0.Coords) (k0_t2 : Fin (k0_t2_loop i).trips) : BitVec 32 :=
  let c2_i32_98 : BitVec 32 := 2#32
  let c0_i32_31 : BitVec 32 := 0#32
  let arg2 : BitVec 32 := BitVec.ofNat 32 (i 2).val
  let c0_i32_26 : BitVec 32 := 0#32
  let v29 : BitVec 1 := Scalar.cmpi .sgt arg2 c0_i32_26
  let v30 : BitVec 32 := Scalar.extui v29
  let c0_i32_27 : BitVec 32 := 0#32
  let v31 : BitVec 1 := Scalar.cmpi .slt arg2 c0_i32_27
  let v32 : BitVec 32 := Scalar.extui v31
  let v33 : BitVec 32 := Scalar.subi v30 v32
  let c2_i32 : BitVec 32 := 2#32
  let c0_i32_28 : BitVec 32 := 0#32
  let v34 : BitVec 1 := Scalar.cmpi .sgt c2_i32 c0_i32_28
  let v35 : BitVec 32 := Scalar.extui v34
  let c0_i32_29 : BitVec 32 := 0#32
  let v36 : BitVec 1 := Scalar.cmpi .slt c2_i32 c0_i32_29
  let v37 : BitVec 32 := Scalar.extui v36
  let v38 : BitVec 32 := Scalar.subi v35 v37
  let v39 : BitVec 1 := Scalar.cmpi .ne v33 v38
  let v40 : BitVec 32 := Scalar.remsi arg2 c2_i32
  let c0_i32_30 : BitVec 32 := 0#32
  let v41 : BitVec 1 := Scalar.cmpi .ne v40 c0_i32_30
  let v42 : BitVec 1 := Scalar.andi v39 v41
  let v28 : BitVec 32 := Scalar.divsi arg2 c2_i32
  let c1_i32 : BitVec 32 := 1#32
  let v43 : BitVec 32 := Scalar.subi v28 c1_i32
  let v44 : BitVec 32 := Scalar.select v42 v43 v28
  let v45 : BitVec 32 := Scalar.subi v44 c0_i32_31
  let c1_i32_32 : BitVec 32 := 1#32
  let v47 : BitVec 32 := Scalar.divsi v45 c1_i32_32
  let v48 : BitVec 32 := Scalar.muli v47 c1_i32_32
  let v49 : BitVec 32 := Scalar.addi c0_i32_31 v48
  let c1_i32_34 : BitVec 32 := 1#32
  let arg9 : BitVec 32 := Scf.iv v49 c1_i32_34 k0_t2
  let v160 : BitVec 32 := Scalar.muli c2_i32_98 arg9
  let c2_i32_99 : BitVec 32 := 2#32
  let v161 : BitVec 32 := Scalar.addi v160 c2_i32_99
  let c512_i32_100 : BitVec 32 := 512#32
  let v162 : BitVec 32 := Scalar.muli v161 c512_i32_100
  v162
def k0_mult9 (i : grid0.Coords) (k0_t2 : Fin (k0_t2_loop i).trips) : BitVec 32 :=
  let c2_i32_125 : BitVec 32 := 2#32
  let c0_i32_31 : BitVec 32 := 0#32
  let arg2 : BitVec 32 := BitVec.ofNat 32 (i 2).val
  let c0_i32_26 : BitVec 32 := 0#32
  let v29 : BitVec 1 := Scalar.cmpi .sgt arg2 c0_i32_26
  let v30 : BitVec 32 := Scalar.extui v29
  let c0_i32_27 : BitVec 32 := 0#32
  let v31 : BitVec 1 := Scalar.cmpi .slt arg2 c0_i32_27
  let v32 : BitVec 32 := Scalar.extui v31
  let v33 : BitVec 32 := Scalar.subi v30 v32
  let c2_i32 : BitVec 32 := 2#32
  let c0_i32_28 : BitVec 32 := 0#32
  let v34 : BitVec 1 := Scalar.cmpi .sgt c2_i32 c0_i32_28
  let v35 : BitVec 32 := Scalar.extui v34
  let c0_i32_29 : BitVec 32 := 0#32
  let v36 : BitVec 1 := Scalar.cmpi .slt c2_i32 c0_i32_29
  let v37 : BitVec 32 := Scalar.extui v36
  let v38 : BitVec 32 := Scalar.subi v35 v37
  let v39 : BitVec 1 := Scalar.cmpi .ne v33 v38
  let v40 : BitVec 32 := Scalar.remsi arg2 c2_i32
  let c0_i32_30 : BitVec 32 := 0#32
  let v41 : BitVec 1 := Scalar.cmpi .ne v40 c0_i32_30
  let v42 : BitVec 1 := Scalar.andi v39 v41
  let v28 : BitVec 32 := Scalar.divsi arg2 c2_i32
  let c1_i32 : BitVec 32 := 1#32
  let v43 : BitVec 32 := Scalar.subi v28 c1_i32
  let v44 : BitVec 32 := Scalar.select v42 v43 v28
  let v45 : BitVec 32 := Scalar.subi v44 c0_i32_31
  let c1_i32_32 : BitVec 32 := 1#32
  let v47 : BitVec 32 := Scalar.divsi v45 c1_i32_32
  let v48 : BitVec 32 := Scalar.muli v47 c1_i32_32
  let v49 : BitVec 32 := Scalar.addi c0_i32_31 v48
  let c1_i32_34 : BitVec 32 := 1#32
  let arg9 : BitVec 32 := Scf.iv v49 c1_i32_34 k0_t2
  let v182 : BitVec 32 := Scalar.muli c2_i32_125 arg9
  let c1_i32_126 : BitVec 32 := 1#32
  let v183 : BitVec 32 := Scalar.addi v182 c1_i32_126
  let c512_i32_127 : BitVec 32 := 512#32
  let v184 : BitVec 32 := Scalar.muli v183 c512_i32_127
  v184
def k0_off8 (i : grid0.Coords) (k0_t2 : Fin (k0_t2_loop i).trips) : Fin 4 → Nat :=
  let c0_128 : Index := 0#32
  let c0_129 : Index := 0#32
  let c2_i32_125 : BitVec 32 := 2#32
  let c0_i32_31 : BitVec 32 := 0#32
  let arg2 : BitVec 32 := BitVec.ofNat 32 (i 2).val
  let c0_i32_26 : BitVec 32 := 0#32
  let v29 : BitVec 1 := Scalar.cmpi .sgt arg2 c0_i32_26
  let v30 : BitVec 32 := Scalar.extui v29
  let c0_i32_27 : BitVec 32 := 0#32
  let v31 : BitVec 1 := Scalar.cmpi .slt arg2 c0_i32_27
  let v32 : BitVec 32 := Scalar.extui v31
  let v33 : BitVec 32 := Scalar.subi v30 v32
  let c2_i32 : BitVec 32 := 2#32
  let c0_i32_28 : BitVec 32 := 0#32
  let v34 : BitVec 1 := Scalar.cmpi .sgt c2_i32 c0_i32_28
  let v35 : BitVec 32 := Scalar.extui v34
  let c0_i32_29 : BitVec 32 := 0#32
  let v36 : BitVec 1 := Scalar.cmpi .slt c2_i32 c0_i32_29
  let v37 : BitVec 32 := Scalar.extui v36
  let v38 : BitVec 32 := Scalar.subi v35 v37
  let v39 : BitVec 1 := Scalar.cmpi .ne v33 v38
  let v40 : BitVec 32 := Scalar.remsi arg2 c2_i32
  let c0_i32_30 : BitVec 32 := 0#32
  let v41 : BitVec 1 := Scalar.cmpi .ne v40 c0_i32_30
  let v42 : BitVec 1 := Scalar.andi v39 v41
  let v28 : BitVec 32 := Scalar.divsi arg2 c2_i32
  let c1_i32 : BitVec 32 := 1#32
  let v43 : BitVec 32 := Scalar.subi v28 c1_i32
  let v44 : BitVec 32 := Scalar.select v42 v43 v28
  let v45 : BitVec 32 := Scalar.subi v44 c0_i32_31
  let c1_i32_32 : BitVec 32 := 1#32
  let v47 : BitVec 32 := Scalar.divsi v45 c1_i32_32
  let v48 : BitVec 32 := Scalar.muli v47 c1_i32_32
  let v49 : BitVec 32 := Scalar.addi c0_i32_31 v48
  let c1_i32_34 : BitVec 32 := 1#32
  let arg9 : BitVec 32 := Scf.iv v49 c1_i32_34 k0_t2
  let v182 : BitVec 32 := Scalar.muli c2_i32_125 arg9
  let c1_i32_126 : BitVec 32 := 1#32
  let v183 : BitVec 32 := Scalar.addi v182 c1_i32_126
  let c512_i32_127 : BitVec 32 := 512#32
  let v184 : BitVec 32 := Scalar.muli v183 c512_i32_127
  let v185 : BitVec 32 := v184
  let v186 : Index := Scalar.indexCast v185
  let c0_130 : Index := 0#32
  ![0, 0, v186.toNat, 0]
def k0_cond1 (i : grid0.Coords) : BitVec 1 :=
  let arg2 : BitVec 32 := BitVec.ofNat 32 (i 2).val
  let c2_i32_35 : BitVec 32 := 2#32
  let c0_i32_36 : BitVec 32 := 0#32
  let v52 : BitVec 1 := Scalar.cmpi .eq c2_i32_35 c0_i32_36
  let c1_i32_37 : BitVec 32 := 1#32
  let v53 : BitVec 32 := Scalar.select v52 c1_i32_37 c2_i32_35
  let v54 : BitVec 32 := Scalar.remsi arg2 v53
  let c0_i32_39 : BitVec 32 := 0#32
  let v56 : BitVec 1 := Scalar.cmpi .slt v54 c0_i32_39
  let c0_i32_40 : BitVec 32 := 0#32
  let v57 : BitVec 1 := Scalar.cmpi .slt v53 c0_i32_40
  let v58 : BitVec 1 := Scalar.xori v56 v57
  let c0_i32_38 : BitVec 32 := 0#32
  let v55 : BitVec 1 := Scalar.cmpi .ne v54 c0_i32_38
  let v59 : BitVec 1 := Scalar.andi v58 v55
  let v60 : BitVec 32 := Scalar.addi v54 v53
  let v61 : BitVec 32 := Scalar.select v59 v60 v54
  let c0_i32_41 : BitVec 32 := 0#32
  let v62 : BitVec 1 := Scalar.cmpi .eq v61 c0_i32_41
  let v63 : BitVec 32 := Scalar.extui v62
  let c0_i32_42 : BitVec 32 := 0#32
  let v64 : BitVec 1 := Scalar.cmpi .ne v63 c0_i32_42
  v64

def k0_mult10 (i : grid0.Coords) : BitVec 32 :=
  let arg2 : BitVec 32 := BitVec.ofNat 32 (i 2).val
  let c512_i32 : BitVec 32 := 512#32
  let v79 : BitVec 32 := Scalar.muli arg2 c512_i32
  v79
def k0_off9 (i : grid0.Coords) : Fin 4 → Nat :=
  let c0_48 : Index := 0#32
  let c0_49 : Index := 0#32
  let arg2 : BitVec 32 := BitVec.ofNat 32 (i 2).val
  let c512_i32 : BitVec 32 := 512#32
  let v79 : BitVec 32 := Scalar.muli arg2 c512_i32
  let v80 : BitVec 32 := v79
  let v81 : Index := Scalar.indexCast v80
  let c0_50 : Index := 0#32
  ![0, 0, v81.toNat, 0]
def k0_mult11 (i : grid0.Coords) : BitVec 32 :=
  let arg2 : BitVec 32 := BitVec.ofNat 32 (i 2).val
  let c512_i32 : BitVec 32 := 512#32
  let v79 : BitVec 32 := Scalar.muli arg2 c512_i32
  v79
def k0_off10 (i : grid0.Coords) : Fin 4 → Nat :=
  let c0_52 : Index := 0#32
  let c0_53 : Index := 0#32
  let arg2 : BitVec 32 := BitVec.ofNat 32 (i 2).val
  let c512_i32 : BitVec 32 := 512#32
  let v79 : BitVec 32 := Scalar.muli arg2 c512_i32
  let v80 : BitVec 32 := v79
  let v83 : Index := Scalar.indexCast v80
  let c0_54 : Index := 0#32
  ![0, 0, v83.toNat, 0]
def k0_off11 (i : grid0.Coords) : Fin 4 → Nat :=
  let c0_64 : Index := 0#32
  let c1_65 : Index := 1#32
  let arg2 : BitVec 32 := BitVec.ofNat 32 (i 2).val
  let c512_i32 : BitVec 32 := 512#32
  let v79 : BitVec 32 := Scalar.muli arg2 c512_i32
  let v80 : BitVec 32 := v79
  let v92 : Index := Scalar.indexCast v80
  let c0_66 : Index := 0#32
  ![0, 1, v92.toNat, 0]
def k0_mult12 (i : grid0.Coords) : BitVec 32 :=
  let arg2 : BitVec 32 := BitVec.ofNat 32 (i 2).val
  let c1_i32_72 : BitVec 32 := 1#32
  let v99 : BitVec 32 := Scalar.subi arg2 c1_i32_72
  let c512_i32_73 : BitVec 32 := 512#32
  let v100 : BitVec 32 := Scalar.muli v99 c512_i32_73
  v100
def k0_off12 (i : grid0.Coords) : Fin 4 → Nat :=
  let c0_74 : Index := 0#32
  let c0_75 : Index := 0#32
  let arg2 : BitVec 32 := BitVec.ofNat 32 (i 2).val
  let c1_i32_72 : BitVec 32 := 1#32
  let v99 : BitVec 32 := Scalar.subi arg2 c1_i32_72
  let c512_i32_73 : BitVec 32 := 512#32
  let v100 : BitVec 32 := Scalar.muli v99 c512_i32_73
  let v101 : BitVec 32 := v100
  let v102 : Index := Scalar.indexCast v101
  let c0_76 : Index := 0#32
  ![0, 0, v102.toNat, 0]
def k0_mult13 (i : grid0.Coords) : BitVec 32 :=
  let arg2 : BitVec 32 := BitVec.ofNat 32 (i 2).val
  let c512_i32_96 : BitVec 32 := 512#32
  let v158 : BitVec 32 := Scalar.muli arg2 c512_i32_96
  v158
def k0_off13 (i : grid0.Coords) : Fin 4 → Nat :=
  let c0_97 : Index := 0#32
  let c0_98 : Index := 0#32
  let arg2 : BitVec 32 := BitVec.ofNat 32 (i 2).val
  let c512_i32_96 : BitVec 32 := 512#32
  let v158 : BitVec 32 := Scalar.muli arg2 c512_i32_96
  let v159 : BitVec 32 := v158
  let v160 : Index := Scalar.indexCast v159
  let c0_99 : Index := 0#32
  ![0, 0, v160.toNat, 0]
def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, arg1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x2x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2x4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x1x4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== ReferenceIdeal.lean ====
abbrev S8x8x4096x128 : Shape := ⟨4, ![8, 8, 4096, 128]⟩
abbrev S8x4x4096x128 : Shape := ⟨4, ![8, 4, 4096, 128]⟩
abbrev S4096 : Shape := ⟨1, ![4096]⟩
abbrev S8x4x4096x2x64 : Shape := ⟨5, ![8, 4, 4096, 2, 64]⟩
abbrev S8x4x2x4096x64 : Shape := ⟨5, ![8, 4, 2, 4096, 64]⟩
abbrev S8x8x4096x64 : Shape := ⟨4, ![8, 8, 4096, 64]⟩
abbrev S8x8x4096x4096 : Shape := ⟨4, ![8, 8, 4096, 4096]⟩
abbrev S1x4096 : Shape := ⟨2, ![1, 4096]⟩
abbrev S4096x1 : Shape := ⟨2, ![4096, 1]⟩
abbrev S4096x4096 : Shape := ⟨2, ![4096, 4096]⟩
abbrev S_ : Shape := ⟨0, ![]⟩
abbrev S8x8x4096 : Shape := ⟨3, ![8, 8, 4096]⟩
abbrev S8x8x4096x1 : Shape := ⟨4, ![8, 8, 4096, 1]⟩
abbrev S8x8x64x4096 : Shape := ⟨4, ![8, 8, 64, 4096]⟩
abbrev S8x4096x8x64 : Shape := ⟨4, ![8, 4096, 8, 64]⟩
abbrev S8x4096x512 : Shape := ⟨3, ![8, 4096, 512]⟩

abbrev nBuf : Space → Nat
  | .hbm => 39
  | .vmem => 0
  | .smem => 0
  | _ => 0

abbrev bufTy : (tb : Table) → Fin (tcTables nBuf tb) → BufTy
  | .hbm, ⟨0, _⟩ => ⟨S8x8x4096x128, .bf16⟩
  | .hbm, ⟨1, _⟩ => ⟨S8x8x4096x128, .bf16⟩
  | .hbm, ⟨2, _⟩ => ⟨S8x4x4096x128, .bf16⟩
  | .hbm, ⟨3, _⟩ => ⟨S4096, .i32⟩
  | .hbm, ⟨4, _⟩ => ⟨S8x8x4096x128, .f32⟩
  | .hbm, ⟨5, _⟩ => ⟨S8x8x4096x128, .f32⟩
  | .hbm, ⟨6, _⟩ => ⟨S8x4x4096x128, .f32⟩
  | .hbm, ⟨7, _⟩ => ⟨S8x4x4096x2x64, .f32⟩
  | .hbm, ⟨8, _⟩ => ⟨S8x4x2x4096x64, .f32⟩
  | .hbm, ⟨9, _⟩ => ⟨S8x8x4096x64, .f32⟩
  | .hbm, ⟨10, _⟩ => ⟨S8x8x4096x4096, .f32⟩
  | .hbm, ⟨11, _⟩ => ⟨S1x4096, .i32⟩
  | .hbm, ⟨12, _⟩ => ⟨S4096x1, .i32⟩
  | .hbm, ⟨13, _⟩ => ⟨S4096x4096, .i32⟩
  | .hbm, ⟨14, _⟩ => ⟨S4096x4096, .i32⟩
  | .hbm, ⟨15, _⟩ => ⟨S4096x4096, .i1⟩
  | .hbm, ⟨16, _⟩ => ⟨S_, .f32⟩
  | .hbm, ⟨17, _⟩ => ⟨S_, .f32⟩
  | .hbm, ⟨18, _⟩ => ⟨S8x8x4096x4096, .i1⟩
  | .hbm, ⟨19, _⟩ => ⟨S8x8x4096x4096, .f32⟩
  | .hbm, ⟨20, _⟩ => ⟨S8x8x4096x4096, .f32⟩
  | .hbm, ⟨21, _⟩ => ⟨S_, .f32⟩
  | .hbm, ⟨22, _⟩ => ⟨S8x8x4096, .f32⟩
  | .hbm, ⟨23, _⟩ => ⟨S_, .f32⟩
  | .hbm, ⟨24, _⟩ => ⟨S8x8x4096, .f32⟩
  | .hbm, ⟨25, _⟩ => ⟨S8x8x4096, .f32⟩
  | .hbm, ⟨26, _⟩ => ⟨S8x8x4096x1, .f32⟩
  | .hbm, ⟨27, _⟩ => ⟨S8x8x4096x4096, .f32⟩
  | .hbm, ⟨28, _⟩ => ⟨S8x8x4096x4096, .f32⟩
  | .hbm, ⟨29, _⟩ => ⟨S8x8x4096x4096, .f32⟩
  | .hbm, ⟨30, _⟩ => ⟨S_, .f32⟩
  | .hbm, ⟨31, _⟩ => ⟨S8x8x4096, .f32⟩
  | .hbm, ⟨32, _⟩ => ⟨S8x8x4096x1, .f32⟩
  | .hbm, ⟨33, _⟩ => ⟨S8x8x4096x4096, .f32⟩
  | .hbm, ⟨34, _⟩ => ⟨S8x8x4096x4096, .f32⟩
  | .hbm, ⟨35, _⟩ => ⟨S8x8x64x4096, .f32⟩
  | .hbm, ⟨36, _⟩ => ⟨S8x4096x8x64, .f32⟩
  | .hbm, ⟨37, _⟩ => ⟨S8x4096x512, .f32⟩
  | .hbm, ⟨38, _⟩ => ⟨S8x4096x512, .bf16⟩
  | _, _ => ⟨S8x8x4096x128, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_cst_1 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩

abbrev nD : Nat := 1
abbrev τ : Topo := Topo.v7x

variable {F : FTy → Type} [FloatOps F]
-- ==== Kernel2.lean ====
abbrev S32768x1024 : Shape := ⟨2, ![32768, 1024]⟩
abbrev S32768x512 : Shape := ⟨2, ![32768, 512]⟩
abbrev S32768x1536 : Shape := ⟨2, ![32768, 1536]⟩
abbrev S32768x3072 : Shape := ⟨2, ![32768, 3072]⟩
abbrev S3x512x1024 : Shape := ⟨3, ![3, 512, 1024]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x512 : Shape := ⟨2, ![512, 512]⟩
abbrev S512x1536 : Shape := ⟨2, ![512, 1536]⟩
abbrev S512x3072 : Shape := ⟨2, ![512, 3072]⟩
abbrev S1x512x1024 : Shape := ⟨3, ![1, 512, 1024]⟩
abbrev S512 : Shape := ⟨1, ![512]⟩
abbrev S512x1 : Shape := ⟨2, ![512, 1]⟩

abbrev nBuf : Space → Nat
  | .hbm => 13
  | .vmem => 17
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x1536, .bf16⟩
  | .hbm, ⟨5, _⟩ => ⟨S32768x3072, .bf16⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S3x512x1024, .bf16⟩
  | .hbm, ⟨10, _⟩ => ⟨S1024x1024, .bf16⟩
  | .hbm, ⟨11, _⟩ => ⟨S1x1024, .f32⟩
  | .hbm, ⟨12, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x1536, .bf16⟩
  | .local _ .vmem, ⟨9, _⟩ => ⟨S512x1536, .bf16⟩
  | .local _ .vmem, ⟨10, _⟩ => ⟨S512x3072, .bf16⟩
  | .local _ .vmem, ⟨11, _⟩ => ⟨S512x3072, .bf16⟩
  | .local _ .vmem, ⟨12, _⟩ => ⟨S3x512x1024, .bf16⟩
  | .local _ .vmem, ⟨13, _⟩ => ⟨S1024x1024, .bf16⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1536 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S3x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference2Ideal.lean ====
abbrev S32768x1024 : Shape := ⟨2, ![32768, 1024]⟩
abbrev S32768x512 : Shape := ⟨2, ![32768, 512]⟩
abbrev S32768x1536 : Shape := ⟨2, ![32768, 1536]⟩
abbrev S32768x3072 : Shape := ⟨2, ![32768, 3072]⟩
abbrev S3x512x1024 : Shape := ⟨3, ![3, 512, 1024]⟩
abbrev S1024x1024 : Shape := ⟨2, ![1024, 1024]⟩
abbrev S1024 : Shape := ⟨1, ![1024]⟩
abbrev S32768x1x512 : Shape := ⟨3, ![32768, 1, 512]⟩
abbrev S32768x3x512 : Shape := ⟨3, ![32768, 3, 512]⟩
abbrev S_ : Shape := ⟨0, ![]⟩
abbrev S3x1024x32768 : Shape := ⟨3, ![3, 1024, 32768]⟩
abbrev S32768x3x1024 : Shape := ⟨3, ![32768, 3, 1024]⟩
abbrev S32768 : Shape := ⟨1, ![32768]⟩
abbrev S32768x1 : Shape := ⟨2, ![32768, 1]⟩
abbrev S1x1024 : Shape := ⟨2, ![1, 1024]⟩

abbrev nBuf : Space → Nat
  | .hbm => 59
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x512, .bf16⟩
  | .hbm, ⟨2, _⟩ => ⟨S32768x512, .bf16⟩
  | .hbm, ⟨3, _⟩ => ⟨S32768x512, .bf16⟩
  | .hbm, ⟨4, _⟩ => ⟨S32768x1536, .bf16⟩
  | .hbm, ⟨5, _⟩ => ⟨S32768x3072, .bf16⟩
  | .hbm, ⟨6, _⟩ => ⟨S3x512x1024, .f32⟩
  | .hbm, ⟨7, _⟩ => ⟨S1024x1024, .f32⟩
  | .hbm, ⟨8, _⟩ => ⟨S1024, .f32⟩
  | .hbm, ⟨9, _⟩ => ⟨S32768x1x512, .bf16⟩
  | .hbm, ⟨10, _⟩ => ⟨S32768x1x512, .bf16⟩
  | .hbm, ⟨11, _⟩ => ⟨S32768x1x512, .bf16⟩
  | .hbm, ⟨12, _⟩ => ⟨S32768x3x512, .bf16⟩
  | .hbm, ⟨13, _⟩ => ⟨S32768x3x512, .f32⟩
  | .hbm, ⟨14, _⟩ => ⟨S32768x1536, .f32⟩
  | .hbm, ⟨15, _⟩ => ⟨S32768x1536, .f32⟩
  | .hbm, ⟨16, _⟩ => ⟨S32768x1536, .f32⟩
  | .hbm, ⟨17, _⟩ => ⟨S_, .f32⟩
  | .hbm, ⟨18, _⟩ => ⟨S32768x1536, .f32⟩
  | .hbm, ⟨19, _⟩ => ⟨S32768x1536, .f32⟩
  | .hbm, ⟨20, _⟩ => ⟨S_, .f32⟩
  | .hbm, ⟨21, _⟩ => ⟨S32768x1536, .f32⟩
  | .hbm, ⟨22, _⟩ => ⟨S32768x1536, .f32⟩
  | .hbm, ⟨23, _⟩ => ⟨S32768x1536, .f32⟩
  | .hbm, ⟨24, _⟩ => ⟨S32768x3x512, .f32⟩
  | .hbm, ⟨25, _⟩ => ⟨S32768x3x512, .f32⟩
  | .hbm, ⟨26, _⟩ => ⟨S3x1024x32768, .f32⟩
  | .hbm, ⟨27, _⟩ => ⟨S32768x3x1024, .f32⟩
  | .hbm, ⟨28, _⟩ => ⟨S32768x3072, .f32⟩
  | .hbm, ⟨29, _⟩ => ⟨S32768x3072, .f32⟩
  | .hbm, ⟨30, _⟩ => ⟨S32768x3072, .f32⟩
  | .hbm, ⟨31, _⟩ => ⟨S_, .f32⟩
  | .hbm, ⟨32, _⟩ => ⟨S32768x3072, .f32⟩
  | .hbm, ⟨33, _⟩ => ⟨S32768x3072, .f32⟩
  | .hbm, ⟨34, _⟩ => ⟨S_, .f32⟩
  | .hbm, ⟨35, _⟩ => ⟨S32768x3072, .f32⟩
  | .hbm, ⟨36, _⟩ => ⟨S32768x3072, .f32⟩
  | .hbm, ⟨37, _⟩ => ⟨S32768x3x1024, .f32⟩
  | .hbm, ⟨38, _⟩ => ⟨S32768x3x1024, .f32⟩
  | .hbm, ⟨39, _⟩ => ⟨S_, .f32⟩
  | .hbm, ⟨40, _⟩ => ⟨S32768x1024, .f32⟩
  | .hbm, ⟨41, _⟩ => ⟨S32768x1024, .f32⟩
  | .hbm, ⟨42, _⟩ => ⟨S32768x1024, .f32⟩
  | .hbm, ⟨43, _⟩ => ⟨S_, .f32⟩
  | .hbm, ⟨44, _⟩ => ⟨S32768, .f32⟩
  | .hbm, ⟨45, _⟩ => ⟨S32768x1, .f32⟩
  | .hbm, ⟨46, _⟩ => ⟨S_, .f32⟩
  | .hbm, ⟨47, _⟩ => ⟨S32768x1, .f32⟩
  | .hbm, ⟨48, _⟩ => ⟨S32768x1, .f32⟩
  | .hbm, ⟨49, _⟩ => ⟨S_, .f32⟩
  | .hbm, ⟨50, _⟩ => ⟨S32768x1, .f32⟩
  | .hbm, ⟨51, _⟩ => ⟨S32768x1, .f32⟩
  | .hbm, ⟨52, _⟩ => ⟨S32768x1, .f32⟩
  | .hbm, ⟨53, _⟩ => ⟨S32768x1024, .f32⟩
  | .hbm, ⟨54, _⟩ => ⟨S32768x1024, .f32⟩
  | .hbm, ⟨55, _⟩ => ⟨S1x1024, .f32⟩
  | .hbm, ⟨56, _⟩ => ⟨S32768x1024, .f32⟩
  | .hbm, ⟨57, _⟩ => ⟨S32768x1024, .f32⟩
  | .hbm, ⟨58, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_cst : Ref sig .tc := ⟨.hbm, 31, rfl⟩
abbrev main_v14 : Ref sig .tc := ⟨.hbm, 32, rfl⟩
abbrev main_v15 : Ref sig .tc := ⟨.hbm, 33, rfl⟩
abbrev main_cst_0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_1 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_cst_4 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩

abbrev nD : Nat := 1
abbrev τ : Topo := Topo.v7x

variable {F : FTy → Type} [FloatOps F]
-- ==== Kernel3.lean ====
abbrev S32768x1024 : Shape := ⟨2, ![32768, 1024]⟩
abbrev S8x4096 : Shape := ⟨2, ![8, 4096]⟩
abbrev S1024 : Shape := ⟨1, ![1024]⟩
abbrev S1024x7728 : Shape := ⟨2, ![1024, 7728]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S16 : Shape := ⟨1, ![16]⟩
abbrev S_ : Shape := ⟨0, ![]⟩
abbrev S1x128 : Shape := ⟨2, ![1, 128]⟩
abbrev S1x16 : Shape := ⟨2, ![1, 16]⟩
abbrev S2x16 : Shape := ⟨2, ![2, 16]⟩
abbrev S32 : Shape := ⟨1, ![32]⟩
abbrev S1 : Shape := ⟨1, ![1]⟩
abbrev S2 : Shape := ⟨1, ![2]⟩
abbrev S8x4096x1 : Shape := ⟨3, ![8, 4096, 1]⟩
abbrev S8x4096x128 : Shape := ⟨3, ![8, 4096, 128]⟩
abbrev S1x512x1 : Shape := ⟨3, ![1, 512, 1]⟩
abbrev S1x512x128 : Shape := ⟨3, ![1, 512, 128]⟩
abbrev S512x1 : Shape := ⟨2, ![512, 1]⟩
abbrev S512x128 : Shape := ⟨2, ![512, 128]⟩
abbrev S256x8x96 : Shape := ⟨3, ![256, 8, 96]⟩
abbrev S256x8x64 : Shape := ⟨3, ![256, 8, 64]⟩
abbrev S256x8x32 : Shape := ⟨3, ![256, 8, 32]⟩
abbrev S256x8x16 : Shape := ⟨3, ![256, 8, 16]⟩
abbrev S256x8x128 : Shape := ⟨3, ![256, 8, 128]⟩
abbrev S256x1024 : Shape := ⟨2, ![256, 1024]⟩
abbrev S128x8x128 : Shape := ⟨3, ![128, 8, 128]⟩
abbrev S128x8x64 : Shape := ⟨3, ![128, 8, 64]⟩
abbrev S128x512 : Shape := ⟨2, ![128, 512]⟩
abbrev S1x1024 : Shape := ⟨2, ![1, 1024]⟩
abbrev S1024x256 : Shape := ⟨2, ![1024, 256]⟩
abbrev S1024x128 : Shape := ⟨2, ![1024, 128]⟩
abbrev S1024x32 : Shape := ⟨2, ![1024, 32]⟩
abbrev S1024x1664 : Shape := ⟨2, ![1024, 1664]⟩
abbrev S1024x512 : Shape := ⟨2, ![1024, 512]⟩
abbrev S1024x16 : Shape := ⟨2, ![1024, 16]⟩
abbrev S1024x1536 : Shape := ⟨2, ![1024, 1536]⟩
abbrev S1024x3072 : Shape := ⟨2, ![1024, 3072]⟩
abbrev S1024x64 : Shape := ⟨2, ![1024, 64]⟩
abbrev S1024x112 : Shape := ⟨2, ![1024, 112]⟩
abbrev S1024x8064 : Shape := ⟨2, ![1024, 8064]⟩
abbrev S1x256 : Shape := ⟨2, ![1, 256]⟩
abbrev S8x8x4096x128 : Shape := ⟨4, ![8, 8, 4096, 128]⟩
abbrev S8x4x4096x128 : Shape := ⟨4, ![8, 4, 4096, 128]⟩
abbrev S32768x1664 : Shape := ⟨2, ![32768, 1664]⟩
abbrev S32768x1152 : Shape := ⟨2, ![32768, 1152]⟩
abbrev S32768x1536 : Shape := ⟨2, ![32768, 1536]⟩
abbrev S32768x3072 : Shape := ⟨2, ![32768, 3072]⟩
abbrev S512x1024 : Shape := ⟨2, ![512, 1024]⟩
abbrev S1x8x512x128 : Shape := ⟨4, ![1, 8, 512, 128]⟩
abbrev S1x4x512x128 : Shape := ⟨4, ![1, 4, 512, 128]⟩
abbrev S512x1664 : Shape := ⟨2, ![512, 1664]⟩
abbrev S512x1152 : Shape := ⟨2, ![512, 1152]⟩
abbrev S512x1536 : Shape := ⟨2, ![512, 1536]⟩
abbrev S512x3072 : Shape := ⟨2, ![512, 3072]⟩
abbrev S512 : Shape := ⟨1, ![512]⟩
abbrev S1024x640 : Shape := ⟨2, ![1024, 640]⟩
abbrev S512x640 : Shape := ⟨2, ![512, 640]⟩
abbrev S512x256 : Shape := ⟨2, ![512, 256]⟩
abbrev S512x512 : Shape := ⟨2, ![512, 512]⟩
abbrev S1x1x512x128 : Shape := ⟨4, ![1, 1, 512, 128]⟩
abbrev S1024x1152 : Shape := ⟨2, ![1024, 1152]⟩

abbrev nBuf : Space → Nat
  | .hbm => 104
  | .vmem => 35
  | .smem => 0
  | _ => 0

abbrev bufTy : (tb : Table) → Fin (tcTables nBuf tb) → BufTy
  | .hbm, ⟨0, _⟩ => ⟨S32768x1024, .f32⟩
  | .hbm, ⟨1, _⟩ => ⟨S8x4096, .i32⟩
  | .hbm, ⟨2, _⟩ => ⟨S1024, .f32⟩
  | .hbm, ⟨3, _⟩ => ⟨S1024x7728, .f32⟩
  | .hbm, ⟨4, _⟩ => ⟨S256, .f32⟩
  | .hbm, ⟨5, _⟩ => ⟨S128, .f32⟩
  | .hbm, ⟨6, _⟩ => ⟨S256x768, .f32⟩
  | .hbm, ⟨7, _⟩ => ⟨S128x1024, .f32⟩
  | .hbm, ⟨8, _⟩ => ⟨S16, .f32⟩
  | .hbm, ⟨9, _⟩ => ⟨S_, .f32⟩
  | .hbm, ⟨10, _⟩ => ⟨S16, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S_, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S_, .f32⟩
  | .hbm, ⟨25, _⟩ => ⟨S1x128, .f32⟩
  | .hbm, ⟨26, _⟩ => ⟨S1x16, .f32⟩
  | .hbm, ⟨27, _⟩ => ⟨S2x16, .f32⟩
  | .hbm, ⟨28, _⟩ => ⟨S32, .f32⟩
  | .hbm, ⟨29, _⟩ => ⟨S_, .i32⟩
  | .hbm, ⟨30, _⟩ => ⟨S1, .i32⟩
  | .hbm, ⟨31, _⟩ => ⟨S_, .i32⟩
  | .hbm, ⟨32, _⟩ => ⟨S1, .i32⟩
  | .hbm, ⟨33, _⟩ => ⟨S2, .i32⟩
  | .hbm, ⟨34, _⟩ => ⟨S1x128, .f32⟩
  | .hbm, ⟨35, _⟩ => ⟨S8x4096, .f32⟩
  | .hbm, ⟨36, _⟩ => ⟨S8x4096x1, .f32⟩
  | .hbm, ⟨37, _⟩ => ⟨S8x4096x128, .f32⟩
  | .hbm, ⟨38, _⟩ => ⟨S8x4096x128, .f32⟩
  | .hbm, ⟨39, _⟩ => ⟨S256x8x96, .f32⟩
  | .hbm, ⟨40, _⟩ => ⟨S256x8x64, .f32⟩
  | .hbm, ⟨41, _⟩ => ⟨S256x8x32, .f32⟩
  | .hbm, ⟨42, _⟩ => ⟨S256x8x16, .f32⟩
  | .hbm, ⟨43, _⟩ => ⟨S256x8x16, .f32⟩
  | .hbm, ⟨44, _⟩ => ⟨S256x8x16, .f32⟩
  | .hbm, ⟨45, _⟩ => ⟨S256x8x32, .f32⟩
  | .hbm, ⟨46, _⟩ => ⟨S_, .f32⟩
  | .hbm, ⟨47, _⟩ => ⟨S256x8x32, .f32⟩
  | .hbm, ⟨48, _⟩ => ⟨S256x8x128, .f32⟩
  | .hbm, ⟨49, _⟩ => ⟨S256x1024, .f32⟩
  | .hbm, ⟨50, _⟩ => ⟨S_, .f32⟩
  | .hbm, ⟨51, _⟩ => ⟨S256x8x64, .f32⟩
  | .hbm, ⟨52, _⟩ => ⟨S_, .f32⟩
  | .hbm, ⟨53, _⟩ => ⟨S256x8x32, .f32⟩
  | .hbm, ⟨54, _⟩ => ⟨S256x8x128, .f32⟩
  | .hbm, ⟨55, _⟩ => ⟨S256x1024, .f32⟩
  | .hbm, ⟨56, _⟩ => ⟨S128x8x128, .f32⟩
  | .hbm, ⟨57, _⟩ => ⟨S128x8x64, .f32⟩
  | .hbm, ⟨58, _⟩ => ⟨S_, .f32⟩
  | .hbm, ⟨59, _⟩ => ⟨S128x8x64, .f32⟩
  | .hbm, ⟨60, _⟩ => ⟨S128x8x128, .f32⟩
  | .hbm, ⟨61, _⟩ => ⟨S128x1024, .f32⟩
  | .hbm, ⟨62, _⟩ => ⟨S128x8x64, .f32⟩
  | .hbm, ⟨63, _⟩ => ⟨S128x512, .f32⟩
  | .hbm, ⟨64, _⟩ => ⟨S256x1024, .bf16⟩
  | .hbm, ⟨65, _⟩ => ⟨S256x1024, .bf16⟩
  | .hbm, ⟨66, _⟩ => ⟨S128x1024, .bf16⟩
  | .hbm, ⟨67, _⟩ => ⟨S128x512, .bf16⟩
  | .hbm, ⟨68, _⟩ => ⟨S1x1024, .f32⟩
  | .hbm, ⟨69, _⟩ => ⟨S1024x256, .f32⟩
  | .hbm, ⟨70, _⟩ => ⟨S1024x128, .f32⟩
  | .hbm, ⟨71, _⟩ => ⟨S1024x32, .f32⟩
  | .hbm, ⟨72, _⟩ => ⟨S1024x1664, .f32⟩
  | .hbm, ⟨73, _⟩ => ⟨S1024x256, .f32⟩
  | .hbm, ⟨74, _⟩ => ⟨S1024x256, .f32⟩
  | .hbm, ⟨75, _⟩ => ⟨S1024x512, .f32⟩
  | .hbm, ⟨76, _⟩ => ⟨S1024x16, .f32⟩
  | .hbm, ⟨77, _⟩ => ⟨S1024x1536, .f32⟩
  | .hbm, ⟨78, _⟩ => ⟨S1024x3072, .f32⟩
  | .hbm, ⟨79, _⟩ => ⟨S1024x16, .f32⟩
  | .hbm, ⟨80, _⟩ => ⟨S1024x16, .f32⟩
  | .hbm, ⟨81, _⟩ => ⟨S1024x16, .f32⟩
  | .hbm, ⟨82, _⟩ => ⟨S1024x32, .f32⟩
  | .hbm, ⟨83, _⟩ => ⟨S_, .f32⟩
  | .hbm, ⟨84, _⟩ => ⟨S1024x64, .f32⟩
  | .hbm, ⟨85, _⟩ => ⟨S_, .f32⟩
  | .hbm, ⟨86, _⟩ => ⟨S1024x32, .f32⟩
  | .hbm, ⟨87, _⟩ => ⟨S_, .f32⟩
  | .hbm, ⟨88, _⟩ => ⟨S1024x64, .f32⟩
  | .hbm, ⟨89, _⟩ => ⟨S_, .f32⟩
  | .hbm, ⟨90, _⟩ => ⟨S1024x32, .f32⟩
  | .hbm, ⟨91, _⟩ => ⟨S_, .f32⟩
  | .hbm, ⟨92, _⟩ => ⟨S1024x112, .f32⟩
  | .hbm, ⟨93, _⟩ => ⟨S1024x8064, .f32⟩
  | .hbm, ⟨94, _⟩ => ⟨S1024x8064, .bf16⟩
  | .hbm, ⟨95, _⟩ => ⟨S1x256, .f32⟩
  | .hbm, ⟨96, _⟩ => ⟨S1x128, .f32⟩
  | .hbm, ⟨97, _⟩ => ⟨S8x8x4096x128, .bf16⟩
  | .hbm, ⟨98, _⟩ => ⟨S8x8x4096x128, .bf16⟩
  | .hbm, ⟨99, _⟩ => ⟨S8x4x4096x128, .bf16⟩
  | .hbm, ⟨100, _⟩ => ⟨S32768x1664, .f32⟩
  | .hbm, ⟨101, _⟩ => ⟨S32768x1152, .f32⟩
  | .hbm, ⟨102, _⟩ => ⟨S32768x1536, .bf16⟩
  | .hbm, ⟨103, _⟩ => ⟨S32768x3072, .bf16⟩
  | .local _ .vmem, ⟨0, _⟩ => ⟨S1x512x1, .f32⟩
  | .local _ .vmem, ⟨1, _⟩ => ⟨S1x512x1, .f32⟩
  | .local _ .vmem, ⟨2, _⟩ => ⟨S1x128, .f32⟩
  | .local _ .vmem, ⟨3, _⟩ => ⟨S1x512x128, .f32⟩
  | .local _ .vmem, ⟨4, _⟩ => ⟨S1x512x128, .f32⟩
  | .local _ .vmem, ⟨5, _⟩ => ⟨S1x512x128, .f32⟩
  | .local _ .vmem, ⟨6, _⟩ => ⟨S1x512x128, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1024x8064, .bf16⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x128, .f32⟩
  | .local _ .vmem, ⟨15, _⟩ => ⟨S1x256, .f32⟩
  | .local _ .vmem, ⟨16, _⟩ => ⟨S1x128, .f32⟩
  | .local _ .vmem, ⟨17, _⟩ => ⟨S256x1024, .bf16⟩
  | .local _ .vmem, ⟨18, _⟩ => ⟨S256x1024, .bf16⟩
  | .local _ .vmem, ⟨19, _⟩ => ⟨S128x1024, .bf16⟩
  | .local _ .vmem, ⟨20, _⟩ => ⟨S128x512, .bf16⟩
  | .local _ .vmem, ⟨21, _⟩ => ⟨S1x8x512x128, .bf16⟩
  | .local _ .vmem, ⟨22, _⟩ => ⟨S1x8x512x128, .bf16⟩
  | .local _ .vmem, ⟨23, _⟩ => ⟨S1x8x512x128, .bf16⟩
  | .local _ .vmem, ⟨24, _⟩ => ⟨S1x8x512x128, .bf16⟩
  | .local _ .vmem, ⟨25, _⟩ => ⟨S1x4x512x128, .bf16⟩
  | .local _ .vmem, ⟨26, _⟩ => ⟨S1x4x512x128, .bf16⟩
  | .local _ .vmem, ⟨27, _⟩ => ⟨S512x1664, .f32⟩
  | .local _ .vmem, ⟨28, _⟩ => ⟨S512x1664, .f32⟩
  | .local _ .vmem, ⟨29, _⟩ => ⟨S512x1152, .f32⟩
  | .local _ .vmem, ⟨30, _⟩ => ⟨S512x1152, .f32⟩
  | .local _ .vmem, ⟨31, _⟩ => ⟨S512x1536, .bf16⟩
  | .local _ .vmem, ⟨32, _⟩ => ⟨S512x1536, .bf16⟩
  | .local _ .vmem, ⟨33, _⟩ => ⟨S512x3072, .bf16⟩
  | .local _ .vmem, ⟨34, _⟩ => ⟨S512x3072, .bf16⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_c_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21_0 : Ref sig .tc := ⟨.hbm, 37, rfl⟩
abbrev main_v21_1 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_6 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_cst_8 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_9 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_cst_11 : Ref sig .tc := ⟨.hbm, 85, rfl⟩
abbrev main_v63 : Ref sig .tc := ⟨.hbm, 86, rfl⟩
abbrev main_cst_12 : Ref sig .tc := ⟨.hbm, 87, rfl⟩
abbrev main_v64 : Ref sig .tc := ⟨.hbm, 88, rfl⟩
abbrev main_cst_13 : Ref sig .tc := ⟨.hbm, 89, rfl⟩
abbrev main_v65 : Ref sig .tc := ⟨.hbm, 90, rfl⟩
abbrev main_cst_14 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71_0 : Ref sig .tc := ⟨.hbm, 97, rfl⟩
abbrev main_v71_1 : Ref sig .tc := ⟨.hbm, 98, rfl⟩
abbrev main_v71_2 : Ref sig .tc := ⟨.hbm, 99, rfl⟩
abbrev main_v71_3 : Ref sig .tc := ⟨.hbm, 100, rfl⟩
abbrev main_v71_4 : Ref sig .tc := ⟨.hbm, 101, rfl⟩
abbrev main_v71_5 : Ref sig .tc := ⟨.hbm, 102, rfl⟩
abbrev main_v71_6 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg8_0 : Ref sig .tc := ⟨.vmem, 18, rfl⟩
abbrev cc1_stg9_0 : Ref sig .tc := ⟨.vmem, 19, rfl⟩
abbrev cc1_stg10_0 : Ref sig .tc := ⟨.vmem, 20, rfl⟩
abbrev cc1_stg11_0 : Ref sig .tc := ⟨.vmem, 21, rfl⟩
abbrev cc1_stg11_1 : Ref sig .tc := ⟨.vmem, 22, rfl⟩
abbrev cc1_stg12_0 : Ref sig .tc := ⟨.vmem, 23, rfl⟩
abbrev cc1_stg12_1 : Ref sig .tc := ⟨.vmem, 24, rfl⟩
abbrev cc1_stg13_0 : Ref sig .tc := ⟨.vmem, 25, rfl⟩
abbrev cc1_stg13_1 : Ref sig .tc := ⟨.vmem, 26, rfl⟩
abbrev cc1_stg14_0 : Ref sig .tc := ⟨.vmem, 27, rfl⟩
abbrev cc1_stg14_1 : Ref sig .tc := ⟨.vmem, 28, rfl⟩
abbrev cc1_stg15_0 : Ref sig .tc := ⟨.vmem, 29, rfl⟩
abbrev cc1_stg15_1 : Ref sig .tc := ⟨.vmem, 30, rfl⟩
abbrev cc1_stg16_0 : Ref sig .tc := ⟨.vmem, 31, rfl⟩
abbrev cc1_stg16_1 : Ref sig .tc := ⟨.vmem, 32, rfl⟩
abbrev cc1_stg17_0 : Ref sig .tc := ⟨.vmem, 33, rfl⟩
abbrev cc1_stg17_1 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14
abbrev cc1_sem5_0 : DmaSem sig := 15
abbrev cc1_sem6_0 : DmaSem sig := 16
abbrev cc1_sem7_0 : DmaSem sig := 17
abbrev cc1_sem8_0 : DmaSem sig := 18
abbrev cc1_sem9_0 : DmaSem sig := 19
abbrev cc1_sem10_0 : DmaSem sig := 20
abbrev cc1_sem11_0 : DmaSem sig := 21
abbrev cc1_sem11_1 : DmaSem sig := 22
abbrev cc1_sem12_0 : DmaSem sig := 23
abbrev cc1_sem12_1 : DmaSem sig := 24
abbrev cc1_sem13_0 : DmaSem sig := 25
abbrev cc1_sem13_1 : DmaSem sig := 26
abbrev cc1_sem14_0 : DmaSem sig := 27
abbrev cc1_sem14_1 : DmaSem sig := 28
abbrev cc1_sem15_0 : DmaSem sig := 29
abbrev cc1_sem15_1 : DmaSem sig := 30
abbrev cc1_sem16_0 : DmaSem sig := 31
abbrev cc1_sem16_1 : DmaSem sig := 32
abbrev cc1_sem17_0 : DmaSem sig := 33
abbrev cc1_sem17_1 : DmaSem sig := 34

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨1, ![64], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_4 (i : grid1.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc1_transform_12 (i : grid1.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc1_transform_13 (i : grid1.Coords) : Fin 4 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_16 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_17 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1024x8064 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S1x512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x512x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S256x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256x1024 .bf16 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128x1024 .bf16 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S128x512 .bf16 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 2 → Memref sig .tc .vmem S1x8x512x128 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S1x8x512x128 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 2 → Memref sig .tc .vmem S1x4x512x128 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S512x1664 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S512x1152 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev stage1_16 : Fin 2 → Memref sig .tc .vmem S512x1536 .bf16 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true]

abbrev stage1_17 : Fin 2 → Memref sig .tc .vmem S512x3072 .bf16 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true]
-- ==== Reference3Ideal.lean ====
abbrev S32768x1024 : Shape := ⟨2, ![32768, 1024]⟩
abbrev S8x4096 : Shape := ⟨2, ![8, 4096]⟩
abbrev S1024 : Shape := ⟨1, ![1024]⟩
abbrev S1024x7728 : Shape := ⟨2, ![1024, 7728]⟩
abbrev S256 : Shape := ⟨1, ![256]⟩
abbrev S128 : Shape := ⟨1, ![128]⟩
abbrev S256x768 : Shape := ⟨2, ![256, 768]⟩
abbrev S128x1024 : Shape := ⟨2, ![128, 1024]⟩
abbrev S16 : Shape := ⟨1, ![16]⟩
abbrev S_ : Shape := ⟨0, ![]⟩
abbrev S8x4096x1 : Shape := ⟨3, ![8, 4096, 1]⟩
abbrev S1x1x16 : Shape := ⟨3, ![1, 1, 16]⟩
abbrev S8x4096x16 : Shape := ⟨3, ![8, 4096, 16]⟩
abbrev S32768 : Shape := ⟨1, ![32768]⟩
abbrev S32768x1 : Shape := ⟨2, ![32768, 1]⟩
abbrev S1x1024 : Shape := ⟨2, ![1, 1024]⟩
abbrev S32768x7728 : Shape := ⟨2, ![32768, 7728]⟩
abbrev S32768x256 : Shape := ⟨2, ![32768, 256]⟩
abbrev S32768x128 : Shape := ⟨2, ![32768, 128]⟩
abbrev S32768x32 : Shape := ⟨2, ![32768, 32]⟩
abbrev S32768x1664 : Shape := ⟨2, ![32768, 1664]⟩
abbrev S32768x512 : Shape := ⟨2, ![32768, 512]⟩
abbrev S32768x16 : Shape := ⟨2, ![32768, 16]⟩
abbrev S32768x1536 : Shape := ⟨2, ![32768, 1536]⟩
abbrev S32768x3072 : Shape := ⟨2, ![32768, 3072]⟩
abbrev S1x256 : Shape := ⟨2, ![1, 256]⟩
abbrev S32768x768 : Shape := ⟨2, ![32768, 768]⟩
abbrev S8x4096x8x96 : Shape := ⟨4, ![8, 4096, 8, 96]⟩
abbrev S8x4096x8x32 : Shape := ⟨4, ![8, 4096, 8, 32]⟩
abbrev S8x4096x1x16 : Shape := ⟨4, ![8, 4096, 1, 16]⟩
abbrev S8x4096x8x16 : Shape := ⟨4, ![8, 4096, 8, 16]⟩
abbrev S1x128 : Shape := ⟨2, ![1, 128]⟩
abbrev S8x4096x8x128 : Shape := ⟨4, ![8, 4096, 8, 128]⟩
abbrev S8x4096x32 : Shape := ⟨3, ![8, 4096, 32]⟩
abbrev S8x4096x1x32 : Shape := ⟨4, ![8, 4096, 1, 32]⟩
abbrev S8x4096x8x64 : Shape := ⟨4, ![8, 4096, 8, 64]⟩
abbrev S8x4096x4x128 : Shape := ⟨4, ![8, 4096, 4, 128]⟩
abbrev S32768x112 : Shape := ⟨2, ![32768, 112]⟩
abbrev S32768x1152 : Shape := ⟨2, ![32768, 1152]⟩
abbrev S8x8x4096x128 : Shape := ⟨4, ![8, 8, 4096, 128]⟩
abbrev S8x4x4096x128 : Shape := ⟨4, ![8, 4, 4096, 128]⟩

abbrev nBuf : Space → Nat
  | .hbm => 145
  | .vmem => 0
  | .smem => 0
  | _ => 0

abbrev hbmTy0_0 (i : Nat) : BufTy := match i % 128 with
  | 0 => ⟨S32768x1024, .f32⟩
  | 1 => ⟨S8x4096, .i32⟩
  | 2 => ⟨S1024, .f32⟩
  | 3 => ⟨S1024x7728, .f32⟩
  | 4 => ⟨S256, .f32⟩
  | 5 => ⟨S128, .f32⟩
  | 6 => ⟨S256x768, .f32⟩
  | 7 => ⟨S128x1024, .f32⟩
  | 8 => ⟨S16, .f32⟩
  | 9 => ⟨S_, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S8x4096, .f32⟩
  | 25 => ⟨S8x4096x1, .f32⟩
  | 26 => ⟨S1x1x16, .f32⟩
  | 27 => ⟨S8x4096x16, .f32⟩
  | 28 => ⟨S8x4096x16, .f32⟩
  | 29 => ⟨S8x4096x16, .f32⟩
  | 30 => ⟨S8x4096x16, .f32⟩
  | 31 => ⟨S8x4096x16, .f32⟩
  | 32 => ⟨S32768x1024, .f32⟩
  | 33 => ⟨S_, .f32⟩
  | 34 => ⟨S32768, .f32⟩
  | 35 => ⟨S32768x1, .f32⟩
  | 36 => ⟨S_, .f32⟩
  | 37 => ⟨S32768x1, .f32⟩
  | 38 => ⟨S32768x1, .f32⟩
  | 39 => ⟨S_, .f32⟩
  | 40 => ⟨S32768x1, .f32⟩
  | 41 => ⟨S32768x1, .f32⟩
  | 42 => ⟨S32768x1, .f32⟩
  | 43 => ⟨S32768x1024, .f32⟩
  | 44 => ⟨S32768x1024, .f32⟩
  | 45 => ⟨S1x1024, .f32⟩
  | 46 => ⟨S32768x1024, .f32⟩
  | 47 => ⟨S32768x1024, .f32⟩
  | 48 => ⟨S32768x7728, .f32⟩
  | 49 => ⟨S32768x256, .f32⟩
  | 50 => ⟨S32768x128, .f32⟩
  | 51 => ⟨S32768x32, .f32⟩
  | 52 => ⟨S32768x1664, .f32⟩
  | 53 => ⟨S32768x256, .f32⟩
  | 54 => ⟨S32768x256, .f32⟩
  | 55 => ⟨S32768x512, .f32⟩
  | 56 => ⟨S32768x16, .f32⟩
  | 57 => ⟨S32768x1536, .f32⟩
  | 58 => ⟨S32768x3072, .f32⟩
  | 59 => ⟨S32768x256, .f32⟩
  | 60 => ⟨S_, .f32⟩
  | 61 => ⟨S32768, .f32⟩
  | 62 => ⟨S32768x1, .f32⟩
  | 63 => ⟨S_, .f32⟩
  | 64 => ⟨S32768x1, .f32⟩
  | 65 => ⟨S32768x1, .f32⟩
  | 66 => ⟨S_, .f32⟩
  | 67 => ⟨S32768x1, .f32⟩
  | 68 => ⟨S32768x1, .f32⟩
  | 69 => ⟨S32768x1, .f32⟩
  | 70 => ⟨S32768x256, .f32⟩
  | 71 => ⟨S32768x256, .f32⟩
  | 72 => ⟨S1x256, .f32⟩
  | 73 => ⟨S32768x256, .f32⟩
  | 74 => ⟨S32768x256, .f32⟩
  | 75 => ⟨S32768x768, .f32⟩
  | 76 => ⟨S8x4096x8x96, .f32⟩
  | 77 => ⟨S8x4096x8x32, .f32⟩
  | 78 => ⟨S8x4096x1x16, .f32⟩
  | 79 => ⟨S8x4096x1x16, .f32⟩
  | 80 => ⟨S8x4096x8x16, .f32⟩
  | 81 => ⟨S8x4096x8x16, .f32⟩
  | 82 => ⟨S8x4096x8x16, .f32⟩
  | 83 => ⟨S8x4096x8x16, .f32⟩
  | 84 => ⟨S8x4096x8x16, .f32⟩
  | 85 => ⟨S8x4096x8x16, .f32⟩
  | 86 => ⟨S8x4096x8x16, .f32⟩
  | 87 => ⟨S8x4096x8x16, .f32⟩
  | 88 => ⟨S8x4096x8x16, .f32⟩
  | 89 => ⟨S8x4096x8x16, .f32⟩
  | 90 => ⟨S8x4096x8x16, .f32⟩
  | 91 => ⟨S8x4096x8x16, .f32⟩
  | 92 => ⟨S8x4096x8x32, .f32⟩
  | 93 => ⟨S32768x128, .f32⟩
  | 94 => ⟨S_, .f32⟩
  | 95 => ⟨S32768, .f32⟩
  | 96 => ⟨S32768x1, .f32⟩
  | 97 => ⟨S_, .f32⟩
  | 98 => ⟨S32768x1, .f32⟩
  | 99 => ⟨S32768x1, .f32⟩
  | 100 => ⟨S_, .f32⟩
  | 101 => ⟨S32768x1, .f32⟩
  | 102 => ⟨S32768x1, .f32⟩
  | 103 => ⟨S32768x1, .f32⟩
  | 104 => ⟨S32768x128, .f32⟩
  | 105 => ⟨S32768x128, .f32⟩
  | 106 => ⟨S1x128, .f32⟩
  | 107 => ⟨S32768x128, .f32⟩
  | 108 => ⟨S32768x128, .f32⟩
  | 109 => ⟨S32768x1024, .f32⟩
  | 110 => ⟨S8x4096x8x128, .f32⟩
  | 111 => ⟨S8x4096x32, .f32⟩
  | 112 => ⟨S8x4096x16, .f32⟩
  | 113 => ⟨S8x4096x16, .f32⟩
  | 114 => ⟨S8x4096x16, .f32⟩
  | 115 => ⟨S8x4096x16, .f32⟩
  | 116 => ⟨S8x4096x16, .f32⟩
  | 117 => ⟨S8x4096x16, .f32⟩
  | 118 => ⟨S8x4096x16, .f32⟩
  | 119 => ⟨S8x4096x16, .f32⟩
  | 120 => ⟨S8x4096x32, .f32⟩
  | 121 => ⟨S8x4096x1x32, .f32⟩
  | 122 => ⟨S8x4096x8x32, .f32⟩
  | 123 => ⟨S_, .f32⟩
  | 124 => ⟨S8x4096x8x32, .f32⟩
  | 125 => ⟨S8x4096x8x64, .f32⟩
  | 126 => ⟨S8x4096x8x128, .f32⟩
  | 127 => ⟨S_, .f32⟩
  | _ => ⟨S32768x1024, .f32⟩

abbrev hbmTy0_1 (i : Nat) : BufTy := match i % 128 with
  | 0 => ⟨S8x4096x8x128, .f32⟩
  | 1 => ⟨S8x4096x8x128, .f32⟩
  | 2 => ⟨S8x4096x8x64, .f32⟩
  | 3 => ⟨S8x4096x8x128, .f32⟩
  | 4 => ⟨S8x4096x8x64, .f32⟩
  | 5 => ⟨S8x4096x4x128, .f32⟩
  | 6 => ⟨S_, .f32⟩
  | 7 => ⟨S32768x112, .f32⟩
  | 8 => ⟨S32768x1152, .f32⟩
  | 9 => ⟨S8x8x4096x128, .f32⟩
  | 10 => ⟨S8x8x4096x128, .bf16⟩
  | 11 => ⟨S8x8x4096x128, .f32⟩
  | 12 => ⟨S8x8x4096x128, .bf16⟩
  | 13 => ⟨S8x4x4096x128, .f32⟩
  | 14 => ⟨S8x4x4096x128, .bf16⟩
  | 15 => ⟨S32768x1536, .bf16⟩
  | 16 => ⟨S32768x3072, .bf16⟩
  | _ => ⟨S32768x1024, .f32⟩

abbrev hbmTy (i : Nat) : BufTy := match i / 128 with
  | 0 => hbmTy0_0 i
  | 1 => hbmTy0_1 i
  | _ => ⟨S32768x1024, .f32⟩

abbrev bufTy : (tb : Table) → Fin (tcTables nBuf tb) → BufTy
  | .hbm, ⟨i, _⟩ => hbmTy i
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_cst_2 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_cst_10 : Ref sig .tc := ⟨.hbm, 94, rfl⟩
abbrev main_v75 : Ref sig .tc := ⟨.hbm, 95, rfl⟩
abbrev main_v76 : Ref sig .tc := ⟨.hbm, 96, rfl⟩
abbrev main_cst_11 : Ref sig .tc := ⟨.hbm, 97, rfl⟩
abbrev main_v77 : Ref sig .tc := ⟨.hbm, 98, rfl⟩
abbrev main_v78 : Ref sig .tc := ⟨.hbm, 99, rfl⟩
abbrev main_cst_12 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_cst_13 : Ref sig .tc := ⟨.hbm, 123, rfl⟩
abbrev main_v101 : Ref sig .tc := ⟨.hbm, 124, rfl⟩
abbrev main_v102 : Ref sig .tc := ⟨.hbm, 125, rfl⟩
abbrev main_v103 : Ref sig .tc := ⟨.hbm, 126, rfl⟩
abbrev main_cst_14 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_cst_15 : Ref sig .tc := ⟨.hbm, 134, rfl⟩
abbrev main_v110 : Ref sig .tc := ⟨.hbm, 135, rfl⟩
abbrev main_v111 : Ref sig .tc := ⟨.hbm, 136, rfl⟩
abbrev main_v112 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩

abbrev nD : Nat := 1
abbrev τ : Topo := Topo.v7x

variable {F : FTy → Type} [FloatOps F]
-- ==== Proof.Step.lean ====
/-
  The attention kernel's arithmetic, for any values `F`: what one block of keys does to the running maxima, the running
  sums and the accumulator, and the state after `n` blocks. The kernel's own payloads are these terms (`rfl` below).
-/
module

public import proofs.«01_k».proof.Proof.Gen.KernelIdeal.Skeleton
public import Idealize.ShloMosaic.Lib.Pointwise
public import Idealize.ShloMosaic.Lib.Pipeline.FrameBody

@[expose] public section

set_option maxRecDepth 16384

noncomputable section

namespace Cert.Attn

open Cert.KernelIdeal Cert.KernelIdeal.Gen
open Idealize.ShloMosaic

variable {F : FTy → Type} [FloatOps F]

/-! ## The blocks -/

/-- Row `r` of block `n` of the 4096 keys. -/
def row (n : ℕ) (r : Fin 512) : Fin 4096 := ⟨(512 * n + r.val) % 4096, Nat.mod_lt _ (by decide)⟩

/-- Head `e`'s queries of the block. -/
def qblk (xq : Vec F S1x2x512x128 .bf16) (e : Fin 2) : Vec F S1x1x512x128 .bf16 :=
  fun y => xq (ix4 0 e (y 2) (y 3))

/-- Head `e`'s keys of block `n`. -/
def kblk (xk : Vec F S1x2x4096x128 .bf16) (e : Fin 2) (n : ℕ) : Vec F S1x1x512x128 .bf16 :=
  fun y => xk (ix4 0 e (row n (y 2)) (y 3))

/-- The values of block `n`, the two heads side by side. -/
def vblk (xv : Vec F S1x1x4096x128 .bf16) (n : ℕ) : Vec F S1x1x512x128 .bf16 :=
  fun y => xv (ix4 0 0 (row n (y 2)) (y 3))

/-! ## One block -/

/-- The scores of one head against one block of keys. -/
def scores (q k : Vec F S1x1x512x128 .bf16) : FVec F S1x1x512x512 .f32 :=
  shapeCast S1x1x512x512 (matmul dot_S512x128_S512x128_S512x512_1_1_0_0_n_n none
    (shapeCast S512x128 q shapeCasts_S1x1x512x128_S512x128) (shapeCast S512x128 k shapeCasts_S1x1x512x128_S512x128)
    (constant S512x512 .f32 0x00000000#32)) shapeCasts_S512x512_S1x1x512x512

/-- The scores as a matrix. -/
def mat (s : FVec F S1x1x512x512 .f32) : FVec F S512x512 .f32 := shapeCast S512x512 s shapeCasts_S1x1x512x512_S512x512

/-- The scores of the diagonal block: `-inf` right of the diagonal. -/
def masked (s : FVec F S512x512 .f32) : FVec F S512x512 .f32 :=
  select (cmpi .sle (iota .tc S512x512 32 [1] iota_S512x512_d1_w32) (iota .tc S512x512 32 [0] iota_S512x512_d0_w32)) s
    (broadcast S512x512 (Scalar.ofBits .f32 0xFF800000#32))

/-- The running maximum after a block. -/
def mNew (mx : FVec F S512x1 .f32) (s : FVec F S512x512 .f32) : FVec F S512x1 .f32 :=
  maximumf mx (shapeCast S512x1 (multiReduction .maximumf [1] S512 s 0xFF800000#32 reduces_S512x512_S512 (.inl rfl) rfl)
    shapeCasts_S512_S512x1)

/-- The block's weights. -/
def pNew (mx : FVec F S512x1 .f32) (s : FVec F S512x512 .f32) : FVec F S512x512 .f32 :=
  exp (subf s (broadcastTo S512x512 (mNew mx s) broadcasts_S512x1_S512x512))

/-- The factor the earlier blocks are rescaled by. -/
def aNew (mx : FVec F S512x1 .f32) (s : FVec F S512x512 .f32) : FVec F S512x1 .f32 := exp (subf mx (mNew mx s))

/-- The running sum after a block. -/
def lNew (mx l : FVec F S512x1 .f32) (s : FVec F S512x512 .f32) : FVec F S512x1 .f32 :=
  addf (mulf (aNew mx s) l) (shapeCast S512x1
    (multiReduction .add [1] S512 (pNew mx s) 0x00000000#32 reduces_S512x512_S512 (.inl rfl) rfl) shapeCasts_S512_S512x1)

/-- The lanes of the first head of the pair. -/
def first : IVec S1x128 1 := k0_pay114

/-- `a` on the first head's lanes, `b` on the second's. -/
def lanes {e : FTy} (a b : FVec F S512x128 e) : FVec F S512x128 e :=
  select (broadcastTo S512x128 (shapeCast S1x128 first shapeCasts_S1x128_S1x128) broadcasts_S1x128_S512x128) a b

/-- A column spread over the lanes. -/
def spread (a : FVec F S512x1 .f32) : FVec F S512x128 .f32 :=
  broadcastTo S512x128 (shapeCast S512x1 a shapeCasts_S512x1_S512x1) broadcasts_S512x1_S512x128

/-- The block's weighted values. -/
def pv (p : FVec F S512x512 .f32) (v : FVec F S512x128 .bf16) : FVec F S512x128 .f32 :=
  matmul dot_S512x512_S512x128_S512x128_1_0_0_1_n_n none (truncf .bf16 p bitsLt_bf16_f32) v (constant S512x128 .f32 0x00000000#32)

/-- The block of values as a matrix, and zeros. -/
def vmat (v : Vec F S1x1x512x128 .bf16) : FVec F S512x128 .bf16 := shapeCast S512x128 v shapeCasts_S1x1x512x128_S512x128
def zeros : FVec F S512x128 .bf16 := broadcast S512x128 (Scalar.ofBits .bf16 0x0000#16)

/-- The accumulator after a block. -/
def accNew (m0 m1 : FVec F S512x1 .f32) (s0 s1 : FVec F S512x512 .f32) (v : Vec F S1x1x512x128 .bf16)
    (acc : FVec F S512x128 .f32) : FVec F S512x128 .f32 :=
  shapeCast S512x128 (addf (mulf acc (lanes (spread (aNew m0 s0)) (spread (aNew m1 s1))))
    (addf (pv (pNew m0 s0) (lanes (vmat v) zeros)) (pv (pNew m1 s1) (lanes zeros (vmat v))))) shapeCasts_S512x128_S512x128

/-! ## The kernel's payloads are these terms -/

section
variable (q k v : Vec F S1x1x512x128 .bf16) (s t0 t1 : FVec F S1x1x512x512 .f32) (x s0 s1 : FVec F S512x512 .f32)
  (m l m0 m1 : FVec F S512x1 .f32) (acc : FVec F S512x128 .f32)

theorem pay12_eq : k0_pay12 q k = scores q k := rfl
theorem pay13_eq : k0_pay13 q k = scores q k := rfl
theorem pay29_eq : k0_pay29 q k = scores q k := rfl
theorem pay85_eq : k0_pay85 q k = scores q k := rfl
theorem pay86_eq : k0_pay86 q k = scores q k := rfl
theorem pay118_eq : k0_pay118 q k = scores q k := rfl
theorem pay31_eq : k0_pay31 (k0_pay30 q k) = scores q k := rfl
theorem pay120_eq : k0_pay120 (k0_pay119 q k) = scores q k := rfl
theorem pay14_eq : k0_pay14 v = vmat v := rfl
theorem pay32_eq : k0_pay32 v = vmat v := rfl
theorem pay74_eq : k0_pay74 v = vmat v := rfl
theorem pay87_eq : k0_pay87 v = vmat v := rfl
theorem pay105_eq : k0_pay105 v = vmat v := rfl
theorem pay15_eq : k0_pay15 (F := F) = zeros := rfl
theorem pay33_eq : k0_pay33 (F := F) = zeros := rfl
theorem pay75_eq : k0_pay75 (F := F) = zeros := rfl
theorem pay88_eq : k0_pay88 (F := F) = zeros := rfl
theorem pay106_eq : k0_pay106 (F := F) = zeros := rfl
theorem pay16_eq : k0_pay16 s = mat s := rfl
theorem pay22_eq : k0_pay22 s = mat s := rfl
theorem pay34_eq : k0_pay34 s = mat s := rfl
theorem pay40_eq : k0_pay40 s = mat s := rfl
theorem pay89_eq : k0_pay89 s = mat s := rfl
theorem pay95_eq : k0_pay95 s = mat s := rfl
theorem pay113_eq : k0_pay113 s = mat s := rfl
theorem pay76_eq : k0_pay76 s = masked (mat s) := rfl
theorem pay82_eq : k0_pay82 s = masked (mat s) := rfl
theorem pay107_eq : k0_pay107 s = masked (mat s) := rfl
theorem pay17_eq : k0_pay17 m s = mNew m (mat s) := rfl
theorem pay23_eq : k0_pay23 m s = mNew m (mat s) := rfl
theorem pay35_eq : k0_pay35 m s = mNew m (mat s) := rfl
theorem pay41_eq : k0_pay41 m s = mNew m (mat s) := rfl
theorem pay90_eq : k0_pay90 m s = mNew m (mat s) := rfl
theorem pay96_eq : k0_pay96 m s = mNew m (mat s) := rfl
theorem pay77_eq : k0_pay77 m s = mNew m (masked (mat s)) := rfl
theorem pay83_eq : k0_pay83 m s = mNew m (masked (mat s)) := rfl
theorem pay108_eq : k0_pay108 m s = mNew m (masked (mat s)) := rfl
theorem pay18_eq : k0_pay18 m s = pNew m (mat s) := rfl
theorem pay24_eq : k0_pay24 m s = pNew m (mat s) := rfl
theorem pay36_eq : k0_pay36 m s = pNew m (mat s) := rfl
theorem pay91_eq : k0_pay91 m s = pNew m (mat s) := rfl
theorem pay97_eq : k0_pay97 m s = pNew m (mat s) := rfl
theorem pay78_eq : k0_pay78 m s = pNew m (masked (mat s)) := rfl
theorem pay109_eq : k0_pay109 m s = pNew m (masked (mat s)) := rfl
theorem pay19_eq : k0_pay19 m s = aNew m (mat s) := rfl
theorem pay25_eq : k0_pay25 m s = aNew m (mat s) := rfl
theorem pay37_eq : k0_pay37 m s = aNew m (mat s) := rfl
theorem pay92_eq : k0_pay92 m s = aNew m (mat s) := rfl
theorem pay98_eq : k0_pay98 m s = aNew m (mat s) := rfl
theorem pay79_eq : k0_pay79 m s = aNew m (masked (mat s)) := rfl
theorem pay110_eq : k0_pay110 m s = aNew m (masked (mat s)) := rfl
theorem pay20_eq : k0_pay20 m l s = lNew m l (mat s) := rfl
theorem pay26_eq : k0_pay26 m l s = lNew m l (mat s) := rfl
theorem pay38_eq : k0_pay38 m l s = lNew m l (mat s) := rfl
theorem pay93_eq : k0_pay93 m l s = lNew m l (mat s) := rfl
theorem pay99_eq : k0_pay99 m l s = lNew m l (mat s) := rfl
theorem pay80_eq : k0_pay80 m l s = lNew m l (masked (mat s)) := rfl
theorem pay111_eq : k0_pay111 m l s = lNew m l (masked (mat s)) := rfl
theorem pay21_eq : k0_pay21 first m v s = pv (pNew m (mat s)) (lanes (vmat v) zeros) := rfl
theorem pay39_eq : k0_pay39 first m v s = pv (pNew m (mat s)) (lanes (vmat v) zeros) := rfl
theorem pay27_eq : k0_pay27 first m v s = pv (pNew m (mat s)) (lanes zeros (vmat v)) := rfl
theorem pay81_eq : k0_pay81 first m v s = pv (pNew m (masked (mat s))) (lanes (vmat v) zeros) := rfl
theorem pay112_eq : k0_pay112 first m v s = pv (pNew m (masked (mat s))) (lanes (vmat v) zeros) := rfl
theorem pay94_eq : k0_pay94 first m (vmat v) zeros s = pv (pNew m (mat s)) (lanes (vmat v) zeros) := rfl
theorem pay100_eq : k0_pay100 first m (vmat v) zeros s = pv (pNew m (mat s)) (lanes zeros (vmat v)) := rfl
theorem pay28_eq : k0_pay28 first (aNew m0 s0) (pv (pNew m0 s0) (lanes (vmat v) zeros)) (aNew m1 s1) (pv (pNew m1 s1) (lanes zeros (vmat v))) acc = accNew m0 m1 s0 s1 v acc := rfl
theorem pay42_eq : k0_pay42 m s = subf (mat s) (broadcastTo S512x512 (mNew m (mat s)) broadcasts_S512x1_S512x512) := rfl
theorem pay123_eq : k0_pay123 m l (mNew m x) (subf x (broadcastTo S512x512 (mNew m x) broadcasts_S512x1_S512x512)) = lNew m l x := rfl
theorem pay124_eq : k0_pay124 first m1 (vmat v) zeros (aNew m0 s0) (pv (pNew m0 s0) (lanes (vmat v) zeros)) (mNew m1 s1) (subf s1 (broadcastTo S512x512 (mNew m1 s1) broadcasts_S512x1_S512x512)) acc = accNew m0 m1 s0 s1 v acc := rfl
theorem pay84_eq : k0_pay84 m s = (broadcastTo S512x512 (mNew m (masked (mat s))) broadcasts_S512x1_S512x512) := rfl
theorem pay3_eq : k0_pay3 m l x (mNew m x) (broadcastTo S512x512 (mNew m x) broadcasts_S512x1_S512x512) = lNew m l x := rfl
theorem pay4_eq : k0_pay4 first m1 (vmat v) zeros (aNew m0 s0) (pv (pNew m0 s0) (lanes (vmat v) zeros)) s1 (mNew m1 s1) (broadcastTo S512x512 (mNew m1 s1) broadcasts_S512x1_S512x512) acc = accNew m0 m1 s0 s1 v acc := rfl
theorem pay104_eq : k0_pay104 (pv (pNew m0 (mat t0)) (lanes (vmat v) zeros)) (pv (pNew m1 (mat t1)) (lanes zeros (vmat v))) acc (k0_pay101 first) (k0_pay102 m0 t0) (k0_pay103 m1 t1) = accNew m0 m1 (mat t0) (mat t1) v acc := rfl
theorem pay6_eq : k0_pay6 m x = mNew m (masked x) := rfl
theorem pay9_eq : k0_pay9 m l x = lNew m l (masked x) := rfl
theorem pay10_eq : k0_pay10 first m1 (vmat v) zeros (aNew m0 s0) (pv (pNew m0 s0) (lanes (vmat v) zeros)) x acc = accNew m0 m1 s0 (masked x) v acc := rfl
end

/-- The mask is the kernel's. -/
theorem pay114_eq : k0_pay114 = first := rfl

/-! ## The state -/

/-- The two heads' running maxima and sums, and the accumulator both share. -/
structure St (F : FTy → Type) where
  m0 : FVec F S512x1 .f32
  l0 : FVec F S512x1 .f32
  m1 : FVec F S512x1 .f32
  l1 : FVec F S512x1 .f32
  acc : FVec F S512x128 .f32

/-- The state carried in registers. -/
def St.car (s : St F) : FVec F S512x1 .f32 × FVec F S512x1 .f32 × FVec F S512x1 .f32 × FVec F S512x1 .f32 :=
  (s.m0, s.l0, s.m1, s.l1)

/-- Before any block. -/
def St.start : St F := ⟨k0_pay116, k0_pay117, k0_pay116, k0_pay117, k0_pay115⟩

/-- After one block more. -/
def St.next (s : St F) (s0 s1 : FVec F S512x512 .f32) (v : Vec F S1x1x512x128 .bf16) : St F :=
  ⟨mNew s.m0 s0, lNew s.m0 s.l0 s0, mNew s.m1 s1, lNew s.m1 s.l1 s1, accNew s.m0 s.m1 s0 s1 v s.acc⟩

/-- The quotient the kernel stores. -/
def St.out (s : St F) : FVec F S1x512x128 .bf16 :=
  shapeCast S1x512x128 (truncf .bf16 (divf s.acc (lanes (spread s.l0) (spread s.l1))) bitsLt_bf16_f32) shapeCasts_S512x128_S1x512x128

/-- The quotient depends on the sums and the accumulator only. -/
theorem St.out_congr {s s' : St F} (h0 : s.l0 = s'.l0) (h1 : s.l1 = s'.l1) (h : s.acc = s'.acc) : s.out = s'.out := by
  unfold St.out; rw [h0, h1, h]

section
variable (xq : Vec F S1x2x512x128 .bf16) (xk : Vec F S1x2x4096x128 .bf16) (xv : Vec F S1x1x4096x128 .bf16)

/-- Head `e`'s scores against block `n`. -/
def sc (e : Fin 2) (n : ℕ) : FVec F S1x1x512x512 .f32 := scores (qblk xq e) (kblk xk e n)

/-- The state after the first `n` blocks, none of them masked. -/
def state : ℕ → St F
  | 0 => .start
  | n + 1 => (state n).next (mat (sc xq xk 0 n)) (mat (sc xq xk 1 n)) (vblk xv n)

/-- The state after blocks `0 … n`, the last one masked. -/
def fin (n : ℕ) : St F :=
  (state xq xk xv n).next (masked (mat (sc xq xk 0 n))) (masked (mat (sc xq xk 1 n))) (vblk xv n)

/-- What the body stores for query block `n`. -/
def out (n : ℕ) : FVec F S1x512x128 .bf16 := (fin xq xk xv n).out

theorem pay11_eq (l0 l1 : FVec F S512x1 .f32) (acc : FVec F S512x128 .f32) : k0_pay11 first l0 l1 acc = (St.mk l0 l0 l1 l1 acc).out := rfl
end

end Cert.Attn

end
-- ==== Proof.Trip.lean ====
/-
  One trip of the kernel's loop, and the loop: after `k` trips the registers and the accumulator hold the state after `2 k`
  blocks, and slot 0 of the score buffer the scores of block `2 k`.
-/
module

public import proofs.«01_k».proof.Proof.Step
public import proofs.«01_k».proof.Proof.Gen.KernelIdeal.Loops
public import Idealize.ShloMosaic.Lib.Tactic
public import Idealize.ShloMosaic.Lib.WritesUnit

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open Idealize.ShloMosaic.Rounds

variable {F : FTy → Type} [FloatOps F]

/-! ## Loads of what stores left -/

section
variable {sig : RefSig} {κ : Kind} {sp : Space} {s : Shape} {e : EltTy} {Val : EltTy → Type}

/-- A load through the last store's rectangle reads what it stored. -/
theorem readAt_self (v : View sig κ sp s e) (f : v.ty.Contents Val) (r : Rect s) (w : r.shape.Idx → Val e)
    (L : List (View.Piece Val s e)) : v.readAt Val r.toLoadRect (v.writes Val f (⟨r, w⟩ :: L)) = w :=
  funext fun x => View.read_writes_cons_emb v f r w L x

/-- A load through a rectangle apart from the last store's, on some axis, reads what was there before. -/
theorem readAt_skip (v : View sig κ sp s e) (f : v.ty.Contents Val) {off off' size size' : Fin s.rank → ℕ}
    (inb : ∀ a, off a + size a ≤ s.size a) (inb' : ∀ a, off' a + size' a ≤ s.size a)
    (w : (Rect.unit off size inb).shape.Idx → Val e) (L : List (View.Piece Val s e))
    (a : Fin s.rank) (h : off' a + size' a ≤ off a ∨ off a + size a ≤ off' a) :
    v.readAt Val (Rect.unit off' size' inb').toLoadRect (v.writes Val f (⟨Rect.unit off size inb, w⟩ :: L))
      = v.readAt Val (Rect.unit off' size' inb').toLoadRect (v.writes Val f L) := by
  funext x
  refine View.read_writes_cons_unit_of_not_mem v f inb w L _ rfl a ?_
  have hx : ((Rect.unit off' size' inb').toLoadRect.idx x a).val = off' a + 1 * (x a).val := rfl
  have := (x a).isLt
  have hs : (Rect.unit off' size' inb').shape.size a = size' a := rfl
  rw [hx]
  change (x a).val < size' a at this
  omega

end

/-- What a load reads through later stores depends on the earlier contents only through the same load. -/
theorem readAt_congr {sig : RefSig} {κ : Kind} {sp : Space} {s : Shape} {e : EltTy} {Val : EltTy → Type} (v : View sig κ sp s e) (r : LoadRect s)
    (f f' : v.ty.Contents Val) (h : v.readAt Val r f = v.readAt Val r f') : ∀ L : List (View.Piece Val s e),
    v.readAt Val r (v.writes Val f L) = v.readAt Val r (v.writes Val f' L)
  | [] => h
  | p :: L => by
      funext x
      have ih := congrFun (readAt_congr v r f f' h L) x
      show v.read Val _ (r.idx x) = v.read Val _ (r.idx x)
      by_cases hy : r.idx x ∈ p.1.set
      · exact View.read_writes_apply_eq v f v f' _ (p :: L) ⟨p, List.mem_cons_self, hy⟩
      · rw [View.read_writes_cons_miss v f p L _ hy, View.read_writes_cons_miss v f' p L _ hy]
        exact ih

/-- Score slots apart. -/
theorem slot_skip {sig : RefSig} {κ : Kind} {sp : Space} (v : View sig κ sp S2x2x512x512 .f32) (f : v.ty.Contents (Elt F))
    (s e s' e' : ℕ) (inb : ∀ a, (![s, e, 0, 0] : Fin 4 → ℕ) a + (![1, 1, 512, 512] : Fin 4 → ℕ) a ≤ S2x2x512x512.size a)
    (inb' : ∀ a, (![s', e', 0, 0] : Fin 4 → ℕ) a + (![1, 1, 512, 512] : Fin 4 → ℕ) a ≤ S2x2x512x512.size a)
    (w : (Rect.unit (s := S2x2x512x512) ![s, e, 0, 0] (![1, 1, 512, 512] : Fin 4 → ℕ) inb).shape.Idx → Elt F .f32)
    (L : List (View.Piece (Elt F) S2x2x512x512 .f32)) (h : s ≠ s' ∨ e ≠ e') :
    v.readAt (Elt F) (Rect.unit (s := S2x2x512x512) ![s', e', 0, 0] (![1, 1, 512, 512] : Fin 4 → ℕ) inb').toLoadRect
        (v.writes (Elt F) f (⟨Rect.unit (s := S2x2x512x512) ![s, e, 0, 0] (![1, 1, 512, 512] : Fin 4 → ℕ) inb, w⟩ :: L))
      = v.readAt (Elt F) (Rect.unit (s := S2x2x512x512) ![s', e', 0, 0] (![1, 1, 512, 512] : Fin 4 → ℕ) inb').toLoadRect (v.writes (Elt F) f L) := by
  rcases h with h | h
  · refine readAt_skip v f inb inb' w L 0 ?_
    show s' + 1 ≤ s ∨ s + 1 ≤ s'
    omega
  · refine readAt_skip v f inb inb' w L 1 ?_
    show e' + 1 ≤ e ∨ e + 1 ≤ e'
    omega

/-! ## The offsets in closed form -/

/-- The grid's last coordinate: the query block. -/
abbrev qi (i : grid0.Coords) : ℕ := (i 2).val

theorem trips1 : ∀ i : grid0.Coords, (k0_t1_loop i).trips = qi i / 2 := by decide +kernel

theorem trips2 (i : grid0.Coords) : (k0_t2_loop i).trips = 0 := Nat.le_zero.mp (k0_t2_abs i).2.1

theorem cond1 : ∀ i : grid0.Coords, k0_cond1 i = 1#1 ↔ qi i % 2 = 0 := by decide +kernel

theorem trip_lt {i : grid0.Coords} (k : Fin (k0_t1_loop i).trips) : k.val < 3 := Nat.lt_of_lt_of_le k.isLt (k0_t1_abs i).2.1

section
variable {i : grid0.Coords} (k : Fin (k0_t1_loop i).trips)

theorem off1_1 : k0_off1 i k 1#32 = ![0, 0, 512 * (2 * k.val + 1), 0] := by
  have h : ∀ k : Fin 3, (Scalar.indexCast (Scalar.muli (Scalar.addi (Scalar.muli 2#32 (Scf.iv 0#32 1#32 k.val)) 1#32) 512#32) : BitVec 32).toNat = 512 * (2 * k.val + 1) := by decide +kernel
  exact congrArg (fun n : ℕ => (![0, 0, n, 0] : Fin 4 → ℕ)) (h ⟨k.val, trip_lt k⟩)

theorem off1_2 : k0_off1 i k 2#32 = ![0, 0, 512 * (2 * k.val + 2), 0] := by
  have h : ∀ k : Fin 3, (Scalar.indexCast (Scalar.muli (Scalar.addi (Scalar.muli 2#32 (Scf.iv 0#32 1#32 k.val)) 2#32) 512#32) : BitVec 32).toNat = 512 * (2 * k.val + 2) := by decide +kernel
  exact congrArg (fun n : ℕ => (![0, 0, n, 0] : Fin 4 → ℕ)) (h ⟨k.val, trip_lt k⟩)

theorem off2_1 : k0_off2 i k 1#32 = ![0, 1, 512 * (2 * k.val + 1), 0] := by
  have h : ∀ k : Fin 3, (Scalar.indexCast (Scalar.muli (Scalar.addi (Scalar.muli 2#32 (Scf.iv 0#32 1#32 k.val)) 1#32) 512#32) : BitVec 32).toNat = 512 * (2 * k.val + 1) := by decide +kernel
  exact congrArg (fun n : ℕ => (![0, 1, n, 0] : Fin 4 → ℕ)) (h ⟨k.val, trip_lt k⟩)

theorem off2_2 : k0_off2 i k 2#32 = ![0, 1, 512 * (2 * k.val + 2), 0] := by
  have h : ∀ k : Fin 3, (Scalar.indexCast (Scalar.muli (Scalar.addi (Scalar.muli 2#32 (Scf.iv 0#32 1#32 k.val)) 2#32) 512#32) : BitVec 32).toNat = 512 * (2 * k.val + 2) := by decide +kernel
  exact congrArg (fun n : ℕ => (![0, 1, n, 0] : Fin 4 → ℕ)) (h ⟨k.val, trip_lt k⟩)

theorem off3 : k0_off3 i k = ![0, 0, 512 * (2 * k.val), 0] := by
  have h : ∀ k : Fin 3, (Scalar.indexCast (Scalar.muli (Scalar.muli 2#32 (Scf.iv 0#32 1#32 k.val)) 512#32) : BitVec 32).toNat = 512 * (2 * k.val) := by decide +kernel
  exact congrArg (fun n : ℕ => (![0, 0, n, 0] : Fin 4 → ℕ)) (h ⟨k.val, trip_lt k⟩)

theorem off4 : k0_off4 i k = ![0, 0, 512 * (2 * k.val + 1), 0] := by
  have h : ∀ k : Fin 3, (Scalar.indexCast (Scalar.muli (Scalar.addi (Scalar.muli 2#32 (Scf.iv 0#32 1#32 k.val)) 1#32) 512#32) : BitVec 32).toNat = 512 * (2 * k.val + 1) := by decide +kernel
  exact congrArg (fun n : ℕ => (![0, 0, n, 0] : Fin 4 → ℕ)) (h ⟨k.val, trip_lt k⟩)
end

/-- The block of values before the diagonal, at an odd query block. -/
theorem off12 : ∀ i : grid0.Coords, ¬ k0_cond1 i = 1#1 → k0_off12 i = ![0, 0, 512 * (qi i - 1), 0] := by decide +kernel

/-! ## Loads of the operands -/

section
variable {κ : Kind} {sp : Space}

/-- A load of 512 keys of head `e` from row `512 n`. -/
theorem load_k (v : View sig κ sp S1x2x4096x128 .bf16) (X : v.ty.Contents (Elt F)) (off : Fin 4 → ℕ)
    (inb : ∀ a, off a + S1x1x512x128.size a ≤ S1x2x4096x128.size a) (e : Fin 2) (n : ℕ) (hn : n < 8)
    (h : off = ![0, e.val, 512 * n, 0]) :
    v.readAt (Elt F) (Rect.unit (s := S1x2x4096x128) off S1x1x512x128.size inb).toLoadRect X
      = kblk (v.read (Elt F) X) e n := by
  subst h
  funext y
  refine congrArg (v.read (Elt F) X) (funext fun a => Fin.ext ?_)
  have h2 : (y 2).val < 512 := (y 2).isLt
  have h0 : (y 0).val < 1 := (y 0).isLt
  have h1 : (y 1).val < 1 := (y 1).isLt
  match a with
  | ⟨0, _⟩ => show 0 + 1 * (y 0).val = 0; omega
  | ⟨1, _⟩ => show e.val + 1 * (y 1).val = e.val; omega
  | ⟨2, _⟩ => show 512 * n + 1 * (y 2).val = (512 * n + (y 2).val) % 4096; omega
  | ⟨3, _⟩ => show 0 + 1 * (y 3).val = (y 3).val; omega

/-- A load of 512 values from row `512 n`. -/
theorem load_v (v : View sig κ sp S1x1x4096x128 .bf16) (X : v.ty.Contents (Elt F)) (off : Fin 4 → ℕ)
    (inb : ∀ a, off a + S1x1x512x128.size a ≤ S1x1x4096x128.size a) (n : ℕ) (hn : n < 8)
    (h : off = ![0, 0, 512 * n, 0]) :
    v.readAt (Elt F) (Rect.unit (s := S1x1x4096x128) off S1x1x512x128.size inb).toLoadRect X
      = vblk (v.read (Elt F) X) n := by
  subst h
  funext y
  refine congrArg (v.read (Elt F) X) (funext fun a => Fin.ext ?_)
  have h2 : (y 2).val < 512 := (y 2).isLt
  have h0 : (y 0).val < 1 := (y 0).isLt
  have h1 : (y 1).val < 1 := (y 1).isLt
  match a with
  | ⟨0, _⟩ => show 0 + 1 * (y 0).val = 0; omega
  | ⟨1, _⟩ => show 0 + 1 * (y 1).val = 0; omega
  | ⟨2, _⟩ => show 512 * n + 1 * (y 2).val = (512 * n + (y 2).val) % 4096; omega
  | ⟨3, _⟩ => show 0 + 1 * (y 3).val = (y 3).val; omega

/-- A load of head `e`'s queries. -/
theorem load_q (v : View sig κ sp S1x2x512x128 .bf16) (X : v.ty.Contents (Elt F)) (off : Fin 4 → ℕ)
    (inb : ∀ a, off a + S1x1x512x128.size a ≤ S1x2x512x128.size a) (e : Fin 2) (h : off = ![0, e.val, 0, 0]) :
    v.readAt (Elt F) (Rect.unit (s := S1x2x512x128) off S1x1x512x128.size inb).toLoadRect X
      = qblk (v.read (Elt F) X) e := by
  subst h
  funext y
  refine congrArg (v.read (Elt F) X) (funext fun a => Fin.ext ?_)
  have h0 : (y 0).val < 1 := (y 0).isLt
  have h1 : (y 1).val < 1 := (y 1).isLt
  match a with
  | ⟨0, _⟩ => show 0 + 1 * (y 0).val = 0; omega
  | ⟨1, _⟩ => show e.val + 1 * (y 1).val = e.val; omega
  | ⟨2, _⟩ => show 0 + 1 * (y 2).val = (y 2).val; omega
  | ⟨3, _⟩ => show 0 + 1 * (y 3).val = (y 3).val; omega
end

/-! ## The loop -/

/-- The accumulator read whole. -/
abbrev rdAcc {κ : Kind} {sp : Space} (v : View sig κ sp S512x128 .f32) (f : v.ty.Contents (Elt F)) : FVec F S512x128 .f32 :=
  v.readAt (Elt F) (Rect.unit (s := S512x128) ![0, 0] S512x128.size (by decide +kernel)).toLoadRect f

/-- A slot of the score buffer. -/
abbrev rdSlot {κ : Kind} {sp : Space} (v : View sig κ sp S2x2x512x512 .f32) (f : v.ty.Contents (Elt F)) (s e : Fin 2) : FVec F S1x1x512x512 .f32 :=
  v.readAt (Elt F) (Rect.unit (s := S2x2x512x512) ![s.val, e.val, 0, 0] S1x1x512x512.size (by revert s e; decide +kernel)).toLoadRect f

section
variable (𝒱 : Variants) (c : Dev nD) (bd : Option 𝒱.V) (i : grid0.Coords)
  (arg3 : Memref sig .tc .vmem S1x2x512x128 .bf16) (harg3 : arg3.IsWhole)
  (arg4 : Memref sig .tc .vmem S1x2x4096x128 .bf16) (harg4 : arg4.IsWhole)
  (arg5 : Memref sig .tc .vmem S1x1x4096x128 .bf16) (harg5 : arg5.IsWhole)
  (arg6 : Memref sig .tc .vmem S1x512x128 .bf16) (harg6 : arg6.IsWhole)
  (arg7 : Memref sig .tc .vmem S512x128 .f32) (harg7 : arg7.IsWhole)
  (arg8 : Memref sig .tc .vmem S2x2x512x512 .f32) (harg8 : arg8.IsWhole)
  (arg2 : BitVec 32) (v7 v8 : FVec F S512x1 .f32) (v24 : FVec F S512x512 .f32)
  (X3 : BufTy.Contents (Elt F) arg3.view.ty) (X4 : BufTy.Contents (Elt F) arg4.view.ty) (X5 : BufTy.Contents (Elt F) arg5.view.ty)

/-- What holds after `n` blocks: registers, accumulator, slot 0. -/
def Holds (n : ℕ) (acc : FVec F S512x1 .f32 × FVec F S512x1 .f32 × FVec F S512x1 .f32 × FVec F S512x1 .f32)
    (f7 : BufTy.Contents (Elt F) arg7.view.ty) (f8 : BufTy.Contents (Elt F) arg8.view.ty) : Prop :=
  acc = (state (arg3.view.read (Elt F) X3) (arg4.view.read (Elt F) X4) (arg5.view.read (Elt F) X5) n).car
  ∧ rdAcc arg7.view f7 = (state (arg3.view.read (Elt F) X3) (arg4.view.read (Elt F) X4) (arg5.view.read (Elt F) X5) n).acc
  ∧ ∀ e, rdSlot arg8.view f8 0 e = sc (arg3.view.read (Elt F) X3) (arg4.view.read (Elt F) X4) e n

theorem trip_holds (k : Fin (k0_t1_loop i).trips) (acc f7 f8)
    (h : Holds arg3 arg4 arg5 arg7 arg8 X3 X4 X5 (2 * k.val) acc f7 f8) :
    Holds arg3 arg4 arg5 arg7 arg8 X3 X4 X5 (2 * k.val + 2)
      (tripR_k0_t1 (F := F) 𝒱 c bd i arg3 harg3 arg4 harg4 arg5 harg5 arg6 harg6 arg7 harg7 arg8 harg8 arg2 first v7 v8 v24 X3 X4 X5 k acc f7 f8)
      (arg7.view.writes (Elt F) f7 (tripL_k0_t1 (F := F) 𝒱 c bd i arg3 harg3 arg4 harg4 arg5 harg5 arg6 harg6 arg7 harg7 arg8 harg8 arg2 first v7 v8 v24 X3 X4 X5 k acc f7 f8).1)
      (arg8.view.writes (Elt F) f8 (tripL_k0_t1 (F := F) 𝒱 c bd i arg3 harg3 arg4 harg4 arg5 harg5 arg6 harg6 arg7 harg7 arg8 harg8 arg2 first v7 v8 v24 X3 X4 X5 k acc f7 f8).2) := by
  obtain ⟨h1, h2, h3⟩ := h
  have hk := trip_lt k
  have s0 : ∀ inb, arg8.view.readAt (Elt F) (Rect.unit (s := S2x2x512x512) ![0, 0, 0, 0] S1x1x512x512.size inb).toLoadRect f8
      = sc (arg3.view.read (Elt F) X3) (arg4.view.read (Elt F) X4) 0 (2 * k.val) := fun _ => h3 0
  have s1 : ∀ inb, arg8.view.readAt (Elt F) (Rect.unit (s := S2x2x512x512) ![0, 1, 0, 0] S1x1x512x512.size inb).toLoadRect f8
      = sc (arg3.view.read (Elt F) X3) (arg4.view.read (Elt F) X4) 1 (2 * k.val) := fun _ => h3 1
  have a0 : ∀ inb, arg7.view.readAt (Elt F) (Rect.unit (s := S512x128) ![0, 0] S512x128.size inb).toLoadRect f7
      = (state (arg3.view.read (Elt F) X3) (arg4.view.read (Elt F) X4) (arg5.view.read (Elt F) X5) (2 * k.val)).acc := fun _ => h2
  have q0 := fun inb => load_q arg3.view X3 ![0, 0, 0, 0] inb 0 rfl
  have q1 := fun inb => load_q arg3.view X3 ![0, 1, 0, 0] inb 1 rfl
  have k01 := fun inb => load_k arg4.view X4 _ inb 0 (2 * k.val + 1) (by omega) (off1_1 k)
  have k02 := fun inb => load_k arg4.view X4 _ inb 0 (2 * k.val + 2) (by omega) (off1_2 k)
  have k11 := fun inb => load_k arg4.view X4 _ inb 1 (2 * k.val + 1) (by omega) (off2_1 k)
  have k12 := fun inb => load_k arg4.view X4 _ inb 1 (2 * k.val + 2) (by omega) (off2_2 k)
  have v1 := fun inb => load_v arg5.view X5 _ inb (2 * k.val) (by omega) (off3 k)
  have v2 := fun inb => load_v arg5.view X5 _ inb (2 * k.val + 1) (by omega) (off4 k)
  subst h1
  unfold tripR_k0_t1 tripL_k0_t1 trip_k0_t1
  dsimp only
  sl_unfold_run_names
  simp (decide := true) only [View.readCov, readAt_self, slot_skip, s0, s1, a0, q0, q1, k01, k02, k11, k12, v1, v2, St.car,
    pay12_eq, pay13_eq, pay29_eq, pay31_eq, pay14_eq, pay32_eq, pay15_eq, pay33_eq, pay16_eq, pay22_eq, pay34_eq, pay40_eq, pay17_eq, pay23_eq, pay35_eq, pay41_eq, pay18_eq, pay24_eq, pay36_eq, pay19_eq, pay25_eq, pay37_eq, pay20_eq, pay26_eq, pay38_eq, pay21_eq, pay39_eq, pay27_eq, pay28_eq, pay42_eq, pay123_eq, pay124_eq]
  refine ⟨Prod.ext ?_ (Prod.ext ?_ (Prod.ext ?_ ?_)), ?_, ?_⟩
  · rfl
  · rfl
  · rfl
  · rfl
  · exact readAt_self _ _ _ _ _
  · refine Fin.forall_fin_two.mpr ⟨?_, ?_⟩
    · refine (slot_skip _ _ 0 1 0 0 _ _ _ _ (by decide)).trans (readAt_self _ _ _ _ _)
    · exact readAt_self _ _ _ _ _

theorem loop_holds (G7 G8 init) (h : Holds arg3 arg4 arg5 arg7 arg8 X3 X4 X5 0 init G7 G8) : ∀ k, k ≤ (k0_t1_loop i).trips →
    Holds arg3 arg4 arg5 arg7 arg8 X3 X4 X5 (2 * k)
      (st_k0_t1 (F := F) 𝒱 c bd i arg3 harg3 arg4 harg4 arg5 harg5 arg6 harg6 arg7 harg7 arg8 harg8 arg2 first v7 v8 v24 X3 X4 X5 G7 G8 init k).1
      (arg7.view.writes (Elt F) G7 (st_k0_t1 (F := F) 𝒱 c bd i arg3 harg3 arg4 harg4 arg5 harg5 arg6 harg6 arg7 harg7 arg8 harg8 arg2 first v7 v8 v24 X3 X4 X5 G7 G8 init k).2.1)
      (arg8.view.writes (Elt F) G8 (st_k0_t1 (F := F) 𝒱 c bd i arg3 harg3 arg4 harg4 arg5 harg5 arg6 harg6 arg7 harg7 arg8 harg8 arg2 first v7 v8 v24 X3 X4 X5 G7 G8 init k).2.2)
  | 0, _ => h
  | k + 1, hk => by
      have ih := loop_holds G7 G8 init h k (by omega)
      rw [st_k0_t1_succ 𝒱 c bd i arg3 harg3 arg4 harg4 arg5 harg5 arg6 harg6 arg7 harg7 arg8 harg8 arg2 first v7 v8 v24 X3 X4 X5 G7 G8 init ⟨k, hk⟩]
      have := trip_holds 𝒱 c bd i arg3 harg3 arg4 harg4 arg5 harg5 arg6 harg6 arg7 harg7 arg8 harg8 arg2 v7 v8 v24 X3 X4 X5 ⟨k, hk⟩ _ _ _ ih
      refine (show Holds arg3 arg4 arg5 arg7 arg8 X3 X4 X5 (2 * k + 2) _ _ _ from ?_)
      dsimp only
      rw [View.writes_append, View.writes_append]
      exact this
end

end Cert.Attn

end
-- ==== Proof.Body.lean ====
/-
  The kernel's body on any staging memrefs: what it stores is `out` at the grid's query block.
-/
module

public import proofs.«01_k».proof.Proof.Trip
public import proofs.«01_k».proof.Proof.Gen.KernelIdeal.Frame
public import Idealize.ShloMosaic.Lib.Claim
public import Idealize.ShloMosaic.Lib.VecWindow

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem sound_kernel (c : Dev nD) (E : Set ℕ) (i : grid0.Coords)
    (arg3 : Memref sig .tc .vmem S1x2x512x128 .bf16) (harg3 : arg3.IsWhole)
    (arg4 : Memref sig .tc .vmem S1x2x4096x128 .bf16) (harg4 : arg4.IsWhole)
    (arg5 : Memref sig .tc .vmem S1x1x4096x128 .bf16) (harg5 : arg5.IsWhole)
    (arg6 : Memref sig .tc .vmem S1x512x128 .bf16) (harg6 : arg6.IsWhole)
    (arg7 : Memref sig .tc .vmem S512x128 .f32) (harg7 : arg7.IsWhole)
    (arg8 : Memref sig .tc .vmem S2x2x512x512 .f32) (harg8 : arg8.IsWhole)
    (xq : Vec F S1x2x512x128 .bf16) (xk : Vec F S1x2x4096x128 .bf16) (xv : Vec F S1x1x4096x128 .bf16) (K : PUnit → sProp 𝕄) :
    iprop(owns (c : Thread nD τ) arg3 fullShare xq ∗ owns (c : Thread nD τ) arg4 fullShare xk ∗ owns (c : Thread nD τ) arg5 fullShare xv
        ∗ (∃ d, owns (c : Thread nD τ) arg6 fullShare d) ∗ (∃ d, owns (c : Thread nD τ) arg7 fullShare d) ∗ (∃ d, owns (c : Thread nD τ) arg8 fullShare d)
        ∗ (iprop(owns (c : Thread nD τ) arg3 fullShare xq ∗ owns (c : Thread nD τ) arg4 fullShare xk ∗ owns (c : Thread nD τ) arg5 fullShare xv
            ∗ owns (c : Thread nD τ) arg6 fullShare (out xq xk xv (qi i)) ∗ (∃ d, owns (c : Thread nD τ) arg7 fullShare d) ∗ (∃ d, owns (c : Thread nD τ) arg8 fullShare d)) -∗ K ⟨⟩))
      ⊢ wp frame (wpE (defs₀ (F := F)) Variants.none c none) E (cc0_mla_attn i arg3 harg3 arg4 harg4 arg5 harg5 arg6 harg6 arg7 harg7 arg8 harg8) K := by
  unfold owns
  iintro ⟨⟨%f3, %hf3, H3⟩, ⟨%f4, %hf4, H4⟩, ⟨%f5, %hf5, H5⟩, ⟨%d6, %f6, -, H6⟩, ⟨%d7, %f7, -, H7⟩, ⟨%d8, %f8, -, H8⟩, Hk⟩
  subst hf3 hf4 hf5
  have e1 : Scf.trips (k0_t1_loop i).lb (k0_t1_loop i).ub (k0_t1_loop i).st = qi i / 2 := trips1 i
  have e2 : Scf.trips (k0_t2_loop i).lb (k0_t2_loop i).ub (k0_t2_loop i).st = 0 := trips2 i
  have q0 := fun inb => load_q arg3.view f3 ![0, 0, 0, 0] inb 0 rfl
  have q1 := fun inb => load_q arg3.view f3 ![0, 1, 0, 0] inb 1 rfl
  have k0 := fun inb => load_k arg4.view f4 ![0, 0, 0, 0] inb 0 0 (by omega) rfl
  have k1 := fun inb => load_k arg4.view f4 ![0, 1, 0, 0] inb 1 0 (by omega) rfl
  have hq : qi i < 8 := (i 2).isLt
  have k10 := fun inb => load_k arg4.view f4 _ inb 0 (qi i) hq (k0_off10_eq i)
  have k11 := fun inb => load_k arg4.view f4 _ inb 1 (qi i) hq (k0_off11_eq i)
  have v9 := fun inb => load_v arg5.view f5 _ inb (qi i) hq (k0_off9_eq i)
  have v13 := fun inb => load_v arg5.view f5 _ inb (qi i) hq (k0_off13_eq i)
  have H := loop_holds Variants.none c none i arg3 harg3 arg4 harg4 arg5 harg5 arg6 harg6 arg7 harg7 arg8 harg8
    (BitVec.ofNat 32 (i 2).val) k0_pay116 k0_pay117
    (k0_pay119 (qblk (arg3.view.read (Elt F) f3) 1) (kblk (arg4.view.read (Elt F) f4) 1 0)) f3 f4 f5
    (arg7.view.writes (Elt F) arg7.view.junk [⟨Rect.unit (s := S512x128) ![0, 0] ![512, 128] inb_S512x128_S512x128_0_0, k0_pay115⟩])
    (arg8.view.writes (Elt F) f8
      [⟨Rect.unit (s := S2x2x512x512) ![0, 1, 0, 0] ![1, 1, 512, 512] inb_S2x2x512x512_S1x1x512x512_0_1_0_0, scores (qblk (arg3.view.read (Elt F) f3) 1) (kblk (arg4.view.read (Elt F) f4) 1 0)⟩,
       ⟨Rect.unit (s := S2x2x512x512) ![0, 0, 0, 0] ![1, 1, 512, 512] inb_S2x2x512x512_S1x1x512x512_0_0_0_0, scores (qblk (arg3.view.read (Elt F) f3) 0) (kblk (arg4.view.read (Elt F) f4) 0 0)⟩])
    (k0_pay116, k0_pay117, k0_pay116, k0_pay117)
    ⟨rfl, readAt_self _ _ _ _ _, Fin.forall_fin_two.mpr
      ⟨(slot_skip _ _ 0 1 0 0 _ _ _ _ (by decide)).trans (readAt_self _ _ _ _ _), readAt_self _ _ _ _ _⟩⟩
    (qi i / 2) (le_of_eq (trips1 i).symm)
  by_cases hc : k0_cond1 i = 1#1
  · sl_unfold [cc0_mla_attn]
    sl_exec (disch := sl_exact hc)
    sl_step
    iapply Hk
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      sl_unfold_run_names
      simp (decide := true) only [e1, e2, st_k0_t2.eq_1, List.nil_append, View.readCov, View.writes_append, q0, q1, k0, k1, v9, readAt_self, slot_skip,
        pay118_eq, pay120_eq, pay74_eq, pay75_eq, pay76_eq, pay82_eq, pay77_eq, pay83_eq, pay78_eq, pay79_eq, pay80_eq, pay81_eq, pay84_eq, pay3_eq, pay4_eq, pay11_eq, pay114_eq]
      generalize st_k0_t1 (F := F) Variants.none c none i arg3 harg3 arg4 harg4 arg5 harg5 arg6 harg6 arg7 harg7 arg8 harg8
        _ _ _ _ _ _ _ _ _ _ _ (qi i / 2) = S at H ⊢
      obtain ⟨h1, h2, h3⟩ := H
      rw [show 2 * (qi i / 2) = qi i by have := (cond1 i).mp hc; omega] at h1 h2 h3
      have s0 : ∀ inb, arg8.view.readAt (Elt F) (Rect.unit (s := S2x2x512x512) ![0, 0, 0, 0] ![1, 1, 512, 512] inb).toLoadRect
          (arg8.view.writes (Elt F) (arg8.view.writes (Elt F) arg8.view.junk
            [⟨Rect.unit (s := S2x2x512x512) ![0, 1, 0, 0] ![1, 1, 512, 512] inb_S2x2x512x512_S1x1x512x512_0_1_0_0, scores (qblk (arg3.view.read (Elt F) f3) 1) (kblk (arg4.view.read (Elt F) f4) 1 0)⟩,
             ⟨Rect.unit (s := S2x2x512x512) ![0, 0, 0, 0] ![1, 1, 512, 512] inb_S2x2x512x512_S1x1x512x512_0_0_0_0, scores (qblk (arg3.view.read (Elt F) f3) 0) (kblk (arg4.view.read (Elt F) f4) 0 0)⟩]) S.2.2)
          = sc (arg3.view.read (Elt F) f3) (arg4.view.read (Elt F) f4) 0 (qi i) := fun _ =>
        (readAt_congr _ _ _ _ (((slot_skip _ _ 0 1 0 0 _ _ _ _ (by decide)).trans (readAt_self _ _ _ _ _)).trans
          ((slot_skip _ _ 0 1 0 0 _ _ _ _ (by decide)).trans (readAt_self _ _ _ _ _)).symm) _).trans (h3 0)
      have s1 : ∀ inb, arg8.view.readAt (Elt F) (Rect.unit (s := S2x2x512x512) ![0, 1, 0, 0] ![1, 1, 512, 512] inb).toLoadRect
          (arg8.view.writes (Elt F) (arg8.view.writes (Elt F) arg8.view.junk
            [⟨Rect.unit (s := S2x2x512x512) ![0, 1, 0, 0] ![1, 1, 512, 512] inb_S2x2x512x512_S1x1x512x512_0_1_0_0, scores (qblk (arg3.view.read (Elt F) f3) 1) (kblk (arg4.view.read (Elt F) f4) 1 0)⟩,
             ⟨Rect.unit (s := S2x2x512x512) ![0, 0, 0, 0] ![1, 1, 512, 512] inb_S2x2x512x512_S1x1x512x512_0_0_0_0, scores (qblk (arg3.view.read (Elt F) f3) 0) (kblk (arg4.view.read (Elt F) f4) 0 0)⟩]) S.2.2)
          = sc (arg3.view.read (Elt F) f3) (arg4.view.read (Elt F) f4) 1 (qi i) := fun _ =>
        (readAt_congr _ _ _ _ ((readAt_self _ _ _ _ _).trans (readAt_self _ _ _ _ _).symm) _).trans (h3 1)
      have a0 : ∀ inb, arg7.view.readAt (Elt F) (Rect.unit (s := S512x128) ![0, 0] ![512, 128] inb).toLoadRect
          (arg7.view.writes (Elt F) (arg7.view.writes (Elt F) arg7.view.junk [⟨Rect.unit (s := S512x128) ![0, 0] ![512, 128] inb_S512x128_S512x128_0_0, k0_pay115⟩]) S.2.1)
          = (state (arg3.view.read (Elt F) f3) (arg4.view.read (Elt F) f4) (arg5.view.read (Elt F) f5) (qi i)).acc := fun _ => h2
      obtain ⟨S1, S2⟩ := S
      dsimp only at h1
      subst h1
      simp only [s0, s1, a0, pay74_eq, pay75_eq, pay76_eq, pay82_eq, pay77_eq, pay83_eq, pay78_eq, pay79_eq, pay80_eq, pay81_eq, pay84_eq, pay3_eq, pay4_eq, pay11_eq, St.car]
      refine (View.read_writes_full _ _ _ _ _).trans (St.out_congr ?_ ?_ ?_)
      · rfl
      · rfl
      · rfl
    isplitl [H7]
    · iexists _; iexists _; isplitr; swap; · iexact H7
      ipureintro; rfl
    iexists _; iexists _; isplitr; swap; · iexact H8
    ipureintro; rfl
  · have v12 := fun inb => load_v arg5.view f5 _ inb (qi i - 1) (by omega) (off12 i hc)
    sl_unfold [cc0_mla_attn]
    sl_exec (disch := sl_exact hc)
    sl_step
    iapply Hk
    isplitl [H3]
    · iexists f3; isplitr; · ipureintro; rfl
      iexact H3
    isplitl [H4]
    · iexists f4; isplitr; · ipureintro; rfl
      iexact H4
    isplitl [H5]
    · iexists f5; isplitr; · ipureintro; rfl
      iexact H5
    isplitl [H6]
    · iexists _; isplitr; swap; · iexact H6
      ipureintro
      sl_unfold_run_names
      simp (decide := true) only [e1, e2, st_k0_t2.eq_1, List.nil_append, View.readCov, View.writes_append, q0, q1, k0, k1, k10, k11, v12, v13, readAt_self, slot_skip,
        pay85_eq, pay86_eq, pay118_eq, pay120_eq, pay87_eq, pay105_eq, pay88_eq, pay106_eq, pay89_eq, pay95_eq, pay113_eq, pay107_eq, pay90_eq, pay96_eq, pay108_eq, pay91_eq, pay97_eq, pay109_eq, pay92_eq, pay98_eq, pay110_eq, pay93_eq, pay99_eq, pay111_eq, pay112_eq, pay94_eq, pay100_eq, pay104_eq, pay6_eq, pay9_eq, pay10_eq, pay11_eq, pay114_eq]
      generalize st_k0_t1 (F := F) Variants.none c none i arg3 harg3 arg4 harg4 arg5 harg5 arg6 harg6 arg7 harg7 arg8 harg8
        _ _ _ _ _ _ _ _ _ _ _ (qi i / 2) = S at H ⊢
      obtain ⟨h1, h2, h3⟩ := H
      rw [show 2 * (qi i / 2) = qi i - 1 by have := mt (cond1 i).mpr hc; omega] at h1 h2 h3
      have s0 : ∀ inb, arg8.view.readAt (Elt F) (Rect.unit (s := S2x2x512x512) ![0, 0, 0, 0] ![1, 1, 512, 512] inb).toLoadRect
          (arg8.view.writes (Elt F) (arg8.view.writes (Elt F) arg8.view.junk
            [⟨Rect.unit (s := S2x2x512x512) ![0, 1, 0, 0] ![1, 1, 512, 512] inb_S2x2x512x512_S1x1x512x512_0_1_0_0, scores (qblk (arg3.view.read (Elt F) f3) 1) (kblk (arg4.view.read (Elt F) f4) 1 0)⟩,
             ⟨Rect.unit (s := S2x2x512x512) ![0, 0, 0, 0] ![1, 1, 512, 512] inb_S2x2x512x512_S1x1x512x512_0_0_0_0, scores (qblk (arg3.view.read (Elt F) f3) 0) (kblk (arg4.view.read (Elt F) f4) 0 0)⟩]) S.2.2)
          = sc (arg3.view.read (Elt F) f3) (arg4.view.read (Elt F) f4) 0 (qi i - 1) := fun _ =>
        (readAt_congr _ _ _ _ (((slot_skip _ _ 0 1 0 0 _ _ _ _ (by decide)).trans (readAt_self _ _ _ _ _)).trans
          ((slot_skip _ _ 0 1 0 0 _ _ _ _ (by decide)).trans (readAt_self _ _ _ _ _)).symm) _).trans (h3 0)
      have s1 : ∀ inb, arg8.view.readAt (Elt F) (Rect.unit (s := S2x2x512x512) ![0, 1, 0, 0] ![1, 1, 512, 512] inb).toLoadRect
          (arg8.view.writes (Elt F) (arg8.view.writes (Elt F) arg8.view.junk
            [⟨Rect.unit (s := S2x2x512x512) ![0, 1, 0, 0] ![1, 1, 512, 512] inb_S2x2x512x512_S1x1x512x512_0_1_0_0, scores (qblk (arg3.view.read (Elt F) f3) 1) (kblk (arg4.view.read (Elt F) f4) 1 0)⟩,
             ⟨Rect.unit (s := S2x2x512x512) ![0, 0, 0, 0] ![1, 1, 512, 512] inb_S2x2x512x512_S1x1x512x512_0_0_0_0, scores (qblk (arg3.view.read (Elt F) f3) 0) (kblk (arg4.view.read (Elt F) f4) 0 0)⟩]) S.2.2)
          = sc (arg3.view.read (Elt F) f3) (arg4.view.read (Elt F) f4) 1 (qi i - 1) := fun _ =>
        (readAt_congr _ _ _ _ ((readAt_self _ _ _ _ _).trans (readAt_self _ _ _ _ _).symm) _).trans (h3 1)
      have a0 : ∀ inb, arg7.view.readAt (Elt F) (Rect.unit (s := S512x128) ![0, 0] ![512, 128] inb).toLoadRect
          (arg7.view.writes (Elt F) (arg7.view.writes (Elt F) arg7.view.junk [⟨Rect.unit (s := S512x128) ![0, 0] ![512, 128] inb_S512x128_S512x128_0_0, k0_pay115⟩]) S.2.1)
          = (state (arg3.view.read (Elt F) f3) (arg4.view.read (Elt F) f4) (arg5.view.read (Elt F) f5) (qi i - 1)).acc := fun _ => h2
      obtain ⟨S1, S2⟩ := S
      dsimp only at h1
      subst h1
      simp only [s0, s1, a0, pay85_eq, pay86_eq, pay87_eq, pay105_eq, pay88_eq, pay106_eq, pay89_eq, pay95_eq, pay113_eq, pay107_eq, pay90_eq, pay96_eq, pay108_eq, pay91_eq, pay97_eq, pay109_eq, pay92_eq, pay98_eq, pay110_eq, pay93_eq, pay99_eq, pay111_eq, pay112_eq, pay94_eq, pay100_eq, pay104_eq, pay6_eq, pay9_eq, pay10_eq, pay11_eq, St.car]
      have hs := congrArg (state (arg3.view.read (Elt F) f3) (arg4.view.read (Elt F) f4) (arg5.view.read (Elt F) f5))
        (show qi i = (qi i - 1) + 1 by have := mt (cond1 i).mpr hc; omega)
      refine (View.read_writes_full _ _ _ _ _).trans (St.out_congr ?_ ?_ ?_)
      all_goals (unfold fin; rw [hs]; rfl)
    isplitl [H7]
    · iexists _; iexists _; isplitr; swap; · iexact H7
      ipureintro; rfl
    iexists _; iexists _; isplitr; swap; · iexact H8
    ipureintro; rfl

end Cert.Attn

end
-- ==== Proof.Run.lean ====
/-
  The launch: every query block's tile of the result is `out` of the blocks the grid point is given; the arguments end unchanged
  and no semaphore counter is left up.
-/
module

public import proofs.«01_k».proof.Proof.Body
public import proofs.«01_k».proof.Defs
public import proofs.«01_k».proof.Proof.Gen.Kernel

@[expose] public section

set_option maxRecDepth 16384

noncomputable section

namespace Cert.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What a point's body leaves in the result's staging buffer. -/
def outAt (c : Dev nD) (t : Fin cfg0.N) : Vec F S1x512x128 .bf16 :=
  out (iblk m c 0 t) (iblk m c 1 t) (iblk m c 2 t) (qi (grid0.coords t))

/-- The arrays as the launch finds them; each input's buffer at its block, the result's at `outAt`; both scratch buffers at
    anything between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The invariant between points: both scratch buffers at anything, and the generator's register. -/
theorem ΦA_eq (c : Dev nD) : (Pipeline.ΦA spec0 c : sProp 𝕄)
    = iprop(((∃ f, owns (c : Thread nD τ) (Memref.whole cc0_scratch0) fullShare f) ∗ (∃ f, owns (c : Thread nD τ) (Memref.whole cc0_scratch1) fullShare f))
        ∗ ∃ r, prngReg c r) := by
  unfold Pipeline.ΦA
  rw [scopedRest0_eq]
  simp only [owns_whole]

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0_0, after0_1, after0_2, after0_3, ΦA_eq]
  unfold outAt
  iintro ⟨⟨⟨Ha, Hs⟩, Hr⟩, Ho, ⟨%d0, H0⟩, ⟨%d1, H1⟩, ⟨%d2, H2⟩, ⟨%d3, H3⟩⟩
  iapply (sound_kernel c Set.univ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [Ha]; · iexact Ha
  isplitl [Hs]; · iexact Hs
  iintro ⟨H0, H1, H2, H3, Ha, Hs⟩
  isplitl [Ha Hs Hr]
  · isplitl [Ha Hs]
    · isplitl [Ha]; · iexact Ha
      iexact Hs
    iexact Hr
  isplitl [Ho]; · iexact Ho
  isplitl [H0]; · iexact H0
  isplitl [H1]; · iexact H1
  isplitl [H2]; · iexact H2
  iexact H3

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
/-- The launch: the arrays end as the proof data says, and every semaphore counter at zero. -/
theorem run_main : θ_run defs (onTc (τ := τ) (main (F := F))) (s₀ m ρ)
    (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame, for any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.Attn

namespace Cert.Proof

open Idealize.ShloMosaic Idealize.SL.Sem

theorem frame_kernelIdeal : Cert.quiescent_KernelIdeal := fun m ρ _ => Cert.Attn.frame (F := Ideal) m ρ

/-- The program read at bit patterns is the same text. -/
theorem defs₀_same : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => rfl

theorem defs_same : Cert.Kernel.defs (F := Bits) = Cert.KernelIdeal.defs (F := Bits) := by
  unfold Cert.Kernel.defs Cert.KernelIdeal.defs
  exact congrArg (Pipeline.defs (Cert.KernelIdeal.pcfgs (F := Bits))) defs₀_same

theorem frame_kernel : Cert.quiescent_Kernel := fun m ρ _ => by
  rw [defs_same]; exact Cert.Attn.frame (F := Bits) m ρ

end Cert.Proof

end
-- ==== Proof.Online.lean ====
/-
  The running softmax over the extended reals: a maximum, a sum and a weighted sum, rescaled block by block, are after any number
  of blocks the maximum, the sum and the weighted sum of all the scores so far against the last maximum.
-/
module

public import Idealize.ShloMosaic.PureOps.Ideal
public import Idealize.ShloMosaic.Lib.Pointwise

@[expose] public section

noncomputable section

namespace Cert.Attn

open Idealize.ShloMosaic
open scoped BigOperators

/-! ## Scalars -/

theorem real_of_ne {x : EReal} (h : x ≠ ⊤) (h' : x ≠ ⊥) : ∃ r : ℝ, x = r := ⟨x.toReal, (EReal.coe_toReal h h').symm⟩

theorem sub_cases {x m : EReal} (hx : x ≤ m) (hm : m ≠ ⊤) : x - m = ⊥ ∧ x = ⊥ ∨ ∃ r s : ℝ, x = r ∧ m = s := by
  by_cases h : x = ⊥
  · exact .inl ⟨by rw [h, sub_eq_add_neg, EReal.bot_add], h⟩
  · have hm' : m ≠ ⊥ := fun e => h (le_bot_iff.1 (e ▸ hx))
    have hx' : x ≠ ⊤ := fun e => hm (top_le_iff.1 (e ▸ hx))
    obtain ⟨r, hr⟩ := real_of_ne hx' h
    obtain ⟨s, hs⟩ := real_of_ne hm hm'
    exact .inr ⟨r, s, hr, hs⟩

/-- A weight is a nonnegative real, at most one. -/
theorem weight {x m : EReal} (hx : x ≤ m) (hm : m ≠ ⊤) : ∃ r : ℝ, Ideal.exp (x - m) = r ∧ 0 ≤ r ∧ r ≤ 1 := by
  rcases sub_cases hx hm with ⟨h, -⟩ | ⟨r, s, rfl, rfl⟩
  · exact ⟨0, by rw [h]; rfl, le_refl _, zero_le_one⟩
  · refine ⟨Real.exp (r - s), by rw [← EReal.coe_sub, Ideal.exp_coe], (Real.exp_pos _).le, ?_⟩
    rw [Real.exp_le_one_iff]; have := EReal.coe_le_coe_iff.1 hx; linarith

/-- Rescaling a weight from one maximum to a greater one. -/
theorem rescale {x m m' : EReal} (hx : x ≤ m) (hm : m ≤ m') (hm' : m' ≠ ⊤) :
    Ideal.exp (m - m') * Ideal.exp (x - m) = Ideal.exp (x - m') := by
  have hmt : m ≠ ⊤ := fun e => hm' (top_le_iff.1 (e ▸ hm))
  rcases sub_cases hx hmt with ⟨h, rfl⟩ | ⟨r, s, rfl, rfl⟩
  · rw [h, show (⊥ : EReal) - m' = ⊥ by rw [sub_eq_add_neg, EReal.bot_add], Ideal.exp_bot, mul_zero]
  · rcases sub_cases hm hm' with ⟨_, e⟩ | ⟨s', u, e, rfl⟩
    · exact absurd e (EReal.coe_ne_bot _)
    · simp only [← EReal.coe_sub, Ideal.exp_coe, ← EReal.coe_mul, ← Real.exp_add]
      congr 2; ring

/-- A nonnegative real factor goes under a sum. -/
theorem coe_mul_sum {ι : Type*} (t : Finset ι) {a : ℝ} (ha : 0 ≤ a) (f : ι → EReal) :
    (a : EReal) * ∑ i ∈ t, f i = ∑ i ∈ t, (a : EReal) * f i := by
  classical
  induction t using Finset.induction_on with
  | empty => simp
  | insert i t hi ih =>
    rw [Finset.sum_insert hi, Finset.sum_insert hi,
      EReal.left_distrib_of_nonneg_of_ne_top (EReal.coe_nonneg.2 ha) (EReal.coe_ne_top a), ih]

/-- A finite sum of reals is real. -/
theorem sum_real {ι : Type*} (t : Finset ι) (f : ι → EReal) (h : ∀ i ∈ t, ∃ r : ℝ, f i = r) : ∃ r : ℝ, ∑ i ∈ t, f i = r :=
  Finset.sum_induction f (fun x => ∃ r : ℝ, x = r) (fun _ _ ⟨a, ha⟩ ⟨b, hb⟩ => ⟨a + b, by rw [ha, hb, EReal.coe_add]⟩)
    ⟨0, by rw [EReal.coe_zero]⟩ h

theorem coe_sum {ι : Type*} (t : Finset ι) (f : ι → ℝ) : ((∑ i ∈ t, f i : ℝ) : EReal) = ∑ i ∈ t, (f i : EReal) := by
  classical
  induction t using Finset.induction_on with
  | empty => simp
  | insert i t hi ih => rw [Finset.sum_insert hi, Finset.sum_insert hi, EReal.coe_add, ih]

/-! ## The recursion -/

section
variable {C : Type*} [Fintype C] (s v : ℕ → C → EReal)

/-- The running maximum. -/
def rmax : ℕ → EReal
  | 0 => ⊥
  | n + 1 => max (rmax n) (Finset.univ.fold max ⊥ (s n))

/-- The running sum of weights. -/
def rsum : ℕ → EReal
  | 0 => 0
  | n + 1 => Ideal.exp (rmax s n - rmax s (n + 1)) * rsum n + ∑ c, Ideal.exp (s n c - rmax s (n + 1))

/-- The running weighted sum. -/
def racc : ℕ → EReal
  | 0 => 0
  | n + 1 => racc n * Ideal.exp (rmax s n - rmax s (n + 1)) + ∑ c, Ideal.exp (s n c - rmax s (n + 1)) * v n c

theorem rmax_le_iff (n : ℕ) (x : EReal) : rmax s n ≤ x ↔ ∀ i < n, ∀ c, s i c ≤ x := by
  induction n with
  | zero => simp [rmax]
  | succ n ih =>
    rw [rmax, max_le_iff, ih, Finset.fold_max_le]
    refine ⟨fun ⟨h, _, h'⟩ i hi c => ?_, fun h => ⟨fun i hi c => h i (by omega) c, bot_le, fun c _ => h n (by omega) c⟩⟩
    rcases Nat.lt_succ_iff_lt_or_eq.1 hi with hi | rfl
    · exact h i hi c
    · exact h' c (Finset.mem_univ _)

theorem le_rmax {n i : ℕ} (hi : i < n) (c : C) : s i c ≤ rmax s n := (rmax_le_iff s n _).1 le_rfl i hi c

theorem rmax_mono (n : ℕ) : rmax s n ≤ rmax s (n + 1) := by rw [rmax]; exact le_max_left _ _

variable {s}
variable (hs : ∀ i c, s i c ≠ ⊤)
include hs

theorem rmax_ne_top (n : ℕ) : rmax s n ≠ ⊤ := by
  induction n with
  | zero => exact bot_ne_top
  | succ n ih =>
    rw [rmax, ← lt_top_iff_ne_top, max_lt_iff, Finset.fold_max_lt]
    exact ⟨lt_top_iff_ne_top.2 ih, bot_lt_top, fun c _ => lt_top_iff_ne_top.2 (hs n c)⟩

theorem rsum_eq (n : ℕ) : rsum s n = ∑ i ∈ Finset.range n, ∑ c, Ideal.exp (s i c - rmax s n) := by
  induction n with
  | zero => simp [rsum]
  | succ n ih =>
    rw [rsum, Finset.sum_range_succ, ih]
    obtain ⟨a, ha, ha0, -⟩ := weight (rmax_mono s n) (rmax_ne_top hs (n + 1))
    congr 1
    rw [ha, coe_mul_sum _ ha0]
    refine Finset.sum_congr rfl fun i hi => ?_
    rw [coe_mul_sum _ ha0]
    refine Finset.sum_congr rfl fun c _ => ?_
    rw [← ha, rescale (le_rmax s (Finset.mem_range.1 hi) c) (rmax_mono s n) (rmax_ne_top hs _)]

theorem racc_eq (n : ℕ) : racc s v n = ∑ i ∈ Finset.range n, ∑ c, Ideal.exp (s i c - rmax s n) * v i c := by
  induction n with
  | zero => simp [racc]
  | succ n ih =>
    rw [racc, Finset.sum_range_succ, ih]
    obtain ⟨a, ha, ha0, -⟩ := weight (rmax_mono s n) (rmax_ne_top hs (n + 1))
    congr 1
    rw [mul_comm, ha, coe_mul_sum _ ha0]
    refine Finset.sum_congr rfl fun i hi => ?_
    rw [coe_mul_sum _ ha0]
    refine Finset.sum_congr rfl fun c _ => ?_
    rw [← mul_assoc, ← ha, rescale (le_rmax s (Finset.mem_range.1 hi) c) (rmax_mono s n) (rmax_ne_top hs _)]

end

/-! ## The softmax of a masked row -/

/-- The weighted mean of `v` under the softmax of `f`, as the quotient is taken first. -/
def soft {N : ℕ} (f v : Fin N → EReal) : EReal :=
  ∑ j, v j * Ideal.div (Ideal.exp (f j - max ⊥ (Finset.univ.fold max ⊥ f)))
    (0 + ∑ l, Ideal.exp (f l - max ⊥ (Finset.univ.fold max ⊥ f)))

/-- The recursion over the blocks `0 … n` of a row that is `-∞` after them ends at the softmax's mean. -/
theorem run_eq_soft {J T : ℕ} (f v : Fin (J * T) → EReal) (s w : ℕ → Fin T → EReal) (n : ℕ) (hn : n < J)
    (hs : ∀ i < n + 1, ∀ c, ∀ h : i * T + c.val < J * T, s i c = f ⟨i * T + c.val, h⟩)
    (hw : ∀ i < n + 1, ∀ c, ∀ h : i * T + c.val < J * T, w i c = v ⟨i * T + c.val, h⟩)
    (ht : ∀ i c, s i c ≠ ⊤) (hmask : ∀ j : Fin (J * T), (n + 1) * T ≤ j.val → f j = ⊥)
    (hfin : ∃ j, f j ≠ ⊥) :
    Ideal.div (racc s w (n + 1)) (rsum s (n + 1)) = soft f v := by
  have lt : ∀ i < J, ∀ c : Fin T, i * T + c.val < J * T := fun i hi c => by
    have := c.isLt
    calc i * T + c.val < i * T + T := by omega
      _ = (i + 1) * T := by ring
      _ ≤ J * T := Nat.mul_le_mul_right _ hi
  have tile : ∀ j : Fin (J * T), ∃ i, i < J ∧ ∃ c : Fin T, ∃ h, j = ⟨i * T + c.val, h⟩ := fun j => by
    have hT : 0 < T := by
      rcases Nat.eq_zero_or_pos T with h | h
      · have h0 : J * T = 0 := by rw [h, Nat.mul_zero]
        exact absurd (h0 ▸ Nat.zero_lt_of_lt j.isLt) (lt_irrefl 0)
      · exact h
    refine ⟨j.val / T, Nat.div_lt_of_lt_mul (mul_comm J T ▸ j.isLt), ⟨j.val % T, Nat.mod_lt _ hT⟩, ?_, ?_⟩
    · show j.val / T * T + j.val % T < J * T
      rw [Nat.div_add_mod']; exact j.isLt
    · ext; show j.val = j.val / T * T + j.val % T
      exact (Nat.div_add_mod' _ _).symm
  have beyond : ∀ i, n + 1 ≤ i → ∀ c : Fin T, ∀ h : i * T + c.val < J * T, f ⟨i * T + c.val, h⟩ = ⊥ := fun i hi c h =>
    hmask _ (show (n + 1) * T ≤ i * T + c.val from (Nat.mul_le_mul_right _ hi).trans (Nat.le_add_right _ _))
  set M := rmax s (n + 1) with hM
  have hmax : max ⊥ (Finset.univ.fold max ⊥ f) = M := by
    refine eq_of_forall_ge_iff fun x => ?_
    rw [max_le_iff, Finset.fold_max_le, hM, rmax_le_iff]
    refine ⟨fun ⟨_, _, h⟩ i hi c => hs i hi c (lt i (by omega) c) ▸ h _ (Finset.mem_univ _), fun h => ⟨bot_le, bot_le, fun j _ => ?_⟩⟩
    obtain ⟨i, hi, c, hc, rfl⟩ := tile j
    by_cases hin : i < n + 1
    · exact hs i hin c hc ▸ h i hin c
    · rw [beyond i (by omega) c hc]; exact bot_le
  have hMt : M ≠ ⊤ := rmax_ne_top ht _
  have hle : ∀ j, f j ≤ M := fun j => by
    rw [← hmax]; exact le_max_of_le_right ((Finset.fold_max_le _).1 le_rfl |>.2 j (Finset.mem_univ _))
  -- a sum over the row is the sum over the blocks
  have sums : ∀ (g : Fin (J * T) → EReal) (b : ℕ → Fin T → EReal), (∀ i < n + 1, ∀ c, ∀ h, b i c = g ⟨i * T + c.val, h⟩) →
      (∀ j, f j = ⊥ → g j = 0) → ∑ i ∈ Finset.range (n + 1), ∑ c, b i c = ∑ j, g j := fun g b hb hg => by
    rw [Fin.sum_univ_tiles J T rfl g]
    have e : ∀ i : Fin J, ∑ t : Fin T, g ⟨i.val * T + t.val, lt i i.isLt t⟩ = (fun k => if k < n + 1 then ∑ c, b k c else 0) i.val := fun i => by
      show _ = if i.val < n + 1 then ∑ c, b i.val c else 0
      split_ifs with hi
      · exact Finset.sum_congr rfl fun c _ => (hb i hi c _).symm
      · exact Finset.sum_eq_zero fun c _ => hg _ (beyond i (by omega) c _)
    refine Eq.trans ?_ (Finset.sum_congr rfl fun i _ => (e i).symm)
    rw [Fin.sum_univ_eq_sum_range (fun k => if k < n + 1 then ∑ c, b k c else 0) J]
    rw [← Finset.sum_subset (Finset.range_subset_range.2 (show n + 1 ≤ J by omega))]
    · exact Finset.sum_congr rfl fun i hi => (if_pos (Finset.mem_range.1 hi)).symm
    · intro i _ hi; exact if_neg fun h => hi (Finset.mem_range.2 h)
  have zero : ∀ j, f j = ⊥ → Ideal.exp (f j - M) = 0 := fun j h => by
    rw [h, sub_eq_add_neg, EReal.bot_add, Ideal.exp_bot]
  have hL : rsum s (n + 1) = ∑ j, Ideal.exp (f j - M) := by
    rw [rsum_eq ht, ← hM]
    exact sums _ _ (fun i hi c h => by rw [hs i hi c h]) zero
  have hA : racc s w (n + 1) = ∑ j, Ideal.exp (f j - M) * v j := by
    rw [racc_eq _ ht, ← hM]
    exact sums _ _ (fun i hi c h => by rw [hs i hi c h, hw i hi c h]) fun j h => by rw [zero j h, zero_mul]
  choose p hp hp0 hp1 using fun j => weight (hle j) hMt
  -- the sum is a positive real
  have hpos : ∃ L : ℝ, 0 < L ∧ ∑ j, Ideal.exp (f j - M) = L := by
    refine ⟨∑ j, p j, ?_, ?_⟩
    · obtain ⟨j, hj⟩ := hfin
      refine Finset.sum_pos' (fun i _ => hp0 i) ⟨j, Finset.mem_univ _, ?_⟩
      rcases sub_cases (hle j) hMt with ⟨_, e⟩ | ⟨r, m, hr, hm⟩
      · exact absurd e hj
      · have := hp j
        rw [hr, hm, ← EReal.coe_sub, Ideal.exp_coe] at this
        rw [← EReal.coe_eq_coe_iff.1 this]; exact Real.exp_pos _
    · rw [Finset.sum_congr rfl fun j _ => hp j]; exact (coe_sum _ _).symm
  obtain ⟨L, hL0, hLe⟩ := hpos
  unfold soft
  rw [hmax, zero_add, hL, hA, hLe]
  have hLn : (0 : ℝ) ≤ 1 / L := (one_div_pos.2 hL0).le
  rw [Ideal.div_coe hL0.ne', mul_comm, coe_mul_sum _ hLn]
  refine Finset.sum_congr rfl fun j _ => ?_
  rw [Ideal.div_coe hL0.ne']
  ac_rfl

end Cert.Attn

end
-- ==== Proof.Rows.lean ====
/-
  One row of the kernel's state over the extended reals: the running maximum, sum and weighted sum of that row's masked scores.
-/
module

public import proofs.«01_k».proof.Proof.Step
public import proofs.«01_k».proof.Proof.Online
public import Idealize.ShloMosaic.PureOps.Ideal.Laws
public import Idealize.ShloMosaic.Lib.IdealHost
public import Idealize.ShloMosaic.Lib.WordCmp

@[expose] public section

set_option maxRecDepth 16384

noncomputable section

namespace Cert.Attn

open Cert.KernelIdeal Cert.KernelIdeal.Gen
open Idealize.ShloMosaic
open scoped BigOperators

theorem neg_inf_f32 : Ideal.ofBits .f32 0xFF800000#32 = ⊥ := by simp [Ideal.ofBits, Ideal.ieee]

/-! ## The operations at an index -/

section
variable (mx l : FVec Ideal S512x1 .f32) (s : FVec Ideal S512x512 .f32) (r : Fin 512) (c : Fin 512) (d : Fin 128)

theorem mNew_at : mNew mx s (ix2 r 0) = max (mx (ix2 r 0)) (Finset.univ.fold max ⊥ fun c : Fin 512 => s (ix2 r c)) := by
  pointwise [mNew, neg_inf_f32]

theorem pNew_at : pNew mx s (ix2 r c) = Ideal.exp (s (ix2 r c) - mNew mx s (ix2 r 0)) := by
  pointwise [pNew]

theorem aNew_at : aNew mx s (ix2 r 0) = Ideal.exp (mx (ix2 r 0) - mNew mx s (ix2 r 0)) := by
  pointwise [aNew]

theorem lNew_at : lNew mx l s (ix2 r 0)
    = aNew mx s (ix2 r 0) * l (ix2 r 0) + ∑ c : Fin 512, pNew mx s (ix2 r c) := by
  pointwise [lNew]

theorem select_iff {α : Type} {b : BitVec 1} {P : Prop} [Decidable P] (h : b = 1#1 ↔ P) (x y : α) :
    Scalar.select b x y = if P then x else y := by
  show (if b = 1#1 then x else y) = _
  by_cases hP : P
  · rw [if_pos hP, if_pos (h.2 hP)]
  · rw [if_neg hP, if_neg fun e => hP (h.1 e)]

theorem lanes_lo {e : FTy} (a b : FVec Ideal S512x128 e) (hd : d.val < 64) : lanes a b (ix2 r d) = a (ix2 r d) := by
  pointwise [lanes, first, k0_pay114]
  rw [select_iff (P := d.val < 64) (by word_cmp), if_pos hd]

theorem lanes_hi {e : FTy} (a b : FVec Ideal S512x128 e) (hd : ¬ d.val < 64) : lanes a b (ix2 r d) = b (ix2 r d) := by
  pointwise [lanes, first, k0_pay114]
  rw [select_iff (P := d.val < 64) (by word_cmp), if_neg hd]

theorem spread_at (a : FVec Ideal S512x1 .f32) : spread a (ix2 r d) = a (ix2 r 0) := by pointwise [spread]

theorem pv_at (p : FVec Ideal S512x512 .f32) (v : FVec Ideal S512x128 .bf16) :
    pv p v (ix2 r d) = ∑ c : Fin 512, p (ix2 r c) * v (ix2 c d) := by pointwise [pv]

theorem masked_at : masked s (ix2 r c) = if c.val ≤ r.val then s (ix2 r c) else ⊥ := by
  pointwise [masked, neg_inf_f32]
  exact select_iff (by word_cmp) _ _

theorem zeros_at : zeros (F := Ideal) (ix2 r d) = 0 := by
  pointwise [zeros]

theorem vmat_at (v : Vec Ideal S1x1x512x128 .bf16) : vmat v (ix2 r d) = v (ix4 0 0 r d) := by pointwise [vmat]
end

theorem sc_at (xq : Vec Ideal S1x2x512x128 .bf16) (xk : Vec Ideal S1x2x4096x128 .bf16) (e : Fin 2) (n : ℕ) (r c : Fin 512) :
    mat (sc xq xk e n) (ix2 r c) = ∑ d : Fin 128, xq (ix4 0 e r d) * xk (ix4 0 e (row n c) d) := by
  pointwise [mat, sc, scores, qblk, kblk]

theorem accNew_at (m0 m1 : FVec Ideal S512x1 .f32) (s0 s1 : FVec Ideal S512x512 .f32) (v : Vec Ideal S1x1x512x128 .bf16)
    (acc : FVec Ideal S512x128 .f32) (r : Fin 512) (d : Fin 128) :
    accNew m0 m1 s0 s1 v acc (ix2 r d)
      = acc (ix2 r d) * lanes (spread (aNew m0 s0)) (spread (aNew m1 s1)) (ix2 r d)
        + (pv (pNew m0 s0) (lanes (vmat v) zeros) (ix2 r d) + pv (pNew m1 s1) (lanes zeros (vmat v)) (ix2 r d)) := by
  pointwise [accNew]

theorem out_at (s : St Ideal) (r : Fin 512) (d : Fin 128) :
    s.out (ix3 0 r d) = Ideal.div (s.acc (ix2 r d)) (lanes (spread s.l0) (spread s.l1) (ix2 r d)) := by
  pointwise [St.out]

/-! ## The state -/

section
variable (xq : Vec Ideal S1x2x512x128 .bf16) (xk : Vec Ideal S1x2x4096x128 .bf16) (xv : Vec Ideal S1x1x4096x128 .bf16)

/-- The masked score of query row `r` of block `q` against key `j`. -/
def mrow (q : ℕ) (e : Fin 2) (r : Fin 512) (j : Fin 4096) : EReal :=
  if j.val ≤ 512 * q + r.val then ∑ d : Fin 128, xq (ix4 0 e r d) * xk (ix4 0 e j d) else ⊥

/-- The same by blocks of 512 keys, and the values. -/
def trow (q : ℕ) (e : Fin 2) (r : Fin 512) (i : ℕ) (c : Fin 512) : EReal := mrow xq xk q e r (row i c)
def vrow (d : Fin 128) (i : ℕ) (c : Fin 512) : EReal := xv (ix4 0 0 (row i c) d)

/-- Which head a lane belongs to. -/
def headOf (d : Fin 128) : Fin 2 := if d.val < 64 then 0 else 1

theorem step_m (m : FVec Ideal S512x1 .f32) (s) (r : Fin 512) (t : ℕ → Fin 512 → EReal) (n : ℕ) (hm : m (ix2 r 0) = rmax t n)
    (hs : ∀ c, s (ix2 r c) = t n c) : mNew m s (ix2 r 0) = rmax t (n + 1) := by
  rw [mNew_at, hm, rmax]; simp only [hs]

theorem step_l (m l : FVec Ideal S512x1 .f32) (s) (r : Fin 512) (t : ℕ → Fin 512 → EReal) (n : ℕ) (hm : m (ix2 r 0) = rmax t n)
    (hl : l (ix2 r 0) = rsum t n) (hs : ∀ c, s (ix2 r c) = t n c) : lNew m l s (ix2 r 0) = rsum t (n + 1) := by
  rw [lNew_at, aNew_at, step_m m s r t n hm hs, hm, hl, rsum]
  simp only [pNew_at, step_m m s r t n hm hs, hs]

theorem step_pv (m : FVec Ideal S512x1 .f32) (s) (v : FVec Ideal S512x128 .bf16) (r : Fin 512) (d : Fin 128) (t w : ℕ → Fin 512 → EReal) (n : ℕ)
    (hm : m (ix2 r 0) = rmax t n) (hs : ∀ c, s (ix2 r c) = t n c) (hv : ∀ c, v (ix2 c d) = w n c) :
    pv (pNew m s) v (ix2 r d) = ∑ c, Ideal.exp (t n c - rmax t (n + 1)) * w n c := by
  rw [pv_at]
  simp only [pNew_at, step_m m s r t n hm hs, hs, hv]

theorem pv_zero (p) (v : FVec Ideal S512x128 .bf16) (r : Fin 512) (d : Fin 128) (hv : ∀ c, v (ix2 c d) = 0) : pv p v (ix2 r d) = 0 := by
  rw [pv_at]; exact Finset.sum_eq_zero fun c _ => by rw [hv, mul_zero]

/-- A row of the state after `n` blocks. -/
structure RowAt (q : ℕ) (r : Fin 512) (n : ℕ) (st : St Ideal) : Prop where
  m0 : st.m0 (ix2 r 0) = rmax (trow xq xk q 0 r) n
  m1 : st.m1 (ix2 r 0) = rmax (trow xq xk q 1 r) n
  l0 : st.l0 (ix2 r 0) = rsum (trow xq xk q 0 r) n
  l1 : st.l1 (ix2 r 0) = rsum (trow xq xk q 1 r) n
  acc : ∀ d, st.acc (ix2 r d) = racc (trow xq xk q (headOf d) r) (vrow xv d) n

variable {xq xk xv}

theorem RowAt.next {q : ℕ} {r : Fin 512} {n : ℕ} {st : St Ideal} (h : RowAt xq xk xv q r n st) {s0 s1 : FVec Ideal S512x512 .f32}
    (h0 : ∀ c, s0 (ix2 r c) = trow xq xk q 0 r n c) (h1 : ∀ c, s1 (ix2 r c) = trow xq xk q 1 r n c) :
    RowAt xq xk xv q r (n + 1) (st.next s0 s1 (vblk xv n)) where
  m0 := step_m _ _ _ _ _ h.m0 h0
  m1 := step_m _ _ _ _ _ h.m1 h1
  l0 := step_l _ _ _ _ _ _ h.m0 h.l0 h0
  l1 := step_l _ _ _ _ _ _ h.m1 h.l1 h1
  acc d := by
    show accNew st.m0 st.m1 s0 s1 (vblk xv n) st.acc (ix2 r d) = _
    rw [accNew_at, h.acc]
    by_cases hd : d.val < 64
    · have hh : headOf d = 0 := if_pos hd
      rw [hh, lanes_lo _ _ _ _ hd, spread_at, aNew_at, step_m _ _ _ _ _ h.m0 h0, h.m0,
        step_pv _ _ _ r d _ (vrow xv d) n h.m0 h0 (fun c => by rw [lanes_lo _ _ _ _ hd, vmat_at]; rfl),
        pv_zero _ _ _ _ (fun c => by rw [lanes_lo _ _ _ _ hd, zeros_at]), add_zero, racc]
    · have hh : headOf d = 1 := if_neg hd
      rw [hh, lanes_hi _ _ _ _ hd, spread_at, aNew_at, step_m _ _ _ _ _ h.m1 h1, h.m1,
        step_pv _ _ _ r d _ (vrow xv d) n h.m1 h1 (fun c => by rw [lanes_hi _ _ _ _ hd, vmat_at]; rfl),
        pv_zero _ _ _ _ (fun c => by rw [lanes_hi _ _ _ _ hd, zeros_at]), zero_add, racc]

theorem start_row (q : ℕ) (r : Fin 512) : RowAt xq xk xv q r 0 St.start where
  m0 := by pointwise [St.start, k0_pay116, neg_inf_f32, rmax]
  m1 := by pointwise [St.start, k0_pay116, neg_inf_f32, rmax]
  l0 := by pointwise [St.start, k0_pay117, rsum]
  l1 := by pointwise [St.start, k0_pay117, rsum]
  acc d := by pointwise [St.start, k0_pay115, racc]

theorem row_val (n : ℕ) (hn : n < 8) (c : Fin 512) : (row n c).val = 512 * n + c.val := by
  have := c.isLt
  show (512 * n + c.val) % 4096 = _
  exact Nat.mod_eq_of_lt (by omega)

theorem state_row {q : ℕ} (hq : q < 8) (r : Fin 512) (n : ℕ) (hn : n ≤ q) : RowAt xq xk xv q r n (state xq xk xv n) := by
  induction n with
  | zero => exact start_row q r
  | succ n ih =>
    have key : ∀ e c, mat (sc xq xk e n) (ix2 r c) = trow xq xk q e r n c := fun e c => by
      have := c.isLt
      rw [sc_at, trow, mrow, if_pos (by rw [row_val n (by omega)]; omega)]
    exact (ih (by omega)).next (key 0) (key 1)

theorem fin_row {q : ℕ} (hq : q < 8) (r : Fin 512) : RowAt xq xk xv q r (q + 1) (fin xq xk xv q) := by
  have key : ∀ e c, masked (mat (sc xq xk e q)) (ix2 r c) = trow xq xk q e r q c := fun e c => by
    rw [masked_at, sc_at, trow, mrow]
    by_cases h : c.val ≤ r.val
    · rw [if_pos h, if_pos (by rw [row_val q hq]; omega)]
    · rw [if_neg h, if_neg (by rw [row_val q hq]; omega)]
  exact (state_row hq r q le_rfl).next (key 0) (key 1)

/-- What the body stores at row `r`, lane `d` of query block `q`: the softmax's weighted mean. -/
theorem out_row {q : ℕ} (hq : q < 8) (r : Fin 512) (d : Fin 128)
    (hreal : ∀ e j, ∃ x : ℝ, ∑ d : Fin 128, xq (ix4 0 e r d) * xk (ix4 0 e j d) = x) :
    out xq xk xv q (ix3 0 r d) = soft (mrow xq xk q (headOf d) r) fun j => xv (ix4 0 0 j d) := by
  have h := fin_row (xv := xv) hq r (xq := xq) (xk := xk)
  have hl : lanes (spread (fin xq xk xv q).l0) (spread (fin xq xk xv q).l1) (ix2 r d) = rsum (trow xq xk q (headOf d) r) (q + 1) := by
    by_cases hd : d.val < 64
    · rw [lanes_lo _ _ _ _ hd, spread_at, h.l0, headOf, if_pos hd]
    · rw [lanes_hi _ _ _ _ hd, spread_at, h.l1, headOf, if_neg hd]
  unfold out
  rw [out_at, hl, h.acc]
  have hrow : ∀ i < q + 1, ∀ c : Fin 512, ∀ hh : i * 512 + c.val < 8 * 512, row i c = ⟨i * 512 + c.val, hh⟩ := fun i hi c hh => by
    ext; rw [row_val i (by omega)]; show _ = i * 512 + c.val; omega
  have hne : ∀ j, mrow xq xk q (headOf d) r j ≠ ⊤ := fun j => by
    obtain ⟨x, hx⟩ := hreal (headOf d) j
    unfold mrow; split_ifs
    · rw [hx]; exact EReal.coe_ne_top _
    · exact bot_ne_top
  have hr := r.isLt
  refine run_eq_soft (J := 8) (T := 512) (mrow xq xk q (headOf d) r) (fun j => xv (ix4 0 0 j d)) _ _ q hq
    (fun i hi c hh => by rw [trow, hrow i hi c hh]) (fun i hi c hh => by rw [vrow, hrow i hi c hh]) (fun i c => hne _)
    (fun j hj => if_neg (by omega)) ⟨⟨512 * q + r.val, by omega⟩, ?_⟩
  obtain ⟨x, hx⟩ := hreal (headOf d) ⟨512 * q + r.val, by omega⟩
  rw [mrow, if_pos le_rfl, hx]; exact EReal.coe_ne_bot _

end

end Cert.Attn

end
-- ==== Proof.Value.lean ====
/-
  The kernel's result array after the run, over the extended reals: every element is the softmax-weighted mean of its head's values.
-/
module

public import proofs.«01_k».proof.Proof.Run
public import proofs.«01_k».proof.Proof.Rows
public import Idealize.ShloMosaic.Lib.Pipeline.ValueKit

@[expose] public section

set_option maxRecDepth 16384

noncomputable section

namespace Cert.Attn

open Cert.KernelIdeal Cert.KernelIdeal.Gen
open Idealize.ShloMosaic Idealize.ShloMosaic.TcCoe Idealize.SL.Sem
open Idealize.ShloMosaic.Pipeline (Dat)
open scoped BigOperators

/-- The head lane `l` of the result belongs to, the pair of heads, and the lane within the pair. -/
def headAt (l : Fin 512) : Fin 8 := ⟨l.val / 64, by omega⟩
def pairAt (l : Fin 512) : Fin 4 := ⟨l.val / 128, by omega⟩
def laneAt (l : Fin 512) : Fin 128 := ⟨l.val % 128, by omega⟩

/-- The score of query `i` against key `j`. -/
def score (q k : FVec Ideal S8x8x4096x128 .bf16) (b h : Fin 8) (i j : Fin 4096) : EReal := ∑ d : Fin 128, q (ix4 b h i d) * k (ix4 b h j d)

/-- Masked softmax attention of the arguments, element by element. -/
def attn (q k : FVec Ideal S8x8x4096x128 .bf16) (v : FVec Ideal S8x4x4096x128 .bf16) (b : Fin 8) (i : Fin 4096) (l : Fin 512) : EReal :=
  soft (fun j : Fin 4096 => if j.val ≤ i.val then score q k b (headAt l) i j else ⊥) fun j => v (ix4 b (pairAt l) j (laneAt l))

variable (m : (ℓ : Loc nD τ sig) → Buf (Elt Ideal) ℓ)

theorem idx : ∀ t : Fin cfg0.N,
    win0_0.index t = ![(grid0.coords t 0).val, (grid0.coords t 1).val, (grid0.coords t 2).val, 0]
    ∧ win0_1.index t = ![(grid0.coords t 0).val, (grid0.coords t 1).val, 0, 0]
    ∧ win0_2.index t = ![(grid0.coords t 0).val, (grid0.coords t 1).val, 0, 0]
    ∧ win0_3.index t = ![(grid0.coords t 0).val, (grid0.coords t 2).val, (grid0.coords t 1).val] :=
  (by decide +kernel : ∀ t : Fin grid0.N, _)

/-- The argument arrays. -/
def argQ (c : Dev nD) : FVec Ideal S8x8x4096x128 .bf16 := m ((c : Thread nD τ).loc main_arg0)
def argK (c : Dev nD) : FVec Ideal S8x8x4096x128 .bf16 := m ((c : Thread nD τ).loc main_arg1)
def argV (c : Dev nD) : FVec Ideal S8x4x4096x128 .bf16 := m ((c : Thread nD τ).loc main_arg2)

/-- The blocks a grid point is given, read at their elements. -/
theorem q_at (c : Dev nD) (t : Fin cfg0.N) (e : Fin 2) (r : Fin 512) (d : Fin 128) (b h : Fin 8) (i : Fin 4096)
    (hb : b.val = (grid0.coords t 0).val) (hh : h.val = (grid0.coords t 1).val * 2 + e.val)
    (hi : i.val = (grid0.coords t 2).val * 512 + r.val) :
    (show FVec Ideal S1x2x512x128 .bf16 from iblk m c 0 t) (ix4 0 e r d) = argQ m c (ix4 b h i d) := by
  unfold argQ
  blk_ext [iblk, V, idx t]

theorem k_at (c : Dev nD) (t : Fin cfg0.N) (e : Fin 2) (j : Fin 4096) (d : Fin 128) (b h : Fin 8)
    (hb : b.val = (grid0.coords t 0).val) (hh : h.val = (grid0.coords t 1).val * 2 + e.val) :
    (show FVec Ideal S1x2x4096x128 .bf16 from iblk m c 1 t) (ix4 0 e j d) = argK m c (ix4 b h j d) := by
  unfold argK
  blk_ext [iblk, V, idx t]

theorem v_at (c : Dev nD) (t : Fin cfg0.N) (j : Fin 4096) (d : Fin 128) (b : Fin 8) (h : Fin 4)
    (hb : b.val = (grid0.coords t 0).val) (hh : h.val = (grid0.coords t 1).val) :
    (show FVec Ideal S1x1x4096x128 .bf16 from iblk m c 2 t) (ix4 0 0 j d) = argV m c (ix4 b h j d) := by
  unfold argV
  blk_ext [iblk, V, idx t]

/-- One element of a point's tile. -/
theorem outAt_at (c : Dev nD) (hreal : ∀ b h i j, ∃ x : ℝ, score (argQ m c) (argK m c) b h i j = x) (t : Fin cfg0.N)
    (r : Fin 512) (d : Fin 128) (b : Fin 8) (i : Fin 4096) (l : Fin 512) (hb : b.val = (grid0.coords t 0).val)
    (hi : i.val = (grid0.coords t 2).val * 512 + r.val) (hl : l.val = (grid0.coords t 1).val * 128 + d.val) :
    outAt m c t (ix3 0 r d) = attn (argQ m c) (argK m c) (argV m c) b i l := by
  have hg : (grid0.coords t 1).val < 4 := (grid0.coords t 1).isLt
  have hsc : ∀ (e : Fin 2) (j : Fin 4096) (h : Fin 8), h.val = (grid0.coords t 1).val * 2 + e.val →
      ∑ d : Fin 128, (show FVec Ideal S1x2x512x128 .bf16 from iblk m c 0 t) (ix4 0 e r d)
        * (show FVec Ideal S1x2x4096x128 .bf16 from iblk m c 1 t) (ix4 0 e j d) = score (argQ m c) (argK m c) b h i j := fun e j h hh =>
    Finset.sum_congr rfl fun d _ => by rw [q_at m c t e r d b h i hb hh hi, k_at m c t e j d b h hb hh]
  unfold outAt
  refine (out_row (show (grid0.coords t 2).val < 8 from (grid0.coords t 2).isLt) r d fun e j => ?_).trans ?_
  · obtain ⟨x, hx⟩ := hreal b ⟨(grid0.coords t 1).val * 2 + e.val, by omega⟩ i j
    exact ⟨x, (hsc e j _ rfl).trans hx⟩
  · have hh : (headAt l).val = (grid0.coords t 1).val * 2 + (headOf d).val := by
      have hd := d.isLt
      unfold headAt headOf
      show l.val / 64 = _
      split_ifs
      · show _ = _ * 2 + 0; omega
      · show _ = _ * 2 + 1; omega
    unfold attn
    congr 1
    · funext j
      unfold mrow
      rw [hsc _ j _ hh, hi, mul_comm]
    · funext j
      exact (v_at m c t j d b (pairAt l) hb (by show l.val / 128 = _; have := d.isLt; omega)).trans
        (by congr 2; exact Fin.ext (by show d.val = l.val % 128; have := d.isLt; omega))

/-- The result array after the run. -/
def result (c : Dev nD) : FVec Ideal S8x4096x512 .bf16 := fun y => attn (argQ m c) (argK m c) (argV m c) (y 0) (y 1) (y 2)

/-- Where the result's block of a grid point lies. -/
theorem out_place (t : Fin cfg0.N) (y : Fin 1) (r : Fin 512) (d : Fin 128) (b : Fin 8) (i : Fin 4096) (l : Fin 512)
    (hb : b.val = (grid0.coords t 0).val) (hi : i.val = (grid0.coords t 2).val * 512 + r.val)
    (hl : l.val = (grid0.coords t 1).val * 128 + d.val) :
    ((cfg0.win 3).blk t).view.emb (ix3 y r d) = (ix3 b i l : S8x4096x512.Idx) := by
  blk_ext [idx t]

theorem final (c : Dev nD) (hreal : ∀ b h i j, ∃ x : ℝ, score (argQ m c) (argK m c) b h i j = x) :
    (dats m 0 c).arrAt 3 (cfgs 0).N = result m c := by
  refine (dats m 0 c).arrAt_eq_of_covers 3 _ (by decide +kernel) fun t _ y => ?_
  blk_simp
  rw [after0_3]
  idx_vars y
  have hb : (grid0.coords t 0).val < 8 := (grid0.coords t 0).isLt
  have hp : (grid0.coords t 1).val < 4 := (grid0.coords t 1).isLt
  have hq : (grid0.coords t 2).val < 8 := (grid0.coords t 2).isLt
  obtain rfl : y0 = 0 := Subsingleton.elim _ _
  refine Eq.trans ?_ (congrArg (result m c) (out_place t 0 y1 y2 ⟨_, hb⟩ ⟨(grid0.coords t 2).val * 512 + y1.val, by omega⟩
    ⟨(grid0.coords t 1).val * 128 + y2.val, by omega⟩ rfl rfl rfl)).symm
  exact outAt_at m c hreal t _ _ _ _ _ rfl rfl rfl

end Cert.Attn

end
-- ==== Proof.Ref.lean ====
/-
  The reference's result, read at one element.
-/
module

public import proofs.«01_k».proof.Proof.Gen.ReferenceIdeal.Run
public import proofs.«01_k».proof.Proof.Value
public import Idealize.ShloMosaic.Lib.Pointwise

@[expose] public section

set_option maxRecDepth 16384

noncomputable section

namespace Cert.ReferenceIdeal.Attn

open Cert.ReferenceIdeal Cert.ReferenceIdeal.Gen
open Idealize.ShloMosaic Idealize.ShloMosaic.TcCoe
open scoped BigOperators

abbrev Scores : Type := FVec Ideal S8x8x4096x4096 .f32

/-- The reference's steps: scores, mask, row maximum, weights, and the weighted sum of the values. -/
def scores (q k : FVec Ideal S8x8x4096x128 .bf16) : Scores :=
  Host.dotGeneral dot_S8x8x4096x128_S8x8x4096x128_S8x8x4096x4096_3_3_2_2_01_01 none (extf .f32 q bitsLt_bf16_f32) (extf .f32 k bitsLt_bf16_f32)

def mask (s : Scores) : Scores :=
  select (broadcastInDim S8x8x4096x4096 ![2, 3] bcast_S4096x4096_S8x8x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0))))) s
    (broadcastInDim S8x8x4096x4096 ![] bcast_S_S8x8x4096x4096 (id (constant S_ .f32 0xFF800000#32)))

def spreadRow (x : FVec Ideal S8x8x4096 .f32) : Scores :=
  broadcastInDim S8x8x4096x4096 ![0, 1, 2, 3] bcast_S8x8x4096x1_S8x8x4096x4096_0_1_2_3 (broadcastInDim S8x8x4096x1 ![0, 1, 2] bcast_S8x8x4096_S8x8x4096x1_0_1_2 x)

def rowMax (f : Scores) : FVec Ideal S8x8x4096 .f32 :=
  maximumf (broadcastInDim S8x8x4096 ![] bcast_S_S8x8x4096 (constant S_ .f32 0xFF800000#32))
    (Host.reduce FloatOps.maximumf f (constant S_ .f32 0xFF800000#32) reducesTo_S8x8x4096x4096_S8x8x4096_d3 h_S_)

def weights (f : Scores) : Scores := Host.exp (subf f (spreadRow (rowMax f)))

def rowSum (e : Scores) : FVec Ideal S8x8x4096 .f32 :=
  Host.reduceAdd e (constant S_ .f32 0x00000000#32) reducesTo_S8x8x4096x4096_S8x8x4096_d3 h_S_

def shares (e : Scores) : Scores := Host.divf e (spreadRow (rowSum e))

def values (v : FVec Ideal S8x4x4096x128 .bf16) : FVec Ideal S8x8x4096x64 .f32 :=
  shapeCast _ (transpose S8x4x2x4096x64 [0, 1, 3, 2, 4] (shapeCast _ (extf .f32 v bitsLt_bf16_f32) shapeCasts_S8x4x4096x128_S8x4x4096x2x64) transposes_S8x4x4096x2x64_S8x4x2x4096x64_0_1_3_2_4) shapeCasts_S8x4x2x4096x64_S8x8x4096x64

def mix (v : FVec Ideal S8x8x4096x64 .f32) (p : Scores) : FVec Ideal S8x8x64x4096 .f32 :=
  Host.dotGeneral dot_S8x8x4096x64_S8x8x4096x4096_S8x8x64x4096_2_3_3_2_01_01 none v p

def join (o : FVec Ideal S8x8x64x4096 .f32) : FVec Ideal S8x4096x512 .bf16 :=
  truncf .bf16 (shapeCast _ (transpose S8x4096x8x64 [0, 3, 1, 2] o transposes_S8x8x64x4096_S8x4096x8x64_0_3_1_2) shapeCasts_S8x4096x8x64_S8x4096x512) bitsLt_bf16_f32

theorem res_eq (m : (ℓ : Loc nD τ sig) → Buf (Elt Ideal) ℓ) (c : Dev nD) :
    Value.res_out0 m c = join (mix (values (m ((c : Thread nD τ).loc main_arg2)))
      (shares (weights (mask (scores (m ((c : Thread nD τ).loc main_arg0)) (m ((c : Thread nD τ).loc main_arg1))))))) := rfl

theorem scores_at (q k) (b h : Fin 8) (i j : Fin 4096) : scores q k (ix4 b h i j) = Cert.Attn.score q k b h i j := by
  pointwise [scores, Cert.Attn.score]

theorem mask_at (s : Scores) (b h : Fin 8) (i j : Fin 4096) : mask s (ix4 b h i j) = if j.val ≤ i.val then s (ix4 b h i j) else ⊥ := by
  have hi := i.isLt
  have hj := j.isLt
  refine Eq.trans ?_ (Cert.Attn.select_iff (b := IntOp.cmpi .sle (BitVec.ofNat 32 j.val) (BitVec.ofNat 32 i.val)) (by word_cmp) _ _)
  rw [← Cert.Attn.neg_inf_f32]
  pointwise [mask]
  rfl

theorem spreadRow_at (x) (b h : Fin 8) (i j : Fin 4096) : spreadRow x (ix4 b h i j) = x (ix3 b h i) := by
  pointwise [spreadRow]

/-- A row maximum at an element, whatever the sizes. -/
theorem reduce_max_at {A B C D : ℕ} {u : Shape} (x : FVec Ideal ⟨4, ![A, B, C, D]⟩ .f32) (init : u.Idx → EReal)
    (h : (⟨4, ![A, B, C, D]⟩ : Shape).ReducesTo [3] ⟨3, ![A, B, C]⟩) (hu : 0 < u.numel) (a : Fin A) (b : Fin B) (c : Fin C) :
    Host.reduce (FloatOps.maximumf (F := Ideal) (φ := .f32)) x init h hu (ix3 a b c)
      = Finset.univ.fold max (init (Shape.Idx.first hu)) fun j : Fin D => x (ix4 a b c j) := by
  show Host.reduce (max : EReal → EReal → EReal) x init h hu (ix3 a b c) = _
  rw [Host.reduce_eq_fold, Shape.ReducesTo.fold_fiber_r4_a3]
  rfl

theorem maxf_at {s : Shape} (x y : FVec Ideal s .f32) (i : s.Idx) : maximumf x y i = max (x i) (y i) := rfl

theorem rowMax_at (f : Scores) (b h : Fin 8) (i : Fin 4096) :
    rowMax f (ix3 b h i) = max ⊥ (Finset.univ.fold max ⊥ fun j : Fin 4096 => f (ix4 b h i j)) := by
  rw [rowMax, maxf_at, reduce_max_at]
  exact congrArg₂ max Cert.Attn.neg_inf_f32 (by rw [show constant (F := Ideal) S_ .f32 0xFF800000#32 (Shape.Idx.first h_S_) = ⊥ from Cert.Attn.neg_inf_f32])

theorem weights_at (f : Scores) (b h : Fin 8) (i j : Fin 4096) :
    weights f (ix4 b h i j) = Ideal.exp (f (ix4 b h i j) - rowMax f (ix3 b h i)) := by
  rw [← spreadRow_at (rowMax f) b h i j]
  rfl

theorem rowSum_at (e : Scores) (b h : Fin 8) (i : Fin 4096) : rowSum e (ix3 b h i) = 0 + ∑ j : Fin 4096, e (ix4 b h i j) := by
  pointwise [rowSum]

theorem shares_at (e : Scores) (b h : Fin 8) (i j : Fin 4096) :
    shares e (ix4 b h i j) = Ideal.div (e (ix4 b h i j)) (rowSum e (ix3 b h i)) := by
  rw [← spreadRow_at (rowSum e) b h i j]
  rfl

theorem values_at (v) (b h : Fin 8) (j : Fin 4096) (d : Fin 64) (p : Fin 4) (l : Fin 128) (hp : p.val = h.val / 2)
    (hl : l.val = h.val % 2 * 64 + d.val) : values v (ix4 b h j d) = v (ix4 b p j l) := by
  have hp' : h.val / 2 < 4 := by have := h.isLt; omega
  have hl' : h.val % 2 * 64 + d.val < 128 := by have := d.isLt; omega
  obtain rfl : p = ⟨h.val / 2, hp'⟩ := Fin.ext hp
  obtain rfl : l = ⟨h.val % 2 * 64 + d.val, hl'⟩ := Fin.ext hl
  pointwise [values]

theorem mix_at (v p) (b h : Fin 8) (d : Fin 64) (i : Fin 4096) :
    mix v p (ix4 b h d i) = ∑ j : Fin 4096, v (ix4 b h j d) * p (ix4 b h i j) := by
  pointwise [mix]

theorem join_at (o) (b h : Fin 8) (i : Fin 4096) (l : Fin 512) (d : Fin 64) (hh : h.val = l.val / 64) (hd : d.val = l.val % 64) :
    join o (ix3 b i l) = o (ix4 b h d i) := by
  have hh' : l.val / 64 < 8 := by have := l.isLt; omega
  have hd' : l.val % 64 < 64 := Nat.mod_lt _ (by decide)
  obtain rfl : h = ⟨l.val / 64, hh'⟩ := Fin.ext hh
  obtain rfl : d = ⟨l.val % 64, hd'⟩ := Fin.ext hd
  pointwise [join]

/-- The reference's result is masked softmax attention, element by element. -/
theorem res_at (m : (ℓ : Loc nD τ sig) → Buf (Elt Ideal) ℓ) (c : Dev nD) (b : Fin 8) (i : Fin 4096) (l : Fin 512) :
    (show FVec Ideal S8x4096x512 .bf16 from Value.res_out0 m c) (ix3 b i l)
      = Cert.Attn.attn (m ((c : Thread nD τ).loc main_arg0)) (m ((c : Thread nD τ).loc main_arg1)) (m ((c : Thread nD τ).loc main_arg2)) b i l := by
  have hl := l.isLt
  have hd : l.val % 64 < 64 := Nat.mod_lt _ (by decide)
  rw [res_eq]
  refine (join_at _ b (Cert.Attn.headAt l) i l ⟨l.val % 64, hd⟩ rfl rfl).trans ?_
  rw [mix_at]
  unfold Cert.Attn.attn Cert.Attn.soft
  refine Finset.sum_congr rfl fun j _ => ?_
  rw [values_at _ b (Cert.Attn.headAt l) j ⟨l.val % 64, hd⟩ (Cert.Attn.pairAt l) (Cert.Attn.laneAt l)
    (by show l.val / 128 = l.val / 64 / 2; omega) (by show l.val % 128 = l.val / 64 % 2 * 64 + l.val % 64; omega)]
  simp only [shares_at, rowSum_at, weights_at, rowMax_at, mask_at, scores_at]

end Cert.ReferenceIdeal.Attn

end
-- ==== Proof.Finite.lean ====
/-
  The precondition: every query and every key is a real number, so every score is one.
-/
module

public import proofs.«01_k».proof.Pre_finite
public import proofs.«01_k».proof.Proof.Online
public import Idealize.ShloMosaic.PureOps.Ideal.Laws
public import Idealize.ShloMosaic.Lib.Pointwise
public import Idealize.ShloMosaic.Lib.WordCmp

@[expose] public section

set_option maxRecDepth 16384

noncomputable section

namespace Cert.Pre_finite

open Idealize.ShloMosaic
open scoped BigOperators

theorem facts : Facts := ⟨by decide, by decide⟩

attribute [local instance] facts

theorem inf_f32 : Ideal.ofBits .f32 0x7F800000#32 = ⊤ := by simp [Ideal.ofBits, Ideal.ieee]

theorem real_of_abs (x : EReal) (h : max x (-x) < ⊤) : ∃ r : ℝ, x = r := by
  induction x with
  | bot => simp at h
  | top => simp at h
  | coe r => exact ⟨r, rfl⟩

theorem real_of_bit (x : EReal) (h : Ideal.cmp .olt (max x (-x)) (Ideal.ofBits .f32 0x7F800000#32) = 1#1) : ∃ r : ℝ, x = r := by
  refine real_of_abs x ?_
  rw [inf_f32, Ideal.cmp_olt] at h
  by_contra hn
  simp [hn] at h

theorem and_bits : ∀ a b : BitVec 1, a &&& b = 1#1 → a = 1#1 ∧ b = 1#1 := by decide

theorem real_of_fn {q k : FVec Ideal S8x8x4096x128 .bf16} {v : FVec Ideal S8x4x4096x128 .bf16} (h : fn q k v = fun _ => 1#1)
    (i : S8x8x4096x128.Idx) : (∃ r : ℝ, q i = r) ∧ ∃ r : ℝ, k i = r := by
  have hi := and_bits _ _ (congrFun h i)
  exact ⟨real_of_bit _ hi.1, real_of_bit _ hi.2⟩

end Cert.Pre_finite

end
-- ==== Proof.Merge.lean ====
/-
  The merge of the three branches: the kernel's result over the extended reals, element by element.
-/
module

public import proofs.«01_k».proof.Proof.Gen.Kernel2Ideal.Value
public import Idealize.ShloMosaic.Lib.Pipeline.ValueKit
public import Idealize.ShloMosaic.Lib.Pointwise

@[expose] public section

set_option maxRecDepth 16384

noncomputable section

namespace Cert.Merge

open Cert.Kernel2Ideal Cert.Kernel2Ideal.Gen
open Idealize.ShloMosaic Idealize.ShloMosaic.TcCoe Idealize.SL.Sem
open Idealize.ShloMosaic.Pipeline (Dat)
open scoped BigOperators

/-- A branch's lane, gated by silu. -/
def gated (y g : EReal) : EReal := y * (g * Ideal.logistic g)

/-- The projection of one gated branch, weighted by its merge gate. -/
def branch (y g w : Fin 512 → EReal) (s : EReal) : EReal := (∑ k : Fin 512, gated (y k) (g k) * w k) * Ideal.logistic s

/-- A row after the root-mean-square norm, at one lane. -/
def normed (o : Fin 1024 → EReal) (g : EReal) (d : Fin 1024) : EReal :=
  o d * Ideal.rsqrt (Ideal.div (∑ k : Fin 1024, o k * o k) (Ideal.ofBits FTy.f32 0x44800000#32) + Ideal.ofBits FTy.f32 0x358637BD#32) * g

theorem pay2_at (y0 g0 : Vec Ideal S512x512 .bf16) (w0 : Vec Ideal S1x512x1024 .bf16) (m0 : Vec Ideal S512x1024 .bf16) (y1 g1 : Vec Ideal S512x512 .bf16)
    (w1 : Vec Ideal S1x512x1024 .bf16) (m1 : Vec Ideal S512x1024 .bf16) (r : Fin 512) (e : Fin 1024) :
    k0_pay2 (F := Ideal) y0 g0 w0 m0 y1 g1 w1 m1 (ix2 r e)
      = branch (fun k => y0 (ix2 r k)) (fun k => g0 (ix2 r k)) (fun k => w0 (ix3 0 k e)) (m0 (ix2 r e))
        + branch (fun k => y1 (ix2 r k)) (fun k => g1 (ix2 r k)) (fun k => w1 (ix3 0 k e)) (m1 (ix2 r e)) := by
  pointwise [k0_pay2, branch, gated]

theorem pay1_at (b : FVec Ideal S512x1024 .f32) (y g : FVec Ideal S512x512 .f32) (w : Vec Ideal S1x512x1024 .bf16) (s : Vec Ideal S512x1024 .bf16)
    (wo : Vec Ideal S1024x1024 .bf16) (x : Vec Ideal S512x1024 .f32) (p : Vec Ideal S1x1024 .f32) (r : Fin 512) (d : Fin 1024) :
    k0_pay1 (F := Ideal) b y g w s wo x p (ix2 r d)
      = x (ix2 r d) + normed (fun d => ∑ e : Fin 1024, (b (ix2 r e)
          + branch (fun k => y (ix2 r k)) (fun k => g (ix2 r k)) (fun k => w (ix3 0 k e)) (s (ix2 r e))) * wo (ix2 e d)) (p (ix2 0 d)) d := by
  pointwise [k0_pay1, normed, branch, gated]

abbrev Rows (n : ℕ) : Type := Fin 32768 → Fin n → EReal

/-- The three branches of one row, mixed, at one lane. -/
def mixed (y0 y1 y2 : Rows 512) (gate : Rows 1536) (mg : Rows 3072) (wb : Fin 3 → Fin 512 → Fin 1024 → EReal) (r : Fin 32768) (e : Fin 1024) : EReal :=
  branch (y0 r) (fun k => gate r ⟨k.val, by omega⟩) (fun k => wb 0 k e) (mg r ⟨e.val, by omega⟩)
    + branch (y1 r) (fun k => gate r ⟨512 + k.val, by omega⟩) (fun k => wb 1 k e) (mg r ⟨1024 + e.val, by omega⟩)
    + branch (y2 r) (fun k => gate r ⟨1024 + k.val, by omega⟩) (fun k => wb 2 k e) (mg r ⟨2048 + e.val, by omega⟩)

/-- The layer's output: the row plus the normed projection of the mixed branches. -/
def merged (x : Rows 1024) (y0 y1 y2 : Rows 512) (gate : Rows 1536) (mg : Rows 3072) (wb : Fin 3 → Fin 512 → Fin 1024 → EReal)
    (wo : Fin 1024 → Fin 1024 → EReal) (p : Fin 1024 → EReal) (r : Fin 32768) (d : Fin 1024) : EReal :=
  x r d + normed (fun d => ∑ e : Fin 1024, mixed y0 y1 y2 gate mg wb r e * wo e d) (p d) d

variable (m : (ℓ : Loc nD τ sig) → Buf (Elt Ideal) ℓ)

theorem idx : ∀ t : Fin cfg0.N,
    win0_0.index t = ![t.val, 0] ∧ win0_1.index t = ![t.val, 0] ∧ win0_2.index t = ![t.val, 0] ∧ win0_3.index t = ![t.val, 0]
    ∧ win0_4.index t = ![t.val, 0] ∧ win0_5.index t = ![t.val, 0] ∧ win0_6.index t = ![0, 0, 0] ∧ win0_7.index t = ![0, 0]
    ∧ win0_8.index t = ![0, 0] ∧ win0_9.index t = ![t.val, 0] ∧ t.val < 64 :=
  (by decide +kernel : ∀ t : Fin grid0.N, _)

/-- The arguments, by coordinates. -/
def rowsX (c : Dev nD) : Rows 1024 := fun r d => (show FVec Ideal S32768x1024 .f32 from m ((c : Thread nD τ).loc main_arg0)) (ix2 r d)
def rowsA (c : Dev nD) : Rows 512 := fun r k => (show FVec Ideal S32768x512 .bf16 from m ((c : Thread nD τ).loc main_arg1)) (ix2 r k)
def rowsB (c : Dev nD) : Rows 512 := fun r k => (show FVec Ideal S32768x512 .bf16 from m ((c : Thread nD τ).loc main_arg2)) (ix2 r k)
def rowsC (c : Dev nD) : Rows 512 := fun r k => (show FVec Ideal S32768x512 .bf16 from m ((c : Thread nD τ).loc main_arg3)) (ix2 r k)
def rowsGate (c : Dev nD) : Rows 1536 := fun r k => (show FVec Ideal S32768x1536 .bf16 from m ((c : Thread nD τ).loc main_arg4)) (ix2 r k)
def rowsMix (c : Dev nD) : Rows 3072 := fun r k => (show FVec Ideal S32768x3072 .bf16 from m ((c : Thread nD τ).loc main_arg5)) (ix2 r k)
def wBranch (c : Dev nD) : Fin 3 → Fin 512 → Fin 1024 → EReal := fun n k e => (show FVec Ideal S3x512x1024 .f32 from m ((c : Thread nD τ).loc main_arg6)) (ix3 n k e)
def wOut (c : Dev nD) : Fin 1024 → Fin 1024 → EReal := fun e d => (show FVec Ideal S1024x1024 .f32 from m ((c : Thread nD τ).loc main_arg7)) (ix2 e d)
def gNorm (c : Dev nD) : Fin 1024 → EReal := fun d => (show FVec Ideal S1024 .f32 from m ((c : Thread nD τ).loc main_arg8)) (ix1 d)

/-- The layer's output of the arguments. -/
def result (c : Dev nD) : FVec Ideal S32768x1024 .f32 := fun i =>
  merged (rowsX m c) (rowsA m c) (rowsB m c) (rowsC m c) (rowsGate m c) (rowsMix m c) (wBranch m c) (wOut m c) (gNorm m c) (i 0) (i 1)

theorem x_at (c : Dev nD) (t : Fin cfg0.N) (r : Fin 512) (d : Fin 1024) (R : Fin 32768) (hR : R.val = t.val * 512 + r.val) :
    (show FVec Ideal S512x1024 .f32 from iblk m c 0 t) (ix2 r d) = rowsX m c R d := by
  unfold rowsX
  blk_ext [iblk, V, idx t]

theorem wo_at (c : Dev nD) (t : Fin cfg0.N) (e d : Fin 1024) : (show FVec Ideal S1024x1024 .bf16 from iblk m c 7 t) (ix2 e d) = wOut m c e d := by
  unfold wOut
  blk_point [iblk, idx t]

theorem p_at (c : Dev nD) (t : Fin cfg0.N) (d : Fin 1024) : (show FVec Ideal S1x1024 .f32 from iblk m c 8 t) (ix2 0 d) = gNorm m c d := by
  unfold gNorm
  blk_point [iblk, idx t]

theorem branches_at (c : Dev nD) (t : Fin cfg0.N) (r : Fin 512) (e : Fin 1024) (R : Fin 32768) (hR : R.val = t.val * 512 + r.val) :
    k0_pay2 (F := Ideal) (iblk m c 1 t) (View.ld (iblk m c 4 t) r0_1) (View.ld (iblk m c 6 t) r0_2) (View.ld (iblk m c 5 t) r0_3)
        (iblk m c 2 t) (View.ld (iblk m c 4 t) r0_4) (View.ld (iblk m c 6 t) r0_5) (View.ld (iblk m c 5 t) r0_6) (ix2 r e)
      + branch (fun k => k0_pay3 (F := Ideal) (iblk m c 3 t) (ix2 r k)) (fun k => k0_pay4 (F := Ideal) (View.ld (iblk m c 4 t) r0_7) (ix2 r k))
          (fun k => (View.ld (iblk m c 6 t) r0_8 : Vec Ideal S1x512x1024 .bf16) (ix3 0 k e)) ((View.ld (iblk m c 5 t) r0_9 : Vec Ideal S512x1024 .bf16) (ix2 r e))
      = mixed (rowsA m c) (rowsB m c) (rowsC m c) (rowsGate m c) (rowsMix m c) (wBranch m c) R e := by
  rw [pay2_at]
  unfold mixed rowsA rowsB rowsC rowsGate rowsMix wBranch branch gated
  pointwise [k0_pay3, k0_pay4]
  blk_point [iblk, V, idx t]

theorem point (c : Dev nD) (t : Fin cfg0.N) (r : Fin 512) (d : Fin 1024) (R : Fin 32768) (hR : R.val = t.val * 512 + r.val) :
    (out0_9 (F := Ideal) (iblk m c 0 t) (iblk m c 1 t) (iblk m c 2 t) (iblk m c 3 t) (iblk m c 4 t) (iblk m c 5 t) (iblk m c 6 t) (iblk m c 7 t) (iblk m c 8 t)) (ix2 r d)
      = merged (rowsX m c) (rowsA m c) (rowsB m c) (rowsC m c) (rowsGate m c) (rowsMix m c) (wBranch m c) (wOut m c) (gNorm m c) R d := by
  frame_out
  rw [pay1_at]
  unfold merged
  refine congrArg₂ (· + ·) (x_at m c t r d R hR) (congrArg₂ (normed · · d) (funext fun d => ?_) (p_at m c t d))
  exact Finset.sum_congr rfl fun e _ => congrArg₂ (· * ·) (branches_at m c t r e R hR) (wo_at m c t e d)

theorem out_place (t : Fin cfg0.N) (r : Fin 512) (d : Fin 1024) (R : Fin 32768) (hR : R.val = t.val * 512 + r.val) :
    ((cfg0.win 9).blk t).view.emb (ix2 r d) = ix2 R d := by
  blk_ext [idx t]

theorem final (c : Dev nD) : (dats m 0 c).arrAt 9 (cfgs 0).N = result m c := by
  refine (dats m 0 c).arrAt_eq_of_covers 9 _ (by decide +kernel) fun t _ y => ?_
  blk_simp
  rw [after0_9]
  idx_vars y
  have ht : t.val < 64 := (idx t).2.2.2.2.2.2.2.2.2.2
  refine Eq.trans ?_ (congrArg (result m c) (out_place t y0 y1 ⟨t.val * 512 + y0.val, by omega⟩ rfl)).symm
  exact point m c t _ _ _ rfl

end Cert.Merge

end
-- ==== Proof.MergeRef.lean ====
/-
  The merge's reference, read at one element.
-/
module

public import proofs.«01_k».proof.Proof.Gen.Reference2Ideal.Run
public import proofs.«01_k».proof.Proof.Merge

@[expose] public section

set_option maxRecDepth 16384

noncomputable section

namespace Cert.Reference2Ideal.Merge

open Cert.Reference2Ideal Cert.Reference2Ideal.Gen
open Idealize.ShloMosaic Idealize.ShloMosaic.TcCoe
open scoped BigOperators

/-- The reference's steps. -/
def silus (g : FVec Ideal S32768x1536 .bf16) : FVec Ideal S32768x3x512 .f32 :=
  shapeCast _ (mulf (extf .f32 g bitsLt_bf16_f32) (Host.divf (broadcastInDim S32768x1536 ![] bcast_S_S32768x1536 (constant S_ .f32 0x3F800000#32)) (addf (broadcastInDim S32768x1536 ![] bcast_S_S32768x1536 (constant S_ .f32 0x3F800000#32)) (Host.exp (Host.negf (extf .f32 g bitsLt_bf16_f32)))))) shapeCasts_S32768x1536_S32768x3x512

def sigmoids (s : FVec Ideal S32768x3072 .bf16) : FVec Ideal S32768x3x1024 .f32 :=
  shapeCast _ (Host.divf (broadcastInDim S32768x3072 ![] bcast_S_S32768x3072 (constant S_ .f32 0x3F800000#32)) (addf (broadcastInDim S32768x3072 ![] bcast_S_S32768x3072 (constant S_ .f32 0x3F800000#32)) (Host.exp (Host.negf (extf .f32 s bitsLt_bf16_f32))))) shapeCasts_S32768x3072_S32768x3x1024

def stacked (a b c : FVec Ideal S32768x512 .bf16) : FVec Ideal S32768x3x512 .f32 :=
  extf .f32 ((concatenate S32768x3x512 1 [⟨S32768x1x512, ((broadcastInDim S32768x1x512 ![0, 2] bcast_S32768x512_S32768x1x512_0_2 a) : (⟨S32768x1x512, .bf16⟩ : BufTy).Contents (Elt Ideal))⟩, ⟨S32768x1x512, ((broadcastInDim S32768x1x512 ![0, 2] bcast_S32768x512_S32768x1x512_0_2 b) : (⟨S32768x1x512, .bf16⟩ : BufTy).Contents (Elt Ideal))⟩, ⟨S32768x1x512, ((broadcastInDim S32768x1x512 ![0, 2] bcast_S32768x512_S32768x1x512_0_2 c) : (⟨S32768x1x512, .bf16⟩ : BufTy).Contents (Elt Ideal))⟩] concatenates_S32768x1x512_S32768x1x512_S32768x1x512_S32768x3x512_d1 : (⟨S32768x3x512, .bf16⟩ : BufTy).Contents (Elt Ideal))) bitsLt_bf16_f32

def branches (w : FVec Ideal S3x512x1024 .f32) (ys : FVec Ideal S32768x3x512 .f32) : FVec Ideal S32768x3x1024 .f32 :=
  transpose S32768x3x1024 [2, 0, 1] (Host.dotGeneral dot_S3x512x1024_S32768x3x512_S3x1024x32768_1_2_2_0_0_1 none w ys) transposes_S3x1024x32768_S32768x3x1024_2_0_1

def mix (s b : FVec Ideal S32768x3x1024 .f32) : FVec Ideal S32768x1024 .f32 :=
  Host.reduceAdd (mulf s b) (constant S_ .f32 0x00000000#32) reducesTo_S32768x3x1024_S32768x1024_d1 h_S_

def project (a : FVec Ideal S32768x1024 .f32) (w : FVec Ideal S1024x1024 .f32) : FVec Ideal S32768x1024 .f32 :=
  Host.dotGeneral dot_S32768x1024_S1024x1024_S32768x1024_1_0_0_1_n_n none a w

def norm (o : FVec Ideal S32768x1024 .f32) (g : FVec Ideal S1024 .f32) : FVec Ideal S32768x1024 .f32 :=
  mulf (mulf o (broadcastInDim S32768x1024 ![0, 1] bcast_S32768x1_S32768x1024_0_1 (Host.rsqrt (addf (Host.divf (broadcastInDim S32768x1 ![0] bcast_S32768_S32768x1_0 (Host.reduceAdd (mulf o o) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

theorem res_eq (m : (ℓ : Loc nD τ sig) → Buf (Elt Ideal) ℓ) (c : Dev nD) :
    Value.res_out0 m c = addf (m ((c : Thread nD τ).loc main_arg0)) (norm (project (mix (sigmoids (m ((c : Thread nD τ).loc main_arg5)))
      (branches (m ((c : Thread nD τ).loc main_arg6)) (mulf (stacked (m ((c : Thread nD τ).loc main_arg1)) (m ((c : Thread nD τ).loc main_arg2)) (m ((c : Thread nD τ).loc main_arg3)))
        (silus (m ((c : Thread nD τ).loc main_arg4)))))) (m ((c : Thread nD τ).loc main_arg7))) (m ((c : Thread nD τ).loc main_arg8))) := rfl

theorem silus_at (g) (r : Fin 32768) (n : Fin 3) (k : Fin 512) (j : Fin 1536) (hj : j.val = n.val * 512 + k.val) :
    silus g (ix3 r n k) = g (ix2 r j) * Ideal.logistic (g (ix2 r j)) := by
  have hj' : n.val * 512 + k.val < 1536 := by have := k.isLt; have := n.isLt; omega
  obtain rfl : j = ⟨n.val * 512 + k.val, hj'⟩ := Fin.ext hj
  unfold Ideal.logistic
  pointwise [silus]

theorem sigmoids_at (s) (r : Fin 32768) (n : Fin 3) (e : Fin 1024) (j : Fin 3072) (hj : j.val = n.val * 1024 + e.val) :
    sigmoids s (ix3 r n e) = Ideal.logistic (s (ix2 r j)) := by
  have hj' : n.val * 1024 + e.val < 3072 := by have := e.isLt; have := n.isLt; omega
  obtain rfl : j = ⟨n.val * 1024 + e.val, hj'⟩ := Fin.ext hj
  unfold Ideal.logistic
  pointwise [sigmoids]

theorem stacked_at0 (a b c) (r : Fin 32768) (k : Fin 512) : stacked a b c (ix3 r 0 k) = a (ix2 r k) := by
  pointwise [stacked]
theorem stacked_at1 (a b c) (r : Fin 32768) (k : Fin 512) : stacked a b c (ix3 r 1 k) = b (ix2 r k) := by
  pointwise [stacked]
theorem stacked_at2 (a b c) (r : Fin 32768) (k : Fin 512) : stacked a b c (ix3 r 2 k) = c (ix2 r k) := by
  pointwise [stacked]

theorem branches_at (w ys) (r : Fin 32768) (n : Fin 3) (e : Fin 1024) :
    branches w ys (ix3 r n e) = ∑ k : Fin 512, w (ix3 n k e) * ys (ix3 r n k) := by
  pointwise [branches]

theorem mix_at (s b) (r : Fin 32768) (e : Fin 1024) : mix s b (ix2 r e) = 0 + ∑ n : Fin 3, s (ix3 r n e) * b (ix3 r n e) := by
  pointwise [mix]

theorem project_at (a w) (r : Fin 32768) (d : Fin 1024) : project a w (ix2 r d) = ∑ e : Fin 1024, a (ix2 r e) * w (ix2 e d) := by
  pointwise [project]

theorem norm_at (o g) (r : Fin 32768) (d : Fin 1024) : norm o g (ix2 r d) = Cert.Merge.normed (fun d => o (ix2 r d)) (g (ix1 d)) d := by
  pointwise [norm, Cert.Merge.normed]

theorem mulf_at {s : Shape} (x y : FVec Ideal s .f32) (i : s.Idx) : mulf x y i = x i * y i := rfl
theorem addf_at {s : Shape} (x y : FVec Ideal s .f32) (i : s.Idx) : addf x y i = x i + y i := rfl

/-- The mixed branches, element by element. -/
theorem mixed_at (a b c : FVec Ideal S32768x512 .bf16) (g : FVec Ideal S32768x1536 .bf16) (s : FVec Ideal S32768x3072 .bf16) (w : FVec Ideal S3x512x1024 .f32)
    (r : Fin 32768) (e : Fin 1024) :
    mix (sigmoids s) (branches w (mulf (stacked a b c) (silus g))) (ix2 r e)
      = Cert.Merge.mixed (fun r k => a (ix2 r k)) (fun r k => b (ix2 r k)) (fun r k => c (ix2 r k)) (fun r k => g (ix2 r k)) (fun r k => s (ix2 r k))
          (fun n k e => w (ix3 n k e)) r e := by
  have he := e.isLt
  rw [mix_at, zero_add, Fin.sum_univ_three]
  simp only [branches_at, mulf_at, stacked_at0, stacked_at1, stacked_at2]
  rw [sigmoids_at s r 0 e ⟨e.val, by omega⟩ (by show e.val = 0 * 1024 + e.val; omega), sigmoids_at s r 1 e ⟨1024 + e.val, by omega⟩ (by show 1024 + e.val = 1 * 1024 + e.val; omega),
    sigmoids_at s r 2 e ⟨2048 + e.val, by omega⟩ (by show 2048 + e.val = 2 * 1024 + e.val; omega)]
  unfold Cert.Merge.mixed Cert.Merge.branch Cert.Merge.gated
  refine congrArg₂ _ (congrArg₂ _ ?_ ?_) ?_
  all_goals
    rw [mul_comm]
    refine congrArg (· * _) (Finset.sum_congr rfl fun k _ => ?_)
    have hk := k.isLt
    rw [mul_comm]
  · rw [silus_at g r 0 k ⟨k.val, by omega⟩ (by show k.val = 0 * 512 + k.val; omega)]
  · rw [silus_at g r 1 k ⟨512 + k.val, by omega⟩ (by show 512 + k.val = 1 * 512 + k.val; omega)]
  · rw [silus_at g r 2 k ⟨1024 + k.val, by omega⟩ (by show 1024 + k.val = 2 * 512 + k.val; omega)]

/-- The reference's result, element by element. -/
theorem res_at (m : (ℓ : Loc nD τ sig) → Buf (Elt Ideal) ℓ) (c : Dev nD) (r : Fin 32768) (d : Fin 1024) :
    (show FVec Ideal S32768x1024 .f32 from Value.res_out0 m c) (ix2 r d)
      = Cert.Merge.merged (fun r d => (show FVec Ideal S32768x1024 .f32 from m ((c : Thread nD τ).loc main_arg0)) (ix2 r d))
          (fun r k => (show FVec Ideal S32768x512 .bf16 from m ((c : Thread nD τ).loc main_arg1)) (ix2 r k))
          (fun r k => (show FVec Ideal S32768x512 .bf16 from m ((c : Thread nD τ).loc main_arg2)) (ix2 r k))
          (fun r k => (show FVec Ideal S32768x512 .bf16 from m ((c : Thread nD τ).loc main_arg3)) (ix2 r k))
          (fun r k => (show FVec Ideal S32768x1536 .bf16 from m ((c : Thread nD τ).loc main_arg4)) (ix2 r k))
          (fun r k => (show FVec Ideal S32768x3072 .bf16 from m ((c : Thread nD τ).loc main_arg5)) (ix2 r k))
          (fun n k e => (show FVec Ideal S3x512x1024 .f32 from m ((c : Thread nD τ).loc main_arg6)) (ix3 n k e))
          (fun e d => (show FVec Ideal S1024x1024 .f32 from m ((c : Thread nD τ).loc main_arg7)) (ix2 e d))
          (fun d => (show FVec Ideal S1024 .f32 from m ((c : Thread nD τ).loc main_arg8)) (ix1 d)) r d := by
  rw [res_eq]
  refine (addf_at _ _ _).trans ?_
  rw [norm_at]
  simp only [project_at, mixed_at]
  rfl

end Cert.Reference2Ideal.Merge

end
-- ==== Proof.ProjRun.lean ====
/-
  The input projection's run: every result array ends at what the projection's pipeline leaves in it, the arguments as launched.
-/
module

public import proofs.«01_k».proof.Proof.Gen.Kernel3Ideal.Frame

@[expose] public section

set_option maxRecDepth 16384

noncomputable section

namespace Cert.Proj

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ) (ρ : Dev nD → PrngReg)

set_option maxHeartbeats 2000000 in
set_option backward.isDefEq.respectTransparency.types false in
/-- The launch over the two regions and the host operations around them, its last state read at the results and the arguments. -/
theorem run : θ_run defs (onTc (τ := τ) (main (F := F))) ⟨m, fun _ => 0, ρ⟩ fun r => ∀ c : Dev nD,
      r.2.mem ((c.tc : Thread nD τ).loc main_v71_0) = (dat1 (V3 m ρ) c).arrAt 11 cfg1.N
      ∧ r.2.mem ((c.tc : Thread nD τ).loc main_v71_1) = (dat1 (V3 m ρ) c).arrAt 12 cfg1.N
      ∧ r.2.mem ((c.tc : Thread nD τ).loc main_v71_2) = (dat1 (V3 m ρ) c).arrAt 13 cfg1.N
      ∧ r.2.mem ((c.tc : Thread nD τ).loc main_v71_3) = (dat1 (V3 m ρ) c).arrAt 14 cfg1.N
      ∧ r.2.mem ((c.tc : Thread nD τ).loc main_v71_4) = (dat1 (V3 m ρ) c).arrAt 15 cfg1.N
      ∧ r.2.mem ((c.tc : Thread nD τ).loc main_v71_5) = (dat1 (V3 m ρ) c).arrAt 16 cfg1.N
      ∧ r.2.mem ((c.tc : Thread nD τ).loc main_v71_6) = (dat1 (V3 m ρ) c).arrAt 17 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h _ => fun c =>
      ⟨(h c _ (mem_uc main_v71_0 (by decide))).trans (W4_arr m ρ c 11),
       (h c _ (mem_uc main_v71_1 (by decide))).trans (W4_arr m ρ c 12),
       (h c _ (mem_uc main_v71_2 (by decide))).trans (W4_arr m ρ c 13),
       (h c _ (mem_uc main_v71_3 (by decide))).trans (W4_arr m ρ c 14),
       (h c _ (mem_uc main_v71_4 (by decide))).trans (W4_arr m ρ c 15),
       (h c _ (mem_uc main_v71_5 (by decide))).trans (W4_arr m ρ c 16),
       (h c _ (mem_uc main_v71_6 (by decide))).trans (W4_arr m ρ c 17),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)

end Cert.Proj

end
-- ==== Proof.ProjHost.lean ====
/-
  The arrays the host code prepares for the input projection: packed and padded weights, read at coordinates.
-/
module

public import proofs.«01_k».proof.Proof.Gen.Kernel3Ideal.Frame
public import Idealize.ShloMosaic.Lib.Pipeline.ValueKit
public import Idealize.ShloMosaic.Lib.Pointwise

@[expose] public section

set_option maxRecDepth 16384

noncomputable section

namespace Cert.Proj

open Cert.Kernel3Ideal Cert.Kernel3Ideal.Gen
open Idealize.ShloMosaic Idealize.ShloMosaic.TcCoe Idealize.ShloMosaic.StableHlo Idealize.SL.Sem

abbrev zero : FVec Ideal S_ .f32 := constant S_ .f32 0x00000000#32

/-- The columns the rotated key is projected from. -/
def ropeCols (w : FVec Ideal S1024x7728 .f32) : FVec Ideal S1024x32 .f32 := extractStridedSlice S1024x32 ![0, 384] w slices_S1024x7728_S1024x32_0_384

/-- The same columns, the halves exchanged and the first negated. -/
def turnedCols (w : FVec Ideal S1024x7728 .f32) : FVec Ideal S1024x32 .f32 :=
  concatenate S1024x32 1 [⟨S1024x16, Host.negf (extractStridedSlice S1024x16 ![0, 16] (ropeCols w) slices_S1024x32_S1024x16_0_16)⟩,
    ⟨S1024x16, extractStridedSlice S1024x16 ![0, 0] (ropeCols w) slices_S1024x32_S1024x16_0_0⟩] concatenates_S1024x16_S1024x16_S1024x32_d1

/-- The input projection's columns, regrouped and padded. -/
def columns (w : FVec Ideal S1024x7728 .f32) : FVec Ideal S1024x8064 .f32 :=
  concatenate S1024x8064 1 [⟨S1024x256, extractStridedSlice S1024x256 ![0, 0] w slices_S1024x7728_S1024x256_0_0⟩,
    ⟨S1024x128, extractStridedSlice S1024x128 ![0, 256] w slices_S1024x7728_S1024x128_0_256⟩,
    ⟨S1024x64, broadcastInDim S1024x64 ![] bcast_S_S1024x64 zero⟩,
    ⟨S1024x32, ropeCols w⟩,
    ⟨S1024x32, broadcastInDim S1024x32 ![] bcast_S_S1024x32 zero⟩,
    ⟨S1024x64, broadcastInDim S1024x64 ![] bcast_S_S1024x64 zero⟩,
    ⟨S1024x32, turnedCols w⟩,
    ⟨S1024x32, broadcastInDim S1024x32 ![] bcast_S_S1024x32 zero⟩,
    ⟨S1024x1664, extractStridedSlice S1024x1664 ![0, 416] w slices_S1024x7728_S1024x1664_0_416⟩,
    ⟨S1024x256, extractStridedSlice S1024x256 ![0, 2080] w slices_S1024x7728_S1024x256_0_2080⟩,
    ⟨S1024x256, extractStridedSlice S1024x256 ![0, 2336] w slices_S1024x7728_S1024x256_0_2336⟩,
    ⟨S1024x512, extractStridedSlice S1024x512 ![0, 2592] w slices_S1024x7728_S1024x512_0_2592⟩,
    ⟨S1024x16, extractStridedSlice S1024x16 ![0, 3104] w slices_S1024x7728_S1024x16_0_3104⟩,
    ⟨S1024x112, broadcastInDim S1024x112 ![] bcast_S_S1024x112 zero⟩,
    ⟨S1024x1536, extractStridedSlice S1024x1536 ![0, 3120] w slices_S1024x7728_S1024x1536_0_3120⟩,
    ⟨S1024x3072, extractStridedSlice S1024x3072 ![0, 4656] w slices_S1024x7728_S1024x3072_0_4656⟩] concatenates_S1024x256_S1024x128_S1024x64_S1024x32_S1024x32_S1024x64_S1024x32_S1024x32_S1024x1664_S1024x256_S1024x256_S1024x512_S1024x16_S1024x112_S1024x1536_S1024x3072_S1024x8064_d1

def packed (w : FVec Ideal S1024x7728 .f32) : FVec Ideal S1024x8064 .bf16 := truncf .bf16 (columns w) bitsLt_bf16_f32

/-- The query weights of each head, its lanes padded to 128. -/
def headsQ (w : FVec Ideal S256x768 .f32) : FVec Ideal S256x8x96 .f32 := shapeCast S256x8x96 w shapeCasts_S256x768_S256x8x96
def ropeQ (w : FVec Ideal S256x768 .f32) : FVec Ideal S256x8x32 .f32 := extractStridedSlice S256x8x32 ![0, 0, 64] (headsQ w) slices_S256x8x96_S256x8x32_0_0_64
def paddedQ (w : FVec Ideal S256x768 .f32) : FVec Ideal S256x1024 .bf16 :=
  truncf .bf16 (shapeCast S256x1024 (concatenate S256x8x128 2 [⟨S256x8x64, extractStridedSlice S256x8x64 ![0, 0, 0] (headsQ w) slices_S256x8x96_S256x8x64_0_0_0⟩,
    ⟨S256x8x32, ropeQ w⟩, ⟨S256x8x32, broadcastInDim S256x8x32 ![] bcast_S_S256x8x32 zero⟩]
    concatenates_S256x8x64_S256x8x32_S256x8x32_S256x8x128_d2) shapeCasts_S256x8x128_S256x1024) bitsLt_bf16_f32

/-- The same weights' rotated lanes, the halves exchanged and the first negated, zeros in the other lanes. -/
def turnedQ (w : FVec Ideal S256x768 .f32) : FVec Ideal S256x1024 .bf16 :=
  truncf .bf16 (shapeCast S256x1024 (concatenate S256x8x128 2 [⟨S256x8x64, broadcastInDim S256x8x64 ![] bcast_S_S256x8x64 zero⟩,
    ⟨S256x8x32, concatenate S256x8x32 2 [⟨S256x8x16, Host.negf (extractStridedSlice S256x8x16 ![0, 0, 16] (ropeQ w) slices_S256x8x32_S256x8x16_0_0_16)⟩,
      ⟨S256x8x16, extractStridedSlice S256x8x16 ![0, 0, 0] (ropeQ w) slices_S256x8x32_S256x8x16_0_0_0⟩] concatenates_S256x8x16_S256x8x16_S256x8x32_d2⟩,
    ⟨S256x8x32, broadcastInDim S256x8x32 ![] bcast_S_S256x8x32 zero⟩]
    concatenates_S256x8x64_S256x8x32_S256x8x32_S256x8x128_d2) shapeCasts_S256x8x128_S256x1024) bitsLt_bf16_f32

/-- The key and value weights of each head. -/
def headsKV (w : FVec Ideal S128x1024 .f32) : FVec Ideal S128x8x128 .f32 := shapeCast S128x8x128 w shapeCasts_S128x1024_S128x8x128
def paddedK (w : FVec Ideal S128x1024 .f32) : FVec Ideal S128x1024 .bf16 :=
  truncf .bf16 (shapeCast S128x1024 (concatenate S128x8x128 2 [⟨S128x8x64, extractStridedSlice S128x8x64 ![0, 0, 0] (headsKV w) slices_S128x8x128_S128x8x64_0_0_0⟩,
    ⟨S128x8x64, broadcastInDim S128x8x64 ![] bcast_S_S128x8x64 zero⟩] concatenates_S128x8x64_S128x8x64_S128x8x128_d2) shapeCasts_S128x8x128_S128x1024) bitsLt_bf16_f32
def valuesV (w : FVec Ideal S128x1024 .f32) : FVec Ideal S128x512 .bf16 :=
  truncf .bf16 (shapeCast S128x512 (extractStridedSlice S128x8x64 ![0, 0, 64] (headsKV w) slices_S128x8x128_S128x8x64_0_0_64) shapeCasts_S128x8x64_S128x512) bitsLt_bf16_f32

variable (m : (ℓ : Loc nD τ sig) → Buf (Elt Ideal) ℓ) (ρ : Dev nD → PrngReg)

set_option maxHeartbeats 2000000 in
theorem host_packed (c : Dev nD) : V3 m ρ c main_v68 = packed (show FVec Ideal S1024x7728 .f32 from m ((c : Thread nD τ).loc main_arg3)) := by
  rw [show (show FVec Ideal S1024x7728 .f32 from m ((c : Thread nD τ).loc main_arg3)) = W2 m ρ c (Proc.devRef .tc main_arg3) from (W2_args m ρ c main_arg3 (by decide)).symm]
  show StableHlo.after hostOps1 (W2 m ρ c) _ = _
  generalize W2 m ρ c = u
  after_results_simp <;> (try dsimp only [Matrix.cons_val]) <;> (try after_results_simp) <;> rfl

set_option maxHeartbeats 2000000 in
theorem host_norm (c : Dev nD) : V3 m ρ c main_v47 = shapeCast S1x1024 (show FVec Ideal S1024 .f32 from m ((c : Thread nD τ).loc main_arg2)) shapeCasts_S1024_S1x1024 := by
  rw [show (show FVec Ideal S1024 .f32 from m ((c : Thread nD τ).loc main_arg2)) = W2 m ρ c (Proc.devRef .tc main_arg2) from (W2_args m ρ c main_arg2 (by decide)).symm]
  show StableHlo.after hostOps1 (W2 m ρ c) _ = _
  generalize W2 m ρ c = u
  after_results_simp <;> (try dsimp only [Matrix.cons_val]) <;> (try after_results_simp) <;> rfl

set_option maxHeartbeats 2000000 in
theorem host_qnorm (c : Dev nD) : V3 m ρ c main_v69 = shapeCast S1x256 (show FVec Ideal S256 .f32 from m ((c : Thread nD τ).loc main_arg4)) shapeCasts_S256_S1x256 := by
  rw [show (show FVec Ideal S256 .f32 from m ((c : Thread nD τ).loc main_arg4)) = W2 m ρ c (Proc.devRef .tc main_arg4) from (W2_args m ρ c main_arg4 (by decide)).symm]
  show StableHlo.after hostOps1 (W2 m ρ c) _ = _
  generalize W2 m ρ c = u
  after_results_simp <;> (try dsimp only [Matrix.cons_val]) <;> (try after_results_simp) <;> rfl

set_option maxHeartbeats 2000000 in
theorem host_kvnorm (c : Dev nD) : V3 m ρ c main_v70 = shapeCast S1x128 (show FVec Ideal S128 .f32 from m ((c : Thread nD τ).loc main_arg5)) shapeCasts_S128_S1x128 := by
  rw [show (show FVec Ideal S128 .f32 from m ((c : Thread nD τ).loc main_arg5)) = W2 m ρ c (Proc.devRef .tc main_arg5) from (W2_args m ρ c main_arg5 (by decide)).symm]
  show StableHlo.after hostOps1 (W2 m ρ c) _ = _
  generalize W2 m ρ c = u
  after_results_simp <;> (try dsimp only [Matrix.cons_val]) <;> (try after_results_simp) <;> rfl

set_option maxHeartbeats 2000000 in
theorem host_wq (c : Dev nD) : V3 m ρ c main_v43 = paddedQ (show FVec Ideal S256x768 .f32 from m ((c : Thread nD τ).loc main_arg6)) := by
  rw [show (show FVec Ideal S256x768 .f32 from m ((c : Thread nD τ).loc main_arg6)) = W2 m ρ c (Proc.devRef .tc main_arg6) from (W2_args m ρ c main_arg6 (by decide)).symm]
  show StableHlo.after hostOps1 (W2 m ρ c) _ = _
  generalize W2 m ρ c = u
  after_results_simp <;> (try dsimp only [Matrix.cons_val]) <;> (try after_results_simp) <;> rfl

set_option maxHeartbeats 2000000 in
theorem host_wqr (c : Dev nD) : V3 m ρ c main_v44 = turnedQ (show FVec Ideal S256x768 .f32 from m ((c : Thread nD τ).loc main_arg6)) := by
  rw [show (show FVec Ideal S256x768 .f32 from m ((c : Thread nD τ).loc main_arg6)) = W2 m ρ c (Proc.devRef .tc main_arg6) from (W2_args m ρ c main_arg6 (by decide)).symm]
  show StableHlo.after hostOps1 (W2 m ρ c) _ = _
  generalize W2 m ρ c = u
  after_results_simp <;> (try dsimp only [Matrix.cons_val]) <;> (try after_results_simp) <;> rfl

set_option maxHeartbeats 2000000 in
theorem host_wk (c : Dev nD) : V3 m ρ c main_v45 = paddedK (show FVec Ideal S128x1024 .f32 from m ((c : Thread nD τ).loc main_arg7)) := by
  rw [show (show FVec Ideal S128x1024 .f32 from m ((c : Thread nD τ).loc main_arg7)) = W2 m ρ c (Proc.devRef .tc main_arg7) from (W2_args m ρ c main_arg7 (by decide)).symm]
  show StableHlo.after hostOps1 (W2 m ρ c) _ = _
  generalize W2 m ρ c = u
  after_results_simp <;> (try dsimp only [Matrix.cons_val]) <;> (try after_results_simp) <;> rfl

set_option maxHeartbeats 2000000 in
theorem host_wv (c : Dev nD) : V3 m ρ c main_v46 = valuesV (show FVec Ideal S128x1024 .f32 from m ((c : Thread nD τ).loc main_arg7)) := by
  rw [show (show FVec Ideal S128x1024 .f32 from m ((c : Thread nD τ).loc main_arg7)) = W2 m ρ c (Proc.devRef .tc main_arg7) from (W2_args m ρ c main_arg7 (by decide)).symm]
  show StableHlo.after hostOps1 (W2 m ρ c) _ = _
  generalize W2 m ρ c = u
  after_results_simp <;> (try dsimp only [Matrix.cons_val]) <;> (try after_results_simp) <;> rfl

end Cert.Proj

end
-- ==== Proof.ProjPack.lean ====
/-
  The prepared weights at coordinates, each as an entry of the layer's own weights, its negation, or zero.
-/
module

public import proofs.«01_k».proof.Proof.ProjHost

@[expose] public section

set_option maxRecDepth 16384

noncomputable section

namespace Cert.Proj

open Cert.Kernel3Ideal Cert.Kernel3Ideal.Gen
open Idealize.ShloMosaic Idealize.ShloMosaic.TcCoe Idealize.ShloMosaic.StableHlo Idealize.SL.Sem

/-- The shapes of the sixteen column groups. -/
def groups : List Shape := [S1024x256, S1024x128, S1024x64, S1024x32, S1024x32, S1024x64, S1024x32, S1024x32, S1024x1664, S1024x256, S1024x256, S1024x512, S1024x16, S1024x112, S1024x1536, S1024x3072]

theorem prefix_width (k pre : Nat) (h : ((groups.take k).map fun s : Shape => if h : s.rank = S1024x8064.rank then s.size ((1 : Fin 2).cast h.symm) else 0).sum = pre) :
    ((groups.take k).map fun s : Shape => if h : s.rank = S1024x8064.rank then s.size ((1 : Fin 2).cast h.symm) else 0).sum = pre := h

theorem columns_q (w : FVec Ideal S1024x7728 .f32) (k : Fin 1024) (j : Fin 256) :
    columns w (ix2 k ⟨0 + j.val, by omega⟩) = w (ix2 k ⟨0 + j.val, by omega⟩) := by
  unfold columns
  refine (concatenate_apply_piece (t := S1024x8064) 1 _ _ _ 0 ?_ S1024x256 (extractStridedSlice S1024x256 ![0, 0] w slices_S1024x7728_S1024x256_0_0) ?_ rfl 0 ?_ (ix2 k j) ?_ ?_).trans ?_
  · exact (by decide : 0 < 16)
  · rfl
  · exact prefix_width 0 0 (by decide +kernel)
  · exact fun b hb => match b with | ⟨0, _⟩ => rfl | ⟨1, _⟩ => absurd rfl hb
  · rfl
  pointwise []

theorem columns_kv (w : FVec Ideal S1024x7728 .f32) (k : Fin 1024) (j : Fin 128) :
    columns w (ix2 k ⟨256 + j.val, by omega⟩) = w (ix2 k ⟨256 + j.val, by omega⟩) := by
  unfold columns
  refine (concatenate_apply_piece (t := S1024x8064) 1 _ _ _ 1 ?_ S1024x128 (extractStridedSlice S1024x128 ![0, 256] w slices_S1024x7728_S1024x128_0_256) ?_ rfl 256 ?_ (ix2 k j) ?_ ?_).trans ?_
  · exact (by decide : 1 < 16)
  · rfl
  · exact prefix_width 1 256 (by decide +kernel)
  · exact fun b hb => match b with | ⟨0, _⟩ => rfl | ⟨1, _⟩ => absurd rfl hb
  · rfl
  pointwise []

theorem columns_z0 (w : FVec Ideal S1024x7728 .f32) (k : Fin 1024) (j : Fin 64) :
    columns w (ix2 k ⟨384 + j.val, by omega⟩) = 0 := by
  unfold columns
  refine (concatenate_apply_piece (t := S1024x8064) 1 _ _ _ 2 ?_ S1024x64 (broadcastInDim S1024x64 ![] bcast_S_S1024x64 zero) ?_ rfl 384 ?_ (ix2 k j) ?_ ?_).trans ?_
  · exact (by decide : 2 < 16)
  · rfl
  · exact prefix_width 2 384 (by decide +kernel)
  · exact fun b hb => match b with | ⟨0, _⟩ => rfl | ⟨1, _⟩ => absurd rfl hb
  · rfl
  pointwise []

theorem columns_rope (w : FVec Ideal S1024x7728 .f32) (k : Fin 1024) (j : Fin 32) :
    columns w (ix2 k ⟨448 + j.val, by omega⟩) = w (ix2 k ⟨384 + j.val, by omega⟩) := by
  unfold columns
  refine (concatenate_apply_piece (t := S1024x8064) 1 _ _ _ 3 ?_ S1024x32 (ropeCols w) ?_ rfl 448 ?_ (ix2 k j) ?_ ?_).trans ?_
  · exact (by decide : 3 < 16)
  · rfl
  · exact prefix_width 3 448 (by decide +kernel)
  · exact fun b hb => match b with | ⟨0, _⟩ => rfl | ⟨1, _⟩ => absurd rfl hb
  · rfl
  pointwise [ropeCols]

theorem columns_z1 (w : FVec Ideal S1024x7728 .f32) (k : Fin 1024) (j : Fin 32) :
    columns w (ix2 k ⟨480 + j.val, by omega⟩) = 0 := by
  unfold columns
  refine (concatenate_apply_piece (t := S1024x8064) 1 _ _ _ 4 ?_ S1024x32 (broadcastInDim S1024x32 ![] bcast_S_S1024x32 zero) ?_ rfl 480 ?_ (ix2 k j) ?_ ?_).trans ?_
  · exact (by decide : 4 < 16)
  · rfl
  · exact prefix_width 4 480 (by decide +kernel)
  · exact fun b hb => match b with | ⟨0, _⟩ => rfl | ⟨1, _⟩ => absurd rfl hb
  · rfl
  pointwise []

theorem columns_z2 (w : FVec Ideal S1024x7728 .f32) (k : Fin 1024) (j : Fin 64) :
    columns w (ix2 k ⟨512 + j.val, by omega⟩) = 0 := by
  unfold columns
  refine (concatenate_apply_piece (t := S1024x8064) 1 _ _ _ 5 ?_ S1024x64 (broadcastInDim S1024x64 ![] bcast_S_S1024x64 zero) ?_ rfl 512 ?_ (ix2 k j) ?_ ?_).trans ?_
  · exact (by decide : 5 < 16)
  · rfl
  · exact prefix_width 5 512 (by decide +kernel)
  · exact fun b hb => match b with | ⟨0, _⟩ => rfl | ⟨1, _⟩ => absurd rfl hb
  · rfl
  pointwise []

theorem columns_turned (w : FVec Ideal S1024x7728 .f32) (k : Fin 1024) (j : Fin 32) :
    columns w (ix2 k ⟨576 + j.val, by omega⟩) = turnedCols w (ix2 k j) := by
  unfold columns
  refine (concatenate_apply_piece (t := S1024x8064) 1 _ _ _ 6 ?_ S1024x32 (turnedCols w) ?_ rfl 576 ?_ (ix2 k j) ?_ ?_).trans ?_
  · exact (by decide : 6 < 16)
  · rfl
  · exact prefix_width 6 576 (by decide +kernel)
  · exact fun b hb => match b with | ⟨0, _⟩ => rfl | ⟨1, _⟩ => absurd rfl hb
  · rfl
  rfl

theorem columns_z3 (w : FVec Ideal S1024x7728 .f32) (k : Fin 1024) (j : Fin 32) :
    columns w (ix2 k ⟨608 + j.val, by omega⟩) = 0 := by
  unfold columns
  refine (concatenate_apply_piece (t := S1024x8064) 1 _ _ _ 7 ?_ S1024x32 (broadcastInDim S1024x32 ![] bcast_S_S1024x32 zero) ?_ rfl 608 ?_ (ix2 k j) ?_ ?_).trans ?_
  · exact (by decide : 7 < 16)
  · rfl
  · exact prefix_width 7 608 (by decide +kernel)
  · exact fun b hb => match b with | ⟨0, _⟩ => rfl | ⟨1, _⟩ => absurd rfl hb
  · rfl
  pointwise []

theorem columns_rwkv (w : FVec Ideal S1024x7728 .f32) (k : Fin 1024) (j : Fin 1664) :
    columns w (ix2 k ⟨640 + j.val, by omega⟩) = w (ix2 k ⟨416 + j.val, by omega⟩) := by
  unfold columns
  refine (concatenate_apply_piece (t := S1024x8064) 1 _ _ _ 8 ?_ S1024x1664 (extractStridedSlice S1024x1664 ![0, 416] w slices_S1024x7728_S1024x1664_0_416) ?_ rfl 640 ?_ (ix2 k j) ?_ ?_).trans ?_
  · exact (by decide : 8 < 16)
  · rfl
  · exact prefix_width 8 640 (by decide +kernel)
  · exact fun b hb => match b with | ⟨0, _⟩ => rfl | ⟨1, _⟩ => absurd rfl hb
  · rfl
  pointwise []

theorem columns_gq (w : FVec Ideal S1024x7728 .f32) (k : Fin 1024) (j : Fin 256) :
    columns w (ix2 k ⟨2304 + j.val, by omega⟩) = w (ix2 k ⟨2080 + j.val, by omega⟩) := by
  unfold columns
  refine (concatenate_apply_piece (t := S1024x8064) 1 _ _ _ 9 ?_ S1024x256 (extractStridedSlice S1024x256 ![0, 2080] w slices_S1024x7728_S1024x256_0_2080) ?_ rfl 2304 ?_ (ix2 k j) ?_ ?_).trans ?_
  · exact (by decide : 9 < 16)
  · rfl
  · exact prefix_width 9 2304 (by decide +kernel)
  · exact fun b hb => match b with | ⟨0, _⟩ => rfl | ⟨1, _⟩ => absurd rfl hb
  · rfl
  pointwise []

theorem columns_gk (w : FVec Ideal S1024x7728 .f32) (k : Fin 1024) (j : Fin 256) :
    columns w (ix2 k ⟨2560 + j.val, by omega⟩) = w (ix2 k ⟨2336 + j.val, by omega⟩) := by
  unfold columns
  refine (concatenate_apply_piece (t := S1024x8064) 1 _ _ _ 10 ?_ S1024x256 (extractStridedSlice S1024x256 ![0, 2336] w slices_S1024x7728_S1024x256_0_2336) ?_ rfl 2560 ?_ (ix2 k j) ?_ ?_).trans ?_
  · exact (by decide : 10 < 16)
  · rfl
  · exact prefix_width 10 2560 (by decide +kernel)
  · exact fun b hb => match b with | ⟨0, _⟩ => rfl | ⟨1, _⟩ => absurd rfl hb
  · rfl
  pointwise []

theorem columns_gv (w : FVec Ideal S1024x7728 .f32) (k : Fin 1024) (j : Fin 512) :
    columns w (ix2 k ⟨2816 + j.val, by omega⟩) = w (ix2 k ⟨2592 + j.val, by omega⟩) := by
  unfold columns
  refine (concatenate_apply_piece (t := S1024x8064) 1 _ _ _ 11 ?_ S1024x512 (extractStridedSlice S1024x512 ![0, 2592] w slices_S1024x7728_S1024x512_0_2592) ?_ rfl 2816 ?_ (ix2 k j) ?_ ?_).trans ?_
  · exact (by decide : 11 < 16)
  · rfl
  · exact prefix_width 11 2816 (by decide +kernel)
  · exact fun b hb => match b with | ⟨0, _⟩ => rfl | ⟨1, _⟩ => absurd rfl hb
  · rfl
  pointwise []

theorem columns_lat (w : FVec Ideal S1024x7728 .f32) (k : Fin 1024) (j : Fin 16) :
    columns w (ix2 k ⟨3328 + j.val, by omega⟩) = w (ix2 k ⟨3104 + j.val, by omega⟩) := by
  unfold columns
  refine (concatenate_apply_piece (t := S1024x8064) 1 _ _ _ 12 ?_ S1024x16 (extractStridedSlice S1024x16 ![0, 3104] w slices_S1024x7728_S1024x16_0_3104) ?_ rfl 3328 ?_ (ix2 k j) ?_ ?_).trans ?_
  · exact (by decide : 12 < 16)
  · rfl
  · exact prefix_width 12 3328 (by decide +kernel)
  · exact fun b hb => match b with | ⟨0, _⟩ => rfl | ⟨1, _⟩ => absurd rfl hb
  · rfl
  pointwise []

theorem columns_z4 (w : FVec Ideal S1024x7728 .f32) (k : Fin 1024) (j : Fin 112) :
    columns w (ix2 k ⟨3344 + j.val, by omega⟩) = 0 := by
  unfold columns
  refine (concatenate_apply_piece (t := S1024x8064) 1 _ _ _ 13 ?_ S1024x112 (broadcastInDim S1024x112 ![] bcast_S_S1024x112 zero) ?_ rfl 3344 ?_ (ix2 k j) ?_ ?_).trans ?_
  · exact (by decide : 13 < 16)
  · rfl
  · exact prefix_width 13 3344 (by decide +kernel)
  · exact fun b hb => match b with | ⟨0, _⟩ => rfl | ⟨1, _⟩ => absurd rfl hb
  · rfl
  pointwise []

theorem columns_gate (w : FVec Ideal S1024x7728 .f32) (k : Fin 1024) (j : Fin 1536) :
    columns w (ix2 k ⟨3456 + j.val, by omega⟩) = w (ix2 k ⟨3120 + j.val, by omega⟩) := by
  unfold columns
  refine (concatenate_apply_piece (t := S1024x8064) 1 _ _ _ 14 ?_ S1024x1536 (extractStridedSlice S1024x1536 ![0, 3120] w slices_S1024x7728_S1024x1536_0_3120) ?_ rfl 3456 ?_ (ix2 k j) ?_ ?_).trans ?_
  · exact (by decide : 14 < 16)
  · rfl
  · exact prefix_width 14 3456 (by decide +kernel)
  · exact fun b hb => match b with | ⟨0, _⟩ => rfl | ⟨1, _⟩ => absurd rfl hb
  · rfl
  pointwise []

theorem columns_merge (w : FVec Ideal S1024x7728 .f32) (k : Fin 1024) (j : Fin 3072) :
    columns w (ix2 k ⟨4992 + j.val, by omega⟩) = w (ix2 k ⟨4656 + j.val, by omega⟩) := by
  unfold columns
  refine (concatenate_apply_piece (t := S1024x8064) 1 _ _ _ 15 ?_ S1024x3072 (extractStridedSlice S1024x3072 ![0, 4656] w slices_S1024x7728_S1024x3072_0_4656) ?_ rfl 4992 ?_ (ix2 k j) ?_ ?_).trans ?_
  · exact (by decide : 15 < 16)
  · rfl
  · exact prefix_width 15 4992 (by decide +kernel)
  · exact fun b hb => match b with | ⟨0, _⟩ => rfl | ⟨1, _⟩ => absurd rfl hb
  · rfl
  pointwise []

theorem turned_at (w : FVec Ideal S1024x7728 .f32) (k : Fin 1024) (j : Fin 32) :
    turnedCols w (ix2 k j) = if h : j.val < 16 then -w (ix2 k ⟨400 + j.val, by omega⟩) else w (ix2 k ⟨384 + (j.val - 16), by omega⟩) := by
  pointwise [turnedCols, ropeCols]
  split_ifs <;> first | rfl | exact congrArg (fun e => -w (ix2 k e)) (Fin.ext (by dsimp only <;> omega))

theorem paddedQ_at (w : FVec Ideal S256x768 .f32) (k : Fin 256) (h : Fin 8) (l : Fin 128) :
    paddedQ w (ix2 k ⟨128 * h.val + l.val, by omega⟩) = if hl : l.val < 96 then w (ix2 k ⟨96 * h.val + l.val, by omega⟩) else 0 := by
  have hh := h.isLt
  split_ifs <;> pointwise [paddedQ, headsQ, ropeQ] <;> (try split_ifs) <;> first | rfl | omega | exact congrArg (fun e => w (ix2 k e)) (Fin.ext (by dsimp only <;> omega)) | exact congrArg (fun e => -w (ix2 k e)) (Fin.ext (by dsimp only <;> omega))

theorem turnedQ_at (w : FVec Ideal S256x768 .f32) (k : Fin 256) (h : Fin 8) (l : Fin 128) :
    turnedQ w (ix2 k ⟨128 * h.val + l.val, by omega⟩)
      = if hl : 64 ≤ l.val ∧ l.val < 80 then -w (ix2 k ⟨96 * h.val + l.val + 16, by omega⟩)
        else if hl' : 80 ≤ l.val ∧ l.val < 96 then w (ix2 k ⟨96 * h.val + l.val - 16, by omega⟩) else 0 := by
  have hh := h.isLt
  split_ifs <;> pointwise [turnedQ, headsQ, ropeQ] <;> (try split_ifs) <;> first | rfl | omega | exact congrArg (fun e => w (ix2 k e)) (Fin.ext (by dsimp only <;> omega)) | exact congrArg (fun e => -w (ix2 k e)) (Fin.ext (by dsimp only <;> omega))

theorem paddedK_at (w : FVec Ideal S128x1024 .f32) (k : Fin 128) (h : Fin 8) (l : Fin 128) :
    paddedK w (ix2 k ⟨128 * h.val + l.val, by omega⟩) = if l.val < 64 then w (ix2 k ⟨128 * h.val + l.val, by omega⟩) else 0 := by
  have hh := h.isLt
  split_ifs <;> pointwise [paddedK, headsKV] <;> (try split_ifs) <;> first | rfl | omega | exact congrArg (fun e => w (ix2 k e)) (Fin.ext (by dsimp only <;> omega)) | exact congrArg (fun e => -w (ix2 k e)) (Fin.ext (by dsimp only <;> omega))

theorem valuesV_at (w : FVec Ideal S128x1024 .f32) (k : Fin 128) (h : Fin 8) (l : Fin 64) :
    valuesV w (ix2 k ⟨64 * h.val + l.val, by omega⟩) = w (ix2 k ⟨128 * h.val + 64 + l.val, by omega⟩) := by
  pointwise [valuesV, headsKV]
  exact congrArg (fun e => w (ix2 k e)) (Fin.ext (by dsimp only <;> omega))

end Cert.Proj

end
-- ==== Proof.ProjSpec.lean ====
/-
  The projection kernel's stores, read at coordinates of the blocks it loads.
-/
module

public import proofs.«01_k».proof.Proof.ProjPack

@[expose] public section

set_option maxRecDepth 16384

noncomputable section

namespace Cert.Proj

open Cert.Kernel3Ideal Cert.Kernel3Ideal.Gen
open Idealize.ShloMosaic Idealize.ShloMosaic.TcCoe Idealize.SL.Sem
open Idealize.ShloMosaic.Pipeline (Dat)
open scoped BigOperators

/-- A row after the root-mean-square norm over `n` lanes, at one lane. -/
def normed {N : ℕ} (n : BitVec 32) (x g : Fin N → EReal) (k : Fin N) : EReal :=
  x k * Ideal.rsqrt (Ideal.div (∑ j : Fin N, x j * x j) (Ideal.ofBits FTy.f32 n) + Ideal.ofBits FTy.f32 0x358637BD#32) * g k

def dot {N : ℕ} (x w : Fin N → EReal) : EReal := ∑ k : Fin N, x k * w k

theorem pay1_at (v0 : Vec Ideal S512x1024 .f32) (v1 : Vec Ideal S1x1024 .f32) (r : Fin 512) (k : Fin 1024) :
    k1_pay1 (F := Ideal) v0 v1 (ix2 r k) = normed 0x44800000#32 (fun k => v0 (ix2 r k)) (fun k => v1 (ix2 0 k)) k := by
  pointwise [k1_pay1, normed]

theorem pay2_at (v0 : Vec Ideal S512x1024 .f32) (v1 : Vec Ideal S1x1024 .f32) (w : Vec Ideal S1024x640 .bf16) (r : Fin 512) (j : Fin 640) :
    k1_pay2 (F := Ideal) v0 v1 w (ix2 r j)
      = dot (normed 0x44800000#32 (fun k => v0 (ix2 r k)) (fun k => v1 (ix2 0 k))) (fun k => w (ix2 k j)) := by
  pointwise [k1_pay2, k1_pay1, normed, dot]

theorem pay5_at (v0 : Vec Ideal S512x1024 .f32) (v1 : Vec Ideal S1x1024 .f32) (w : Vec Ideal S1024x640 .bf16) (g : Vec Ideal S1x256 .f32) (r : Fin 512) (j : Fin 256) :
    k1_pay5 (F := Ideal) v0 v1 w g (ix2 r j)
      = normed 0x43800000#32 (fun j : Fin 256 => k1_pay2 (F := Ideal) v0 v1 w (ix2 r ⟨j.val, by omega⟩)) (fun j => g (ix2 0 j)) j := by
  pointwise [k1_pay5, k1_pay2, k1_pay1, normed, dot]

theorem pay7_at (a : FVec Ideal S512x256 .f32) (w : Vec Ideal S256x1024 .bf16) (r : Fin 512) (j : Fin 1024) :
    k1_pay7 (F := Ideal) a w (ix2 r j) = dot (fun k => a (ix2 r k)) (fun k => w (ix2 k j)) := by
  pointwise [k1_pay7, k1_pay6, dot]

theorem pay8_at (a : FVec Ideal S512x256 .f32) (w : Vec Ideal S256x1024 .bf16) (r : Fin 512) (j : Fin 1024) :
    k1_pay8 (F := Ideal) a w (ix2 r j) = dot (fun k => a (ix2 r k)) (fun k => w (ix2 k j)) := by
  pointwise [k1_pay8, k1_pay6, dot]

theorem pay10_at (p : FVec Ideal S512x640 .f32) (g : Vec Ideal S1x128 .f32) (w : Vec Ideal S128x1024 .bf16) (r : Fin 512) (j : Fin 1024) :
    k1_pay10 (F := Ideal) p g w (ix2 r j)
      = dot (normed 0x43000000#32 (fun j : Fin 128 => p (ix2 r ⟨256 + j.val, by omega⟩)) (fun j => g (ix2 0 j))) (fun k => w (ix2 k j)) := by
  pointwise [k1_pay10, k1_pay9, normed, dot]

theorem pay11_at (p : FVec Ideal S512x640 .f32) (g : Vec Ideal S1x128 .f32) (w : Vec Ideal S128x512 .bf16) (r : Fin 512) (j : Fin 512) :
    k1_pay11 (F := Ideal) p g w (ix2 r j)
      = dot (normed 0x43000000#32 (fun j : Fin 128 => p (ix2 r ⟨256 + j.val, by omega⟩)) (fun j => g (ix2 0 j))) (fun k => w (ix2 k j)) := by
  pointwise [k1_pay11, k1_pay9, normed, dot]

theorem pay12_at (p : FVec Ideal S512x640 .f32) (c s : FVec Ideal S512x128 .f32) (r : Fin 512) (l : Fin 128) :
    k1_pay12 (F := Ideal) p c s (ix2 r l)
      = p (ix2 r ⟨384 + l.val, by omega⟩) * c (ix2 r l) + p (ix2 r ⟨512 + l.val, by omega⟩) * s (ix2 r l) := by
  pointwise [k1_pay12]

theorem pay13_at (c s : FVec Ideal S512x128 .f32) (a : FVec Ideal S512x256 .f32) (w v : Vec Ideal S256x1024 .bf16) (r : Fin 512) (l : Fin 128) :
    k1_pay13 (F := Ideal) c s a w v (ix2 r l)
      = (k1_pay7 (F := Ideal) a w (ix2 r ⟨l.val, by omega⟩) * c (ix2 r l) + k1_pay8 (F := Ideal) a v (ix2 r ⟨l.val, by omega⟩) * s (ix2 r l))
        * Ideal.ofBits FTy.f32 0x3DD105EC#32 := by
  pointwise [k1_pay13, k1_pay7, k1_pay8, k1_pay6]

section Blocks

variable (x0 : Vec Ideal S512x1024 .f32) (x1 : Vec Ideal S1x1024 .f32) (x2 : Vec Ideal S1024x8064 .bf16) (x3 x4 : Vec Ideal S1x512x128 .f32)
  (x5 : Vec Ideal S1x256 .f32) (x6 : Vec Ideal S1x128 .f32) (x7 x8 : Vec Ideal S256x1024 .bf16) (x9 : Vec Ideal S128x1024 .bf16) (x10 : Vec Ideal S128x512 .bf16)

theorem q_block (h : Fin 8) (r : Fin 512) (l : Fin 128) :
    out1_11 (F := Ideal) x0 x1 x2 x3 x4 x5 x6 x7 x8 x9 x10 (ix4 0 h r l)
      = (k1_pay46 (F := Ideal) x0 x1 x2 x3 x4 x5 x6 x7 x8 x9 x10 (ix2 r ⟨128 * h.val + l.val, by omega⟩) * k1_pay43 (F := Ideal) x0 x1 x2 x3 x4 x5 x6 x7 x8 x9 x10 (ix2 r l)
        + k1_pay47 (F := Ideal) x0 x1 x2 x3 x4 x5 x6 x7 x8 x9 x10 (ix2 r ⟨128 * h.val + l.val, by omega⟩) * k1_pay44 (F := Ideal) x0 x1 x2 x3 x4 x5 x6 x7 x8 x9 x10 (ix2 r l))
        * Ideal.ofBits FTy.f32 0x3DD105EC#32 := by
  unfold out1_11
  generalize k1_pay43 (F := Ideal) x0 x1 x2 x3 x4 x5 x6 x7 x8 x9 x10 = c
  generalize k1_pay44 (F := Ideal) x0 x1 x2 x3 x4 x5 x6 x7 x8 x9 x10 = s
  generalize ha : k1_pay46 (F := Ideal) x0 x1 x2 x3 x4 x5 x6 x7 x8 x9 x10 = a
  generalize hb : k1_pay47 (F := Ideal) x0 x1 x2 x3 x4 x5 x6 x7 x8 x9 x10 = b
  canon_tiles x hx
  case piece7 =>
    idx_vars x
    pointwise [k1_pay14, pay13_at]
    obtain rfl := Fin.ext hx2
    obtain rfl := Fin.ext hx3
    subst ha hb
    have e : (⟨l.val, by omega⟩ : Fin 1024) = ⟨128 * h.val + l.val, by omega⟩ := Fin.ext (by dsimp only; omega)
    rw [e]
    rfl
  all_goals
    idx_vars x
    pointwise [k1_pay30, k1_pay27, k1_pay25, k1_pay23, k1_pay21, k1_pay19, k1_pay18, k1_pay16]
    blk_point []

theorem k_block (h : Fin 8) (r : Fin 512) (l : Fin 128) :
    out1_12 (F := Ideal) x0 x1 x2 x3 x4 x5 x6 x7 x8 x9 x10 (ix4 0 h r l)
      = k1_pay48 (F := Ideal) x0 x1 x2 x3 x4 x5 x6 x7 x8 x9 x10 (ix2 r ⟨128 * h.val + l.val, by omega⟩) + k1_pay50 (F := Ideal) x0 x1 x2 x3 x4 x5 x6 x7 x8 x9 x10 (ix2 r l) := by
  unfold out1_12
  generalize k1_pay48 (F := Ideal) x0 x1 x2 x3 x4 x5 x6 x7 x8 x9 x10 = a
  generalize k1_pay50 (F := Ideal) x0 x1 x2 x3 x4 x5 x6 x7 x8 x9 x10 = b
  canon_tiles x hx
  all_goals
    idx_vars x
    pointwise [k1_pay15, k1_pay17, k1_pay20, k1_pay22, k1_pay24, k1_pay26, k1_pay28, k1_pay29, k1_pay31]
    blk_point []

theorem v_block (h : Fin 4) (r : Fin 512) (l : Fin 128) :
    out1_13 (F := Ideal) x0 x1 x2 x3 x4 x5 x6 x7 x8 x9 x10 (ix4 0 h r l) = k1_pay49 (F := Ideal) x0 x1 x2 x3 x4 x5 x6 x7 x8 x9 x10 (ix2 r ⟨128 * h.val + l.val, by omega⟩) := by
  unfold out1_13
  generalize k1_pay49 (F := Ideal) x0 x1 x2 x3 x4 x5 x6 x7 x8 x9 x10 = a
  canon_tiles x hx
  all_goals
    idx_vars x
    pointwise [k1_pay32, k1_pay33, k1_pay34, k1_pay35, k1_pay36]
    blk_point []

/-- A block's normed row. -/
def hrow (x0 : Vec Ideal S512x1024 .f32) (x1 : Vec Ideal S1x1024 .f32) (r : Fin 512) : Fin 1024 → EReal :=
  normed 0x44800000#32 (fun k => x0 (ix2 r k)) (fun k => x1 (ix2 0 k))

def cqrow (x0 : Vec Ideal S512x1024 .f32) (x1 : Vec Ideal S1x1024 .f32) (x2 : Vec Ideal S1024x8064 .bf16) (x5 : Vec Ideal S1x256 .f32) (r : Fin 512) : Fin 256 → EReal :=
  normed 0x43800000#32 (fun j => dot (hrow x0 x1 r) (fun k => x2 (ix2 k ⟨j.val, by omega⟩))) (fun j => x5 (ix2 0 j))

def ckrow (x0 : Vec Ideal S512x1024 .f32) (x1 : Vec Ideal S1x1024 .f32) (x2 : Vec Ideal S1024x8064 .bf16) (x6 : Vec Ideal S1x128 .f32) (r : Fin 512) : Fin 128 → EReal :=
  normed 0x43000000#32 (fun j => dot (hrow x0 x1 r) (fun k => x2 (ix2 k ⟨256 + j.val, by omega⟩))) (fun j => x6 (ix2 0 j))

theorem pay42_at (r : Fin 512) (j : Fin 640) :
    k1_pay42 (F := Ideal) x0 x1 x2 x3 x4 x5 x6 x7 x8 x9 x10 (ix2 r j) = dot (hrow x0 x1 r) (fun k => x2 (ix2 k ⟨j.val, by omega⟩)) := by
  unfold k1_pay42
  rw [pay2_at]
  pointwise [hrow, normed, dot]

theorem pay43_at (r : Fin 512) (l : Fin 128) : k1_pay43 (F := Ideal) x0 x1 x2 x3 x4 x5 x6 x7 x8 x9 x10 (ix2 r l) = x3 (ix3 0 r l) := by
  unfold k1_pay43
  pointwise [k1_pay3]

theorem pay44_at (r : Fin 512) (l : Fin 128) : k1_pay44 (F := Ideal) x0 x1 x2 x3 x4 x5 x6 x7 x8 x9 x10 (ix2 r l) = x4 (ix3 0 r l) := by
  unfold k1_pay44
  pointwise [k1_pay4]

theorem pay45_at (r : Fin 512) (j : Fin 256) : k1_pay45 (F := Ideal) x0 x1 x2 x3 x4 x5 x6 x7 x8 x9 x10 (ix2 r j) = cqrow x0 x1 x2 x5 r j := by
  unfold k1_pay45
  rw [pay5_at]
  unfold cqrow
  refine congrArg₂ (fun a b => normed 0x43800000#32 a b j) (funext fun j => ?_) (funext fun j => ?_)
  · exact pay42_at x0 x1 x2 x3 x4 x5 x6 x7 x8 x9 x10 r ⟨j.val, by omega⟩
  · pointwise []

theorem pay46_at (r : Fin 512) (j : Fin 1024) : k1_pay46 (F := Ideal) x0 x1 x2 x3 x4 x5 x6 x7 x8 x9 x10 (ix2 r j) = dot (cqrow x0 x1 x2 x5 r) (fun k => x7 (ix2 k j)) := by
  unfold k1_pay46
  rw [pay7_at]
  refine congrArg₂ dot (funext fun k => pay45_at x0 x1 x2 x3 x4 x5 x6 x7 x8 x9 x10 r k) (funext fun k => ?_)
  pointwise []

theorem pay47_at (r : Fin 512) (j : Fin 1024) : k1_pay47 (F := Ideal) x0 x1 x2 x3 x4 x5 x6 x7 x8 x9 x10 (ix2 r j) = dot (cqrow x0 x1 x2 x5 r) (fun k => x8 (ix2 k j)) := by
  unfold k1_pay47
  rw [pay8_at]
  refine congrArg₂ dot (funext fun k => pay45_at x0 x1 x2 x3 x4 x5 x6 x7 x8 x9 x10 r k) (funext fun k => ?_)
  pointwise []

theorem pay48_at (r : Fin 512) (j : Fin 1024) : k1_pay48 (F := Ideal) x0 x1 x2 x3 x4 x5 x6 x7 x8 x9 x10 (ix2 r j) = dot (ckrow x0 x1 x2 x6 r) (fun k => x9 (ix2 k j)) := by
  unfold k1_pay48
  rw [pay10_at]
  unfold ckrow
  refine congrArg₂ dot (congrArg₂ (normed 0x43000000#32) (funext fun k => pay42_at x0 x1 x2 x3 x4 x5 x6 x7 x8 x9 x10 r ⟨256 + k.val, by omega⟩) (funext fun k => ?_)) (funext fun k => ?_)
  · pointwise []
  · pointwise []

theorem pay49_at (r : Fin 512) (j : Fin 512) : k1_pay49 (F := Ideal) x0 x1 x2 x3 x4 x5 x6 x7 x8 x9 x10 (ix2 r j) = dot (ckrow x0 x1 x2 x6 r) (fun k => x10 (ix2 k j)) := by
  unfold k1_pay49
  rw [pay11_at]
  unfold ckrow
  refine congrArg₂ dot (congrArg₂ (normed 0x43000000#32) (funext fun k => pay42_at x0 x1 x2 x3 x4 x5 x6 x7 x8 x9 x10 r ⟨256 + k.val, by omega⟩) (funext fun k => ?_)) (funext fun k => ?_)
  · pointwise []
  · pointwise []

theorem pay50_at (r : Fin 512) (l : Fin 128) : k1_pay50 (F := Ideal) x0 x1 x2 x3 x4 x5 x6 x7 x8 x9 x10 (ix2 r l)
    = dot (hrow x0 x1 r) (fun k => x2 (ix2 k ⟨384 + l.val, by omega⟩)) * x3 (ix3 0 r l)
      + dot (hrow x0 x1 r) (fun k => x2 (ix2 k ⟨512 + l.val, by omega⟩)) * x4 (ix3 0 r l) := by
  unfold k1_pay50
  rw [pay12_at, pay42_at, pay42_at, pay43_at, pay44_at]

theorem out14_at (r : Fin 512) (j : Fin 1664) :
    out1_14 (F := Ideal) x0 x1 x2 x3 x4 x5 x6 x7 x8 x9 x10 (ix2 r j) = dot (hrow x0 x1 r) (fun k => x2 (ix2 k ⟨640 + j.val, by omega⟩)) := by
  frame_out
  unfold k1_pay41
  pointwise [k1_pay37, k1_pay1, hrow, normed, dot]

theorem out15_at (r : Fin 512) (j : Fin 1152) :
    out1_15 (F := Ideal) x0 x1 x2 x3 x4 x5 x6 x7 x8 x9 x10 (ix2 r j) = dot (hrow x0 x1 r) (fun k => x2 (ix2 k ⟨2304 + j.val, by omega⟩)) := by
  frame_out
  unfold k1_pay41
  pointwise [k1_pay38, k1_pay1, hrow, normed, dot]

theorem out16_at (r : Fin 512) (j : Fin 1536) :
    out1_16 (F := Ideal) x0 x1 x2 x3 x4 x5 x6 x7 x8 x9 x10 (ix2 r j) = dot (hrow x0 x1 r) (fun k => x2 (ix2 k ⟨3456 + j.val, by omega⟩)) := by
  frame_out
  unfold k1_pay41
  pointwise [k1_pay39, k1_pay1, hrow, normed, dot]

theorem out17_at (r : Fin 512) (j : Fin 3072) :
    out1_17 (F := Ideal) x0 x1 x2 x3 x4 x5 x6 x7 x8 x9 x10 (ix2 r j) = dot (hrow x0 x1 r) (fun k => x2 (ix2 k ⟨4992 + j.val, by omega⟩)) := by
  frame_out
  unfold k1_pay41
  pointwise [k1_pay40, k1_pay1, hrow, normed, dot]

end Blocks

end Cert.Proj

end
-- ==== Proof.ProjTables.lean ====
/-
  The rotation tables the kernel computes: the cosine and the sine of position times frequency in the 32 rotated lanes, one and zero below them, zero above.
-/
module

public import proofs.«01_k».proof.Proof.ProjHost
public import Idealize.ShloMosaic.Lib.Routing.OpsSet
public import Idealize.ShloMosaic.Lib.Routing.OpsPair
public import Idealize.ShloMosaic.Lib.Routing.OpsOne
public import Idealize.ShloMosaic.Lib.WordCmp

@[expose] public section

set_option maxRecDepth 16384

noncomputable section

namespace Cert.Proj

open Cert.Kernel3Ideal Cert.Kernel3Ideal.Gen
open Idealize.ShloMosaic Idealize.ShloMosaic.TcCoe Idealize.ShloMosaic.StableHlo Idealize.SL.Sem
open Idealize.ShloMosaic.Pipeline (Dat)

/-- The sixteen frequencies. -/
def freqs : FVec Ideal S16 .f32 :=
  Host.divf (broadcastInDim S16 ![] bcast_S_S16 (constant S_ .f32 0x3F800000#32))
    (Host.powf (broadcastInDim S16 ![] bcast_S_S16 (constant S_ .f32 0x461C4000#32))
      (Host.divf (addf (broadcastInDim S16 ![] bcast_S_S16 (constant S_ .f32 0x00000000#32))
          (mulf (broadcastInDim S16 ![] bcast_S_S16 (constant S_ .f32 0x40000000#32)) (sitofp .f32 (iotaInDim S16 32 0))))
        (broadcastInDim S16 ![] bcast_S_S16 (constant S_ .f32 0x42000000#32))))

def freqPair : FVec Ideal S32 .f32 :=
  shapeCast S32 (broadcastInDim S2x16 ![0, 1] bcast_S1x16_S2x16_0_1 (shapeCast S1x16 freqs shapeCasts_S16_S1x16)) shapeCasts_S2x16_S32

def freqStart : IVec S2 32 :=
  concatenate S2 0 [⟨S1, broadcastInDim S1 ![] bcast_S_S1 (constantI S_ 32 0#32)⟩, ⟨S1, broadcastInDim S1 ![] bcast_S_S1 (constantI S_ 32 64#32)⟩] concatenates_S1_S1_S2_d0

/-- The frequencies twice over, in lanes 64 to 95 of a row of 128. -/
def freqRow : FVec Ideal S1x128 .f32 :=
  Host.scatter scatter_S1x128_S2_S32_0_0_01_0 (fun _ b => b) (broadcastInDim S1x128 ![] bcast_S_S1x128 (constant S_ .f32 0x00000000#32)) freqStart freqPair

variable (m : (ℓ : Loc nD τ sig) → Buf (Elt Ideal) ℓ) (ρ : Dev nD → PrngReg)

set_option maxHeartbeats 2000000 in
theorem host_freq (c : Dev nD) : V1 m ρ c main_v18 = freqRow := by
  show StableHlo.after hostOps0 (W0 m ρ c) _ = _
  generalize W0 m ρ c = u
  after_results_simp <;> rfl

set_option maxHeartbeats 2000000 in
theorem host_pos (c : Dev nD) : V1 m ρ c main_v20
    = (broadcastInDim S8x4096x1 ![0, 1] bcast_S8x4096_S8x4096x1_0_1 (sitofp .f32 (show IVec S8x4096 32 from m ((c : Thread nD τ).loc main_arg1)) : FVec Ideal S8x4096 .f32) : FVec Ideal S8x4096x1 .f32) := by
  show StableHlo.after hostOps0 (W0 m ρ c) _ = _
  rw [show (show IVec S8x4096 32 from m ((c : Thread nD τ).loc main_arg1)) = W0 m ρ c (Proc.devRef .tc main_arg1) from rfl]
  generalize W0 m ρ c = u
  after_results_simp <;> rfl

theorem freqPair_at (j : Fin 32) : freqPair (ix1 j) = freqs (ix1 ⟨j.val % 16, Nat.mod_lt _ (by decide)⟩) := by
  pointwise [freqPair]

theorem freqStart_at (a : Fin 2) : freqStart (ix1 a) = if a.val < 1 then 0#32 else 64#32 := by
  pointwise [freqStart]
  exact dite_eq_ite

theorem freqStart_lane (k : S32.Idx) : scatter_S1x128_S2_S32_0_0_01_0.start k freqStart 1 = 64 :=
  (Idealize.ShloMosaic.Routing.start_pair (R := 1) (C := 128) scatter_S1x128_S2_S32_0_0_01_0 rfl rfl freqStart k 1).trans
    ((congrArg BitVec.toInt (freqStart_at 1)).trans (by decide))

theorem freqStart_row (k : S32.Idx) : scatter_S1x128_S2_S32_0_0_01_0.start k freqStart 0 = 0 :=
  (Idealize.ShloMosaic.Routing.start_pair (R := 1) (C := 128) scatter_S1x128_S2_S32_0_0_01_0 rfl rfl freqStart k 0).trans
    ((congrArg BitVec.toInt (freqStart_at 0)).trans (by decide))

theorem window_lane (k : S32.Idx) : scatter_S1x128_S2_S32_0_0_01_0.window k 1 = (k 0).val := by
  unfold ScatterDims.window
  rw [dif_pos (by decide)]
  exact congrArg (fun t => (k t).val) (Subsingleton.elim (α := Fin 1) _ 0)

theorem window_row (k : S32.Idx) : scatter_S1x128_S2_S32_0_0_01_0.window k 0 = 0 := by
  unfold ScatterDims.window
  rw [dif_neg (by decide)]

theorem freqRow_at (j : Fin 32) : freqRow (ix2 0 ⟨64 + j.val, by omega⟩) = freqPair (ix1 j) := by
  unfold freqRow
  refine Idealize.ShloMosaic.Routing.scatter_set_hit _ _ _ _ _ _ (fun k hk => ?_) (ix1 j) ?_
  · have h := (Idealize.ShloMosaic.Routing.resultIdx?_eq_some _ _ _ _).1 hk 1
    rw [freqStart_lane, window_lane] at h
    have e : (k 0).val = j.val := by
      have h' : (64 : Int) + ((k 0).val : Int) = ((64 + j.val : ℕ) : Int) := h
      omega
    rw [Idealize.ShloMosaic.ValueIdx.eq_ix1 k]
    exact congrArg (fun e => freqPair (ix1 e)) (Fin.ext e)
  · refine (Idealize.ShloMosaic.Routing.resultIdx?_eq_some _ _ _ _).2 fun a => ?_
    match a with
    | ⟨0, _⟩ =>
      refine (congrArg₂ (fun (a : Int) (b : ℕ) => a + (b : Int)) (freqStart_row (ix1 j)) (window_row (ix1 j))).trans ?_
      rfl
    | ⟨1, _⟩ =>
      refine (congrArg₂ (fun (a : Int) (b : ℕ) => a + (b : Int)) (freqStart_lane (ix1 j)) (window_lane (ix1 j))).trans ?_
      show (64 : Int) + (j.val : Int) = ((64 + j.val : ℕ) : Int)
      omega

theorem pay3_at (v0 : Vec Ideal S1x512x1 .f32) (v2 : Vec Ideal S1x128 .f32) (r : Fin 512) (l : Fin 128) :
    k0_pay3 (F := Ideal) v0 v2 (ix3 0 r l) = if 64 ≤ l.val ∧ l.val < 96 then Ideal.cos (v0 (ix3 0 r 0) * v2 (ix2 0 l)) else if l.val < 64 then 1 else 0 := by
  pointwise [k0_pay3, k0_pay2, k0_pay1]
  word_cmp

theorem pay4_at (v0 : Vec Ideal S1x512x1 .f32) (v2 : Vec Ideal S1x128 .f32) (r : Fin 512) (l : Fin 128) :
    k0_pay4 (F := Ideal) v0 v2 (ix3 0 r l) = if 64 ≤ l.val ∧ l.val < 96 then Ideal.sin (v0 (ix3 0 r 0) * v2 (ix2 0 l)) else 0 := by
  pointwise [k0_pay4, k0_pay2, k0_pay1]
  word_cmp

theorem idx0 : ∀ t : Fin cfg0.N,
    win0_0.index t = ![t.val / 8, t.val % 8, 0] ∧ win0_1.index t = ![0, 0] ∧ win0_2.index t = ![t.val / 8, t.val % 8, 0] ∧ win0_3.index t = ![t.val / 8, t.val % 8, 0] ∧ t.val < 64 :=
  (by decide +kernel : ∀ t : Fin grid0.N, _)

/-- A position, as a number. -/
def place (c : Dev nD) (b : Fin 8) (s : Fin 4096) : EReal :=
  (sitofp .f32 (show IVec S8x4096 32 from m ((c : Thread nD τ).loc main_arg1)) : FVec Ideal S8x4096 .f32) (ix2 b s)

def cosLane (p : EReal) (l : Fin 128) : EReal :=
  if 64 ≤ l.val ∧ l.val < 96 then Ideal.cos (p * freqRow (ix2 0 l)) else if l.val < 64 then 1 else 0

def sinLane (p : EReal) (l : Fin 128) : EReal :=
  if 64 ≤ l.val ∧ l.val < 96 then Ideal.sin (p * freqRow (ix2 0 l)) else 0

def cosTable (c : Dev nD) : FVec Ideal S8x4096x128 .f32 := fun i => cosLane (place m c (i 0) (i 1)) (i 2)
def sinTable (c : Dev nD) : FVec Ideal S8x4096x128 .f32 := fun i => sinLane (place m c (i 0) (i 1)) (i 2)

theorem pos_block (c : Dev nD) (t : Fin cfg0.N) (r : Fin 512) (b : Fin 8) (s : Fin 4096) (hb : b.val = t.val / 8) (hs : s.val = t.val % 8 * 512 + r.val) :
    (show FVec Ideal S1x512x1 .f32 from iblk0 (V1 m ρ) c 0 t) (ix3 0 r 0) = place m c b s := by
  blk_simp [iblk0]
  refine Eq.trans (congrFun (host_pos m ρ c) _) ?_
  unfold place
  have e : ((cfg0.win 0).blk t).view.emb (ix3 0 r 0) = (ix3 b s 0 : S8x4096x1.Idx) := by blk_ext [idx0 t]
  refine Eq.trans (congrArg _ e) ?_
  pointwise []

theorem freq_block (c : Dev nD) (t : Fin cfg0.N) (l : Fin 128) :
    (show FVec Ideal S1x128 .f32 from iblk0 (V1 m ρ) c 1 t) (ix2 0 l) = freqRow (ix2 0 l) := by
  blk_simp [iblk0]
  refine Eq.trans (congrFun (host_freq m ρ c) _) ?_
  have e : ((cfg0.win 1).blk t).view.emb (ix2 0 l) = (ix2 0 l : S1x128.Idx) := by blk_ext [idx0 t]
  exact congrArg freqRow e

theorem place0_2 (t : Fin cfg0.N) (r : Fin 512) (l : Fin 128) (b : Fin 8) (s : Fin 4096) (hb : b.val = t.val / 8) (hs : s.val = t.val % 8 * 512 + r.val) :
    ((cfg0.win 2).blk t).view.emb (ix3 0 r l) = ix3 b s l := by
  blk_ext [idx0 t]

theorem final0_2 (c : Dev nD) : (dat0 (V1 m ρ) c).arrAt 2 cfg0.N = cosTable m c := by
  refine Dat.arrAt_eq_of_covers (dat0 (V1 m ρ) c) 2 _ (by decide +kernel) fun t _ y => ?_
  blk_simp
  rw [after0_2]
  frame_out
  idx_vars y
  obtain rfl : y0 = 0 := Subsingleton.elim _ _
  have ht : t.val < 64 := (idx0 t).2.2.2.2
  refine Eq.trans (pay3_at _ _ y1 y2) ?_
  refine Eq.trans ?_ (congrArg (cosTable m c) (place0_2 t y1 y2 ⟨t.val / 8, by omega⟩ ⟨t.val % 8 * 512 + y1.val, by omega⟩ rfl rfl)).symm
  exact congrArg₂ (fun a f => if 64 ≤ y2.val ∧ y2.val < 96 then Ideal.cos (a * f) else if y2.val < 64 then 1 else 0) (pos_block m ρ c t y1 _ _ rfl rfl) (freq_block m ρ c t y2)

theorem place0_3 (t : Fin cfg0.N) (r : Fin 512) (l : Fin 128) (b : Fin 8) (s : Fin 4096) (hb : b.val = t.val / 8) (hs : s.val = t.val % 8 * 512 + r.val) :
    ((cfg0.win 3).blk t).view.emb (ix3 0 r l) = ix3 b s l := by
  blk_ext [idx0 t]

theorem final0_3 (c : Dev nD) : (dat0 (V1 m ρ) c).arrAt 3 cfg0.N = sinTable m c := by
  refine Dat.arrAt_eq_of_covers (dat0 (V1 m ρ) c) 3 _ (by decide +kernel) fun t _ y => ?_
  blk_simp
  rw [after0_3]
  frame_out
  idx_vars y
  obtain rfl : y0 = 0 := Subsingleton.elim _ _
  have ht : t.val < 64 := (idx0 t).2.2.2.2
  refine Eq.trans (pay4_at _ _ y1 y2) ?_
  refine Eq.trans ?_ (congrArg (sinTable m c) (place0_3 t y1 y2 ⟨t.val / 8, by omega⟩ ⟨t.val % 8 * 512 + y1.val, by omega⟩ rfl rfl)).symm
  exact congrArg₂ (fun a f => if 64 ≤ y2.val ∧ y2.val < 96 then Ideal.sin (a * f) else 0) (pos_block m ρ c t y1 _ _ rfl rfl) (freq_block m ρ c t y2)

theorem table_cos (c : Dev nD) : V3 m ρ c main_v21_0 = cosTable m c :=
  (W3_of m ρ c main_v21_0 (by decide)).trans ((W2_arr m ρ c 2).trans (final0_2 m ρ c))

theorem table_sin (c : Dev nD) : V3 m ρ c main_v21_1 = sinTable m c :=
  (W3_of m ρ c main_v21_1 (by decide)).trans ((W2_arr m ρ c 3).trans (final0_3 m ρ c))

end Cert.Proj

end
-- ==== Proof.ProjRow.lean ====
/-
  The projection, row by row, over the extended reals: the layer's own formulas, and the padded and turned weights brought to them.
-/
module

public import proofs.«01_k».proof.Proof.ProjSpec
public import proofs.«01_k».proof.Proof.ProjTables
public import proofs.«01_k».proof.Proof.Online

@[expose] public section

set_option maxRecDepth 16384

noncomputable section

namespace Cert.Proj

open Cert.Kernel3Ideal Cert.Kernel3Ideal.Gen
open Idealize.ShloMosaic Idealize.ShloMosaic.TcCoe Idealize.SL.Sem
open scoped BigOperators

/-! ### A normed row is real -/

theorem lanes1024 : ∃ r : ℝ, Ideal.ofBits FTy.f32 0x44800000#32 = r ∧ 0 < r :=
  ⟨_, by simp [Ideal.ofBits, Ideal.ieee]; rfl, by positivity⟩

theorem lanes256 : ∃ r : ℝ, Ideal.ofBits FTy.f32 0x43800000#32 = r ∧ 0 < r :=
  ⟨_, by simp [Ideal.ofBits, Ideal.ieee]; rfl, by positivity⟩

theorem eps_pos : ∃ r : ℝ, Ideal.ofBits FTy.f32 0x358637BD#32 = r ∧ 0 < r :=
  ⟨_, by simp [Ideal.ofBits, Ideal.ieee]; rfl, by positivity⟩

theorem mul_real {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

theorem square_nonneg (x : EReal) : 0 ≤ x * x := by
  induction x with
  | bot => simp
  | top => simp
  | coe r => rw [← EReal.coe_mul]; exact EReal.coe_nonneg.2 (mul_self_nonneg r)

theorem square_real {x : EReal} (h : x * x ≠ ⊤) : ∃ r : ℝ, x = r := by
  induction x with
  | bot => simp at h
  | top => simp at h
  | coe r => exact ⟨r, rfl⟩

theorem rsqrt_real {r : ℝ} (h : 0 < r) : ∃ q : ℝ, Ideal.rsqrt (r : EReal) = q := by
  refine ⟨(Real.sqrt r)⁻¹, ?_⟩
  show (if r < 0 then (⊥ : EReal) else if r = 0 then ⊤ else ((Real.sqrt r)⁻¹ : ℝ)) = _
  rw [if_neg (not_lt.2 h.le), if_neg h.ne']

/-- Whatever the row, its norm times a real weight is real: a row with an infinity has an infinite mean square, whose inverse root is zero. -/
theorem normed_real {N : ℕ} (n : BitVec 32) (hn : ∃ r : ℝ, Ideal.ofBits FTy.f32 n = r ∧ 0 < r) (x g : Fin N → EReal) (k : Fin N) (hg : ∃ r : ℝ, g k = r) :
    ∃ r : ℝ, normed n x g k = r := by
  obtain ⟨d, hd, hd0⟩ := hn
  obtain ⟨e, he, he0⟩ := eps_pos
  have hdiv : ∀ s : EReal, Ideal.div s (d : EReal) = s * ((d⁻¹ : ℝ) : EReal) := fun s => by
    unfold Ideal.div
    rw [if_neg (by exact_mod_cast hd0.ne'), ← EReal.coe_inv]
  have hi : 0 < d⁻¹ := inv_pos.2 hd0
  unfold normed
  rw [hd, he, hdiv]
  by_cases hs : (∑ j : Fin N, x j * x j) = ⊤
  · rw [hs, EReal.top_mul_coe_of_pos hi, EReal.top_add_coe]
    refine ⟨0, ?_⟩
    show x k * (0 : EReal) * g k = _
    rw [mul_zero, zero_mul]; rfl
  · have hx : ∀ j, ∃ r : ℝ, x j = r := fun j => square_real fun h => hs (top_le_iff.1 (h ▸
      Finset.single_le_sum (f := fun j => x j * x j) (fun j _ => square_nonneg (x j)) (Finset.mem_univ j)))
    obtain ⟨s, hs'⟩ := Cert.Attn.sum_real Finset.univ (fun j => x j * x j) fun j _ => mul_real (hx j) (hx j)
    have h0 : 0 ≤ s := by
      have := Finset.sum_nonneg (s := Finset.univ) (f := fun j => x j * x j) fun j _ => square_nonneg (x j)
      rw [hs'] at this
      exact EReal.coe_nonneg.1 this
    rw [hs', ← EReal.coe_mul, ← EReal.coe_add]
    exact mul_real (mul_real (hx k) (rsqrt_real (by positivity))) hg

theorem dot_neg {N : ℕ} (x w : Fin N → EReal) (hx : ∀ k, ∃ r : ℝ, x k = r) (hw : ∀ k, ∃ r : ℝ, w k = r) : dot x (fun k => -w k) = -dot x w := by
  choose a ha using hx
  choose b hb using hw
  have coe_sum : ∀ f : Fin N → ℝ, ∑ k : Fin N, (f k : EReal) = ((∑ k : Fin N, f k : ℝ) : EReal) := fun f => by
    induction (Finset.univ : Finset (Fin N)) using Finset.induction_on with
    | empty => simp
    | insert i t hi ih => rw [Finset.sum_insert hi, Finset.sum_insert hi, ih, EReal.coe_add]
  unfold dot
  simp only [ha, hb, ← EReal.coe_neg, ← EReal.coe_mul, coe_sum, mul_neg, Finset.sum_neg_distrib]

theorem dot_zero {N : ℕ} (x : Fin N → EReal) : dot x (fun _ => 0) = 0 := by
  unfold dot
  simp

/-! ### The layer's formulas -/

/-- The arguments, by coordinates. -/
structure Inputs where
  x : Fin 32768 → Fin 1024 → EReal
  pos : Fin 8 → Fin 4096 → EReal
  freq : Fin 16 → EReal
  norm : Fin 1024 → EReal
  w : Fin 1024 → Fin 7728 → EReal
  qn : Fin 256 → EReal
  kn : Fin 128 → EReal
  uq : Fin 256 → Fin 768 → EReal
  ukv : Fin 128 → Fin 1024 → EReal

/-- The row of a batch's position. -/
def rowOf (b : Fin 8) (s : Fin 4096) : Fin 32768 := ⟨b.val * 4096 + s.val, by omega⟩

/-- A rotation of 32 lanes, the halves paired. -/
def rot (u : Fin 32 → EReal) (θ : Fin 16 → EReal) (e : Fin 32) : EReal :=
  if h : e.val < 16 then u e * Ideal.cos (θ ⟨e.val, h⟩) - u ⟨e.val + 16, by omega⟩ * Ideal.sin (θ ⟨e.val, h⟩)
  else u e * Ideal.cos (θ ⟨e.val - 16, by omega⟩) + u ⟨e.val - 16, by omega⟩ * Ideal.sin (θ ⟨e.val - 16, by omega⟩)

namespace Inputs

variable (A : Inputs)

def h (r : Fin 32768) : Fin 1024 → EReal := normed 0x44800000#32 (A.x r) A.norm
def col (r : Fin 32768) (j : Fin 7728) : EReal := dot (A.h r) (fun k => A.w k j)
def cq (r : Fin 32768) : Fin 256 → EReal := normed 0x43800000#32 (fun j => A.col r ⟨j.val, by omega⟩) A.qn
def ck (r : Fin 32768) : Fin 128 → EReal := normed 0x43000000#32 (fun j => A.col r ⟨256 + j.val, by omega⟩) A.kn
def q (r : Fin 32768) (n : Fin 8) (e : Fin 96) : EReal := dot (A.cq r) (fun k => A.uq k ⟨96 * n.val + e.val, by omega⟩)
def kv (r : Fin 32768) (n : Fin 8) (e : Fin 128) : EReal := dot (A.ck r) (fun k => A.ukv k ⟨128 * n.val + e.val, by omega⟩)
def angle (b : Fin 8) (s : Fin 4096) (j : Fin 16) : EReal := A.pos b s * A.freq j

/-- A head's query: 64 lanes as projected, 32 rotated, the rest zero, all scaled. -/
def query (b : Fin 8) (n : Fin 8) (s : Fin 4096) (l : Fin 128) : EReal :=
  (if h : l.val < 64 then A.q (rowOf b s) n ⟨l.val, by omega⟩
    else if h' : l.val < 96 then rot (fun e => A.q (rowOf b s) n ⟨64 + e.val, by omega⟩) (A.angle b s) ⟨l.val - 64, by omega⟩ else 0)
    * Ideal.ofBits FTy.f32 0x3DD105EC#32

/-- A head's key: 64 lanes of its own, 32 rotated and shared by the heads, the rest zero. -/
def key (b : Fin 8) (n : Fin 8) (s : Fin 4096) (l : Fin 128) : EReal :=
  if h : l.val < 64 then A.kv (rowOf b s) n ⟨l.val, by omega⟩
    else if h' : l.val < 96 then rot (fun e => A.col (rowOf b s) ⟨384 + e.val, by omega⟩) (A.angle b s) ⟨l.val - 64, by omega⟩ else 0

/-- Two heads' values side by side. -/
def value (b : Fin 8) (p : Fin 4) (s : Fin 4096) (l : Fin 128) : EReal :=
  A.kv (rowOf b s) ⟨2 * p.val + l.val / 64, by omega⟩ ⟨64 + l.val % 64, by omega⟩

def rwkv (r : Fin 32768) (j : Fin 1664) : EReal := A.col r ⟨416 + j.val, by omega⟩
def gla (r : Fin 32768) (j : Fin 1152) : EReal := if h : j.val < 1040 then A.col r ⟨2080 + j.val, by omega⟩ else 0
def gate (r : Fin 32768) (j : Fin 1536) : EReal := A.col r ⟨3120 + j.val, by omega⟩
def merge (r : Fin 32768) (j : Fin 3072) : EReal := A.col r ⟨4656 + j.val, by omega⟩

end Inputs

end Cert.Proj

end
-- ==== Proof.ProjLanes.lean ====
/-
  Each lane the kernel computes from padded and turned weights is the layer's formula.
-/
module

public import proofs.«01_k».proof.Proof.ProjRow

@[expose] public section

set_option maxRecDepth 16384

noncomputable section

namespace Cert.Proj

open Cert.Kernel3Ideal Cert.Kernel3Ideal.Gen
open Idealize.ShloMosaic Idealize.ShloMosaic.TcCoe Idealize.SL.Sem
open scoped BigOperators

theorem freq_lane (l : Fin 128) (h : 64 ≤ l.val) (h' : l.val < 96) : freqRow (ix2 0 l) = freqs (ix1 ⟨(l.val - 64) % 16, Nat.mod_lt _ (by decide)⟩) := by
  have e := freqRow_at ⟨l.val - 64, by omega⟩
  rw [freqPair_at] at e
  rw [← e]
  exact congrArg (fun l => freqRow (ix2 0 l)) (Fin.ext (by dsimp only; omega))

/-- A rotated lane: its own value times the cosine plus its partner's, signed, times the sine. -/
theorem rotated_lane (p : EReal) (l : Fin 128) (h : 64 ≤ l.val) (h' : l.val < 96) (a b : EReal) (u : Fin 32 → EReal)
    (ha : a = u ⟨l.val - 64, by omega⟩)
    (hb : b = if hl : l.val < 80 then -u ⟨l.val - 64 + 16, by omega⟩ else u ⟨l.val - 64 - 16, by omega⟩) :
    a * cosLane p l + b * sinLane p l = rot u (fun j => p * freqs (ix1 j)) ⟨l.val - 64, by omega⟩ := by
  unfold cosLane sinLane rot
  rw [if_pos ⟨h, h'⟩, if_pos ⟨h, h'⟩, freq_lane l h h', ha, hb]
  by_cases hl : l.val < 80
  · have e : (⟨(l.val - 64) % 16, Nat.mod_lt _ (by decide)⟩ : Fin 16) = ⟨l.val - 64, by omega⟩ := Fin.ext (by dsimp only; omega)
    rw [dif_pos hl, dif_pos (show (⟨l.val - 64, by omega⟩ : Fin 32).val < 16 by dsimp only; omega), e, EReal.neg_mul, ← sub_eq_add_neg]
  · have e : (⟨(l.val - 64) % 16, Nat.mod_lt _ (by decide)⟩ : Fin 16) = ⟨l.val - 64 - 16, by omega⟩ := Fin.ext (by dsimp only; omega)
    rw [dif_neg hl, dif_neg (show ¬ (⟨l.val - 64, by omega⟩ : Fin 32).val < 16 by dsimp only; omega), e]

theorem low_lane (p a b : EReal) (l : Fin 128) (h : l.val < 64) : a * cosLane p l + b * sinLane p l = a := by
  unfold cosLane sinLane
  rw [if_neg (by omega), if_pos h, if_neg (by omega), mul_one, mul_zero, add_zero]

theorem high_lane (p a b : EReal) (l : Fin 128) (h : 96 ≤ l.val) : a * cosLane p l + b * sinLane p l = 0 := by
  unfold cosLane sinLane
  rw [if_neg (by omega), if_neg (by omega), if_neg (by omega), mul_zero, mul_zero, add_zero]

theorem query_lane (c : Fin 256 → EReal) (w : FVec Ideal S256x768 .f32) (p : EReal) (n : Fin 8) (l : Fin 128)
    (hc : ∀ k, ∃ r : ℝ, c k = r) (hw : ∀ k (j : Fin 768), 80 ≤ j.val % 96 → ∃ r : ℝ, w (ix2 k j) = r) :
    dot c (fun k => paddedQ w (ix2 k ⟨128 * n.val + l.val, by omega⟩)) * cosLane p l
        + dot c (fun k => turnedQ w (ix2 k ⟨128 * n.val + l.val, by omega⟩)) * sinLane p l
      = if h : l.val < 64 then dot c (fun k => w (ix2 k ⟨96 * n.val + l.val, by omega⟩))
        else if h' : l.val < 96 then rot (fun e => dot c (fun k => w (ix2 k ⟨96 * n.val + (64 + e.val), by omega⟩))) (fun j => p * freqs (ix1 j)) ⟨l.val - 64, by omega⟩
        else 0 := by
  split_ifs with h h'
  · rw [low_lane _ _ _ _ h]
    refine congrArg (dot c) (funext fun k => ?_)
    rw [paddedQ_at, dif_pos (by omega)]
  · refine rotated_lane p l (by omega) h' _ _ _ ?_ ?_
    · refine congrArg (dot c) (funext fun k => ?_)
      rw [paddedQ_at, dif_pos h']
      exact congrArg (fun e => w (ix2 k e)) (Fin.ext (by dsimp only; omega))
    · split_ifs with hl
      · rw [← dot_neg c _ hc fun k => hw k _ (by dsimp only; omega)]
        refine congrArg (dot c) (funext fun k => ?_)
        rw [turnedQ_at, dif_pos ⟨by omega, hl⟩]
        exact congrArg (fun e => -w (ix2 k e)) (Fin.ext (by dsimp only; omega))
      · refine congrArg (dot c) (funext fun k => ?_)
        rw [turnedQ_at, dif_neg (by omega), dif_pos ⟨by omega, h'⟩]
        exact congrArg (fun e => w (ix2 k e)) (Fin.ext (by dsimp only; omega))
  · exact high_lane _ _ _ _ (by omega)

theorem columns_congr (w : FVec Ideal S1024x7728 .f32) (k : Fin 1024) {i j : Fin 8064} (h : i.val = j.val) : columns w (ix2 k i) = columns w (ix2 k j) :=
  congrArg (fun e => columns w (ix2 k e)) (Fin.ext h)

theorem key_lane (f : Fin 1024 → EReal) (w : FVec Ideal S1024x7728 .f32) (c : Fin 128 → EReal) (v : FVec Ideal S128x1024 .f32) (p : EReal) (n : Fin 8) (l : Fin 128)
    (hf : ∀ k, ∃ r : ℝ, f k = r) (hw : ∀ k (j : Fin 7728), 400 ≤ j.val → j.val < 416 → ∃ r : ℝ, w (ix2 k j) = r) :
    dot c (fun k => paddedK v (ix2 k ⟨128 * n.val + l.val, by omega⟩))
        + (dot f (fun k => columns w (ix2 k ⟨384 + l.val, by omega⟩)) * cosLane p l + dot f (fun k => columns w (ix2 k ⟨512 + l.val, by omega⟩)) * sinLane p l)
      = if h : l.val < 64 then dot c (fun k => v (ix2 k ⟨128 * n.val + l.val, by omega⟩))
        else if h' : l.val < 96 then rot (fun e => dot f (fun k => w (ix2 k ⟨384 + e.val, by omega⟩))) (fun j => p * freqs (ix1 j)) ⟨l.val - 64, by omega⟩
        else 0 := by
  split_ifs with h h'
  · rw [low_lane _ _ _ _ h]
    have e : (fun k => columns w (ix2 k ⟨384 + l.val, by omega⟩)) = fun _ => (0 : EReal) := funext fun k => columns_z0 w k ⟨l.val, h⟩
    rw [e, dot_zero, add_zero]
    refine congrArg (dot c) (funext fun k => ?_)
    rw [paddedK_at, if_pos h]
  · have e : (fun k => paddedK v (ix2 k ⟨128 * n.val + l.val, by omega⟩)) = fun _ => (0 : EReal) := funext fun k => by rw [paddedK_at, if_neg h]
    rw [e, dot_zero, zero_add]
    refine rotated_lane p l (by omega) h' _ _ _ ?_ ?_
    · refine congrArg (dot f) (funext fun k => ?_)
      exact (columns_congr w k (by dsimp only; omega)).trans (columns_rope w k ⟨l.val - 64, by omega⟩)
    · have ht : ∀ k, columns w (ix2 k ⟨512 + l.val, by omega⟩) = turnedCols w (ix2 k ⟨l.val - 64, by omega⟩) := fun k =>
        (columns_congr w k (by dsimp only; omega)).trans (columns_turned w k ⟨l.val - 64, by omega⟩)
      split_ifs with hl
      · rw [← dot_neg f _ hf fun k => hw k _ (by dsimp only; omega) (by dsimp only; omega)]
        refine congrArg (dot f) (funext fun k => ?_)
        rw [ht, turned_at, dif_pos (by dsimp only; omega)]
        exact congrArg (fun e => -w (ix2 k e)) (Fin.ext (by dsimp only; omega))
      · refine congrArg (dot f) (funext fun k => ?_)
        rw [ht, turned_at, dif_neg (by dsimp only; omega)]
  · have e : (fun k => paddedK v (ix2 k ⟨128 * n.val + l.val, by omega⟩)) = fun _ => (0 : EReal) := funext fun k => by rw [paddedK_at, if_neg h]
    rw [e, dot_zero, zero_add]
    exact high_lane _ _ _ _ (by omega)

theorem value_lane (c : Fin 128 → EReal) (v : FVec Ideal S128x1024 .f32) (p : Fin 4) (l : Fin 128) :
    dot c (fun k => valuesV v (ix2 k ⟨128 * p.val + l.val, by omega⟩))
      = dot c (fun k => v (ix2 k ⟨128 * (2 * p.val + l.val / 64) + (64 + l.val % 64), by omega⟩)) := by
  refine congrArg (dot c) (funext fun k => ?_)
  refine Eq.trans (congrArg (fun e => valuesV v (ix2 k e)) (Fin.ext (by dsimp only; omega))) ((valuesV_at v k ⟨2 * p.val + l.val / 64, by omega⟩ ⟨l.val % 64, by omega⟩).trans ?_)
  exact congrArg (fun e => v (ix2 k e)) (Fin.ext (by dsimp only; omega))

theorem gla_lane (f : Fin 1024 → EReal) (w : FVec Ideal S1024x7728 .f32) (j : Fin 1152) :
    dot f (fun k => columns w (ix2 k ⟨2304 + j.val, by omega⟩)) = if h : j.val < 1040 then dot f (fun k => w (ix2 k ⟨2080 + j.val, by omega⟩)) else 0 := by
  split_ifs with h
  · refine congrArg (dot f) (funext fun k => ?_)
    by_cases h1 : j.val < 256
    · exact columns_gq w k ⟨j.val, h1⟩
    by_cases h2 : j.val < 512
    · refine (columns_congr w k (by dsimp only; omega)).trans ((columns_gk w k ⟨j.val - 256, by omega⟩).trans ?_)
      exact congrArg (fun e => w (ix2 k e)) (Fin.ext (by dsimp only; omega))
    by_cases h3 : j.val < 1024
    · refine (columns_congr w k (by dsimp only; omega)).trans ((columns_gv w k ⟨j.val - 512, by omega⟩).trans ?_)
      exact congrArg (fun e => w (ix2 k e)) (Fin.ext (by dsimp only; omega))
    · refine (columns_congr w k (by dsimp only; omega)).trans ((columns_lat w k ⟨j.val - 1024, by omega⟩).trans ?_)
      exact congrArg (fun e => w (ix2 k e)) (Fin.ext (by dsimp only; omega))
  · have e : (fun k => columns w (ix2 k ⟨2304 + j.val, by omega⟩)) = fun _ => (0 : EReal) := funext fun k =>
      (columns_congr w k (by dsimp only; omega)).trans (columns_z4 w k ⟨j.val - 1040, by omega⟩)
    rw [e, dot_zero]

end Cert.Proj

end
-- ==== Proof.ProjValue.lean ====
/-
  The input projection's seven results over the extended reals: every element is the layer's formula.
-/
module

public import proofs.«01_k».proof.Proof.ProjLanes

@[expose] public section

set_option maxRecDepth 16384

noncomputable section

namespace Cert.Proj

open Cert.Kernel3Ideal Cert.Kernel3Ideal.Gen
open Idealize.ShloMosaic Idealize.ShloMosaic.TcCoe Idealize.SL.Sem
open Idealize.ShloMosaic.Pipeline (Dat)
open scoped BigOperators

variable (m : (ℓ : Loc nD τ sig) → Buf (Elt Ideal) ℓ) (ρ : Dev nD → PrngReg)

def argX (c : Dev nD) : FVec Ideal S32768x1024 .f32 := m ((c : Thread nD τ).loc main_arg0)
def argNorm (c : Dev nD) : FVec Ideal S1024 .f32 := m ((c : Thread nD τ).loc main_arg2)
def argW (c : Dev nD) : FVec Ideal S1024x7728 .f32 := m ((c : Thread nD τ).loc main_arg3)
def argQn (c : Dev nD) : FVec Ideal S256 .f32 := m ((c : Thread nD τ).loc main_arg4)
def argKn (c : Dev nD) : FVec Ideal S128 .f32 := m ((c : Thread nD τ).loc main_arg5)
def argUq (c : Dev nD) : FVec Ideal S256x768 .f32 := m ((c : Thread nD τ).loc main_arg6)
def argUkv (c : Dev nD) : FVec Ideal S128x1024 .f32 := m ((c : Thread nD τ).loc main_arg7)

/-- The arguments, by coordinates. -/
def inputs (c : Dev nD) : Inputs where
  x r d := argX m c (ix2 r d)
  pos := place m c
  freq j := freqs (ix1 j)
  norm d := argNorm m c (ix1 d)
  w k j := argW m c (ix2 k j)
  qn j := argQn m c (ix1 j)
  kn j := argKn m c (ix1 j)
  uq k j := argUq m c (ix2 k j)
  ukv k j := argUkv m c (ix2 k j)

theorem idx1 : ∀ t : Fin cfg1.N,
    win1_0.index t = ![t.val, 0] ∧ win1_1.index t = ![0, 0] ∧ win1_2.index t = ![0, 0] ∧ win1_3.index t = ![t.val / 8, t.val % 8, 0]
    ∧ win1_4.index t = ![t.val / 8, t.val % 8, 0] ∧ win1_5.index t = ![0, 0] ∧ win1_6.index t = ![0, 0] ∧ win1_7.index t = ![0, 0]
    ∧ win1_8.index t = ![0, 0] ∧ win1_9.index t = ![0, 0] ∧ win1_10.index t = ![0, 0]
    ∧ win1_11.index t = ![t.val / 8, 0, t.val % 8, 0] ∧ win1_12.index t = ![t.val / 8, 0, t.val % 8, 0] ∧ win1_13.index t = ![t.val / 8, 0, t.val % 8, 0]
    ∧ win1_14.index t = ![t.val, 0] ∧ win1_15.index t = ![t.val, 0] ∧ win1_16.index t = ![t.val, 0] ∧ win1_17.index t = ![t.val, 0] ∧ t.val < 64 :=
  (by decide +kernel : ∀ t : Fin grid1.N, _)

theorem block1_x (c : Dev nD) (t : Fin cfg1.N) (r : Fin 512) (k : Fin 1024) (R : Fin 32768) (hR : R.val = t.val * 512 + r.val) :
    (show FVec Ideal S512x1024 .f32 from iblk1 (V3 m ρ) c 0 t) (ix2 r k) = argX m c (ix2 R k) := by
  blk_simp [iblk1]
  refine Eq.trans (congrFun (W3_args m ρ c main_arg0 (by decide)) _) ?_
  have e : ((cfg1.win 0).blk t).view.emb (ix2 r k) = (ix2 R k : S32768x1024.Idx) := by blk_ext [idx1 t]
  exact congrArg (argX m c) e

theorem block1_norm (c : Dev nD) (t : Fin cfg1.N) (k : Fin 1024) :
    (show FVec Ideal S1x1024 .f32 from iblk1 (V3 m ρ) c 1 t) (ix2 0 k) = argNorm m c (ix1 k) := by
  blk_simp [iblk1]
  refine Eq.trans (congrFun (host_norm m ρ c) _) ?_
  have e : ((cfg1.win 1).blk t).view.emb (ix2 0 k) = (ix2 0 k : S1x1024.Idx) := by blk_ext [idx1 t]
  refine Eq.trans (congrArg _ e) ?_
  pointwise [argNorm]

theorem block1_w (c : Dev nD) (t : Fin cfg1.N) (k : Fin 1024) (j : Fin 8064) :
    (show FVec Ideal S1024x8064 .bf16 from iblk1 (V3 m ρ) c 2 t) (ix2 k j) = columns (argW m c) (ix2 k j) := by
  blk_simp [iblk1]
  refine Eq.trans (congrFun (host_packed m ρ c) _) ?_
  have e : ((cfg1.win 2).blk t).view.emb (ix2 k j) = (ix2 k j : S1024x8064.Idx) := by blk_ext [idx1 t]
  refine Eq.trans (congrArg _ e) ?_
  rfl

theorem block1_cos (c : Dev nD) (t : Fin cfg1.N) (r : Fin 512) (l : Fin 128) (b : Fin 8) (s : Fin 4096) (hb : b.val = t.val / 8) (hs : s.val = t.val % 8 * 512 + r.val) :
    (show FVec Ideal S1x512x128 .f32 from iblk1 (V3 m ρ) c 3 t) (ix3 0 r l) = cosLane (place m c b s) l := by
  blk_simp [iblk1]
  refine Eq.trans (congrFun (table_cos m ρ c) _) ?_
  have e : ((cfg1.win 3).blk t).view.emb (ix3 0 r l) = (ix3 b s l : S8x4096x128.Idx) := by blk_ext [idx1 t]
  refine Eq.trans (congrArg _ e) ?_
  rfl

theorem block1_sin (c : Dev nD) (t : Fin cfg1.N) (r : Fin 512) (l : Fin 128) (b : Fin 8) (s : Fin 4096) (hb : b.val = t.val / 8) (hs : s.val = t.val % 8 * 512 + r.val) :
    (show FVec Ideal S1x512x128 .f32 from iblk1 (V3 m ρ) c 4 t) (ix3 0 r l) = sinLane (place m c b s) l := by
  blk_simp [iblk1]
  refine Eq.trans (congrFun (table_sin m ρ c) _) ?_
  have e : ((cfg1.win 4).blk t).view.emb (ix3 0 r l) = (ix3 b s l : S8x4096x128.Idx) := by blk_ext [idx1 t]
  refine Eq.trans (congrArg _ e) ?_
  rfl

theorem block1_qn (c : Dev nD) (t : Fin cfg1.N) (j : Fin 256) :
    (show FVec Ideal S1x256 .f32 from iblk1 (V3 m ρ) c 5 t) (ix2 0 j) = argQn m c (ix1 j) := by
  blk_simp [iblk1]
  refine Eq.trans (congrFun (host_qnorm m ρ c) _) ?_
  have e : ((cfg1.win 5).blk t).view.emb (ix2 0 j) = (ix2 0 j : S1x256.Idx) := by blk_ext [idx1 t]
  refine Eq.trans (congrArg _ e) ?_
  pointwise [argQn]

theorem block1_kn (c : Dev nD) (t : Fin cfg1.N) (j : Fin 128) :
    (show FVec Ideal S1x128 .f32 from iblk1 (V3 m ρ) c 6 t) (ix2 0 j) = argKn m c (ix1 j) := by
  blk_simp [iblk1]
  refine Eq.trans (congrFun (host_kvnorm m ρ c) _) ?_
  have e : ((cfg1.win 6).blk t).view.emb (ix2 0 j) = (ix2 0 j : S1x128.Idx) := by blk_ext [idx1 t]
  refine Eq.trans (congrArg _ e) ?_
  pointwise [argKn]

theorem block1_wq (c : Dev nD) (t : Fin cfg1.N) (k : Fin 256) (j : Fin 1024) :
    (show FVec Ideal S256x1024 .bf16 from iblk1 (V3 m ρ) c 7 t) (ix2 k j) = paddedQ (argUq m c) (ix2 k j) := by
  blk_simp [iblk1]
  refine Eq.trans (congrFun (host_wq m ρ c) _) ?_
  have e : ((cfg1.win 7).blk t).view.emb (ix2 k j) = (ix2 k j : S256x1024.Idx) := by blk_ext [idx1 t]
  refine Eq.trans (congrArg _ e) ?_
  rfl

theorem block1_wt (c : Dev nD) (t : Fin cfg1.N) (k : Fin 256) (j : Fin 1024) :
    (show FVec Ideal S256x1024 .bf16 from iblk1 (V3 m ρ) c 8 t) (ix2 k j) = turnedQ (argUq m c) (ix2 k j) := by
  blk_simp [iblk1]
  refine Eq.trans (congrFun (host_wqr m ρ c) _) ?_
  have e : ((cfg1.win 8).blk t).view.emb (ix2 k j) = (ix2 k j : S256x1024.Idx) := by blk_ext [idx1 t]
  refine Eq.trans (congrArg _ e) ?_
  rfl

theorem block1_wk (c : Dev nD) (t : Fin cfg1.N) (k : Fin 128) (j : Fin 1024) :
    (show FVec Ideal S128x1024 .bf16 from iblk1 (V3 m ρ) c 9 t) (ix2 k j) = paddedK (argUkv m c) (ix2 k j) := by
  blk_simp [iblk1]
  refine Eq.trans (congrFun (host_wk m ρ c) _) ?_
  have e : ((cfg1.win 9).blk t).view.emb (ix2 k j) = (ix2 k j : S128x1024.Idx) := by blk_ext [idx1 t]
  refine Eq.trans (congrArg _ e) ?_
  rfl

theorem block1_wv (c : Dev nD) (t : Fin cfg1.N) (k : Fin 128) (j : Fin 512) :
    (show FVec Ideal S128x512 .bf16 from iblk1 (V3 m ρ) c 10 t) (ix2 k j) = valuesV (argUkv m c) (ix2 k j) := by
  blk_simp [iblk1]
  refine Eq.trans (congrFun (host_wv m ρ c) _) ?_
  have e : ((cfg1.win 10).blk t).view.emb (ix2 k j) = (ix2 k j : S128x512.Idx) := by blk_ext [idx1 t]
  refine Eq.trans (congrArg _ e) ?_
  rfl

section Rows

variable (c : Dev nD) (t : Fin cfg1.N) (r : Fin 512) (R : Fin 32768) (hR : R.val = t.val * 512 + r.val)

include hR in
theorem hrow_at : hrow (iblk1 (V3 m ρ) c 0 t) (iblk1 (V3 m ρ) c 1 t) r = (inputs m c).h R :=
  congrArg₂ (normed 0x44800000#32) (funext fun k => block1_x m ρ c t r k R hR) (funext fun k => block1_norm m ρ c t k)

include hR in
/-- A product of the block's normed row with packed columns. -/
theorem dot_at (j : Fin 8064) : dot (hrow (iblk1 (V3 m ρ) c 0 t) (iblk1 (V3 m ρ) c 1 t) r) (fun k => (show FVec Ideal S1024x8064 .bf16 from iblk1 (V3 m ρ) c 2 t) (ix2 k j))
    = dot ((inputs m c).h R) (fun k => columns (argW m c) (ix2 k j)) :=
  congrArg₂ dot (hrow_at m ρ c t r R hR) (funext fun k => block1_w m ρ c t k j)

include hR in
theorem cqrow_at : cqrow (iblk1 (V3 m ρ) c 0 t) (iblk1 (V3 m ρ) c 1 t) (iblk1 (V3 m ρ) c 2 t) (iblk1 (V3 m ρ) c 5 t) r = (inputs m c).cq R :=
  congrArg₂ (normed 0x43800000#32) (funext fun j => (dot_at m ρ c t r R hR _).trans (congrArg (dot _) (funext fun k => by
      refine (columns_congr _ k (by dsimp only; omega)).trans ((columns_q (argW m c) k j).trans ?_)
      exact congrArg (fun e => argW m c (ix2 k e)) (Fin.ext (by dsimp only; omega)))))
    (funext fun j => block1_qn m ρ c t j)

include hR in
theorem ckrow_at : ckrow (iblk1 (V3 m ρ) c 0 t) (iblk1 (V3 m ρ) c 1 t) (iblk1 (V3 m ρ) c 2 t) (iblk1 (V3 m ρ) c 6 t) r = (inputs m c).ck R :=
  congrArg₂ (normed 0x43000000#32) (funext fun j => (dot_at m ρ c t r R hR _).trans (congrArg (dot _) (funext fun k => columns_kv (argW m c) k j)))
    (funext fun j => block1_kn m ρ c t j)

end Rows

def rwkvResult (c : Dev nD) : FVec Ideal S32768x1664 .f32 := fun i => (inputs m c).rwkv (i 0) (i 1)

theorem place1_14 (t : Fin cfg1.N) (r : Fin 512) (j : Fin 1664) (R : Fin 32768) (hR : R.val = t.val * 512 + r.val) :
    ((cfg1.win 14).blk t).view.emb (ix2 r j) = ix2 R j := by
  blk_ext [idx1 t]

theorem final_rwkv (c : Dev nD) : (dat1 (V3 m ρ) c).arrAt 14 cfg1.N = rwkvResult m c := by
  refine Dat.arrAt_eq_of_covers (dat1 (V3 m ρ) c) 14 _ (by decide +kernel) fun t _ y => ?_
  blk_simp
  rw [after1_14]
  idx_vars y
  have ht : t.val < 64 := (idx1 t).2.2.2.2.2.2.2.2.2.2.2.2.2.2.2.2.2.2
  refine Eq.trans (out14_at (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) y0 y1) ?_
  refine Eq.trans (dot_at m ρ c t y0 ⟨t.val * 512 + y0.val, by omega⟩ rfl _) ?_
  refine Eq.trans ?_ (congrArg (rwkvResult m c) (place1_14 t y0 y1 ⟨t.val * 512 + y0.val, by omega⟩ rfl)).symm
  exact congrArg (dot _) (funext fun k => columns_rwkv (argW m c) k y1)

def glaResult (c : Dev nD) : FVec Ideal S32768x1152 .f32 := fun i => (inputs m c).gla (i 0) (i 1)

theorem place1_15 (t : Fin cfg1.N) (r : Fin 512) (j : Fin 1152) (R : Fin 32768) (hR : R.val = t.val * 512 + r.val) :
    ((cfg1.win 15).blk t).view.emb (ix2 r j) = ix2 R j := by
  blk_ext [idx1 t]

theorem final_gla (c : Dev nD) : (dat1 (V3 m ρ) c).arrAt 15 cfg1.N = glaResult m c := by
  refine Dat.arrAt_eq_of_covers (dat1 (V3 m ρ) c) 15 _ (by decide +kernel) fun t _ y => ?_
  blk_simp
  rw [after1_15]
  idx_vars y
  have ht : t.val < 64 := (idx1 t).2.2.2.2.2.2.2.2.2.2.2.2.2.2.2.2.2.2
  refine Eq.trans (out15_at (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) y0 y1) ?_
  refine Eq.trans (dot_at m ρ c t y0 ⟨t.val * 512 + y0.val, by omega⟩ rfl _) ?_
  refine Eq.trans ?_ (congrArg (glaResult m c) (place1_15 t y0 y1 ⟨t.val * 512 + y0.val, by omega⟩ rfl)).symm
  exact gla_lane _ _ y1

def gateResult (c : Dev nD) : FVec Ideal S32768x1536 .bf16 := fun i => (inputs m c).gate (i 0) (i 1)

theorem place1_16 (t : Fin cfg1.N) (r : Fin 512) (j : Fin 1536) (R : Fin 32768) (hR : R.val = t.val * 512 + r.val) :
    ((cfg1.win 16).blk t).view.emb (ix2 r j) = ix2 R j := by
  blk_ext [idx1 t]

theorem final_gate (c : Dev nD) : (dat1 (V3 m ρ) c).arrAt 16 cfg1.N = gateResult m c := by
  refine Dat.arrAt_eq_of_covers (dat1 (V3 m ρ) c) 16 _ (by decide +kernel) fun t _ y => ?_
  blk_simp
  rw [after1_16]
  idx_vars y
  have ht : t.val < 64 := (idx1 t).2.2.2.2.2.2.2.2.2.2.2.2.2.2.2.2.2.2
  refine Eq.trans (out16_at (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) y0 y1) ?_
  refine Eq.trans (dot_at m ρ c t y0 ⟨t.val * 512 + y0.val, by omega⟩ rfl _) ?_
  refine Eq.trans ?_ (congrArg (gateResult m c) (place1_16 t y0 y1 ⟨t.val * 512 + y0.val, by omega⟩ rfl)).symm
  exact congrArg (dot _) (funext fun k => columns_gate (argW m c) k y1)

def mergeResult (c : Dev nD) : FVec Ideal S32768x3072 .bf16 := fun i => (inputs m c).merge (i 0) (i 1)

theorem place1_17 (t : Fin cfg1.N) (r : Fin 512) (j : Fin 3072) (R : Fin 32768) (hR : R.val = t.val * 512 + r.val) :
    ((cfg1.win 17).blk t).view.emb (ix2 r j) = ix2 R j := by
  blk_ext [idx1 t]

theorem final_merge (c : Dev nD) : (dat1 (V3 m ρ) c).arrAt 17 cfg1.N = mergeResult m c := by
  refine Dat.arrAt_eq_of_covers (dat1 (V3 m ρ) c) 17 _ (by decide +kernel) fun t _ y => ?_
  blk_simp
  rw [after1_17]
  idx_vars y
  have ht : t.val < 64 := (idx1 t).2.2.2.2.2.2.2.2.2.2.2.2.2.2.2.2.2.2
  refine Eq.trans (out17_at (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) y0 y1) ?_
  refine Eq.trans (dot_at m ρ c t y0 ⟨t.val * 512 + y0.val, by omega⟩ rfl _) ?_
  refine Eq.trans ?_ (congrArg (mergeResult m c) (place1_17 t y0 y1 ⟨t.val * 512 + y0.val, by omega⟩ rfl)).symm
  exact congrArg (dot _) (funext fun k => columns_merge (argW m c) k y1)

def valueResult (c : Dev nD) : FVec Ideal S8x4x4096x128 .bf16 := fun i => (inputs m c).value (i 0) (i 1) (i 2) (i 3)

theorem place1_13 (t : Fin cfg1.N) (n : Fin 4) (r : Fin 512) (l : Fin 128) (b : Fin 8) (s : Fin 4096) (hb : b.val = t.val / 8) (hs : s.val = t.val % 8 * 512 + r.val) :
    ((cfg1.win 13).blk t).view.emb (ix4 0 n r l) = ix4 b n s l := by
  blk_ext [idx1 t]

theorem final_value (c : Dev nD) : (dat1 (V3 m ρ) c).arrAt 13 cfg1.N = valueResult m c := by
  refine Dat.arrAt_eq_of_covers (dat1 (V3 m ρ) c) 13 _ (by decide +kernel) fun t _ y => ?_
  blk_simp
  rw [after1_13]
  idx_vars y
  obtain rfl : y0 = 0 := Subsingleton.elim _ _
  have ht : t.val < 64 := (idx1 t).2.2.2.2.2.2.2.2.2.2.2.2.2.2.2.2.2.2
  refine Eq.trans ?_ (congrArg (valueResult m c) (place1_13 t y1 y2 y3 ⟨t.val / 8, by omega⟩ ⟨t.val % 8 * 512 + y2.val, by omega⟩ rfl rfl)).symm
  refine Eq.trans (v_block (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) y1 y2 y3) ((pay49_at (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) y2 _).trans ?_)
  refine Eq.trans (congrArg₂ dot (ckrow_at m ρ c t y2 (rowOf ⟨t.val / 8, by omega⟩ ⟨t.val % 8 * 512 + y2.val, by omega⟩) (by unfold rowOf; dsimp only; omega)) (funext fun k => block1_wv m ρ c t k _)) ?_
  exact value_lane _ (argUkv m c) y1 y3

def keyResult (c : Dev nD) : FVec Ideal S8x8x4096x128 .bf16 := fun i => (inputs m c).key (i 0) (i 1) (i 2) (i 3)

theorem place1_12 (t : Fin cfg1.N) (n : Fin 8) (r : Fin 512) (l : Fin 128) (b : Fin 8) (s : Fin 4096) (hb : b.val = t.val / 8) (hs : s.val = t.val % 8 * 512 + r.val) :
    ((cfg1.win 12).blk t).view.emb (ix4 0 n r l) = ix4 b n s l := by
  blk_ext [idx1 t]

theorem final_key (c : Dev nD) (hn : ∀ k, ∃ r : ℝ, argNorm m c (ix1 k) = r) (hw : ∀ k (j : Fin 7728), 400 ≤ j.val → j.val < 416 → ∃ r : ℝ, argW m c (ix2 k j) = r) : (dat1 (V3 m ρ) c).arrAt 12 cfg1.N = keyResult m c := by
  refine Dat.arrAt_eq_of_covers (dat1 (V3 m ρ) c) 12 _ (by decide +kernel) fun t _ y => ?_
  blk_simp
  rw [after1_12]
  idx_vars y
  obtain rfl : y0 = 0 := Subsingleton.elim _ _
  have ht : t.val < 64 := (idx1 t).2.2.2.2.2.2.2.2.2.2.2.2.2.2.2.2.2.2
  refine Eq.trans ?_ (congrArg (keyResult m c) (place1_12 t y1 y2 y3 ⟨t.val / 8, by omega⟩ ⟨t.val % 8 * 512 + y2.val, by omega⟩ rfl rfl)).symm
  refine Eq.trans (k_block (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) y1 y2 y3) ((congrArg₂ (· + ·) (pay48_at (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) y2 _) (pay50_at (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) y2 y3)).trans ?_)
  refine Eq.trans (congrArg₂ (· + ·) (congrArg₂ dot (ckrow_at m ρ c t y2 (rowOf ⟨t.val / 8, by omega⟩ ⟨t.val % 8 * 512 + y2.val, by omega⟩) (by unfold rowOf; dsimp only; omega)) (funext fun k => block1_wk m ρ c t k _))
    (congrArg₂ (· + ·)
      (congrArg₂ (· * ·) (dot_at m ρ c t y2 (rowOf ⟨t.val / 8, by omega⟩ ⟨t.val % 8 * 512 + y2.val, by omega⟩) (by unfold rowOf; dsimp only; omega) _) (block1_cos m ρ c t y2 y3 ⟨t.val / 8, by omega⟩ ⟨t.val % 8 * 512 + y2.val, by omega⟩ rfl rfl))
      (congrArg₂ (· * ·) (dot_at m ρ c t y2 (rowOf ⟨t.val / 8, by omega⟩ ⟨t.val % 8 * 512 + y2.val, by omega⟩) (by unfold rowOf; dsimp only; omega) _) (block1_sin m ρ c t y2 y3 ⟨t.val / 8, by omega⟩ ⟨t.val % 8 * 512 + y2.val, by omega⟩ rfl rfl)))) ?_
  exact key_lane _ (argW m c) _ (argUkv m c) _ y1 y3 (fun k => normed_real _ lanes1024 _ _ k (hn k)) hw

def queryResult (c : Dev nD) : FVec Ideal S8x8x4096x128 .bf16 := fun i => (inputs m c).query (i 0) (i 1) (i 2) (i 3)

theorem place1_11 (t : Fin cfg1.N) (n : Fin 8) (r : Fin 512) (l : Fin 128) (b : Fin 8) (s : Fin 4096) (hb : b.val = t.val / 8) (hs : s.val = t.val % 8 * 512 + r.val) :
    ((cfg1.win 11).blk t).view.emb (ix4 0 n r l) = ix4 b n s l := by
  blk_ext [idx1 t]

theorem final_query (c : Dev nD) (hq : ∀ k, ∃ r : ℝ, argQn m c (ix1 k) = r) (hu : ∀ k (j : Fin 768), 80 ≤ j.val % 96 → ∃ r : ℝ, argUq m c (ix2 k j) = r) : (dat1 (V3 m ρ) c).arrAt 11 cfg1.N = queryResult m c := by
  refine Dat.arrAt_eq_of_covers (dat1 (V3 m ρ) c) 11 _ (by decide +kernel) fun t _ y => ?_
  blk_simp
  rw [after1_11]
  idx_vars y
  obtain rfl : y0 = 0 := Subsingleton.elim _ _
  have ht : t.val < 64 := (idx1 t).2.2.2.2.2.2.2.2.2.2.2.2.2.2.2.2.2.2
  refine Eq.trans ?_ (congrArg (queryResult m c) (place1_11 t y1 y2 y3 ⟨t.val / 8, by omega⟩ ⟨t.val % 8 * 512 + y2.val, by omega⟩ rfl rfl)).symm
  refine Eq.trans (q_block (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) y1 y2 y3) ?_
  refine Eq.trans (congrArg (· * Ideal.ofBits FTy.f32 0x3DD105EC#32) (congrArg₂ (· + ·)
    (congrArg₂ (· * ·) ((pay46_at (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) y2 _).trans (congrArg₂ dot (cqrow_at m ρ c t y2 (rowOf ⟨t.val / 8, by omega⟩ ⟨t.val % 8 * 512 + y2.val, by omega⟩) (by unfold rowOf; dsimp only; omega)) (funext fun k => block1_wq m ρ c t k _)))
      ((pay43_at (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) y2 y3).trans (block1_cos m ρ c t y2 y3 ⟨t.val / 8, by omega⟩ ⟨t.val % 8 * 512 + y2.val, by omega⟩ rfl rfl)))
    (congrArg₂ (· * ·) ((pay47_at (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) y2 _).trans (congrArg₂ dot (cqrow_at m ρ c t y2 (rowOf ⟨t.val / 8, by omega⟩ ⟨t.val % 8 * 512 + y2.val, by omega⟩) (by unfold rowOf; dsimp only; omega)) (funext fun k => block1_wt m ρ c t k _)))
      ((pay44_at (iblk1 (V3 m ρ) c 0 t) (iblk1 (V3 m ρ) c 1 t) (iblk1 (V3 m ρ) c 2 t) (iblk1 (V3 m ρ) c 3 t) (iblk1 (V3 m ρ) c 4 t) (iblk1 (V3 m ρ) c 5 t) (iblk1 (V3 m ρ) c 6 t) (iblk1 (V3 m ρ) c 7 t) (iblk1 (V3 m ρ) c 8 t) (iblk1 (V3 m ρ) c 9 t) (iblk1 (V3 m ρ) c 10 t) y2 y3).trans (block1_sin m ρ c t y2 y3 ⟨t.val / 8, by omega⟩ ⟨t.val % 8 * 512 + y2.val, by omega⟩ rfl rfl))))) ?_
  exact congrArg (· * Ideal.ofBits FTy.f32 0x3DD105EC#32) (query_lane _ (argUq m c) _ y1 y3 (fun k => normed_real _ lanes256 _ _ k (hq k)) hu)

end Cert.Proj

end
-- ==== Proof.ProjRef.lean ====
/-
  The input projection's reference, read at one element.
-/
module

public import proofs.«01_k».proof.Proof.Gen.Reference3Ideal.Run
public import proofs.«01_k».proof.Proof.ProjTables
public import proofs.«01_k».proof.Proof.ProjRow

@[expose] public section

set_option maxRecDepth 16384

noncomputable section

namespace Cert.Reference3Ideal.Proj

open Cert.Reference3Ideal Cert.Reference3Ideal.Gen
open Idealize.ShloMosaic Idealize.ShloMosaic.TcCoe
open Cert.Proj (Inputs rowOf rot dot normed)
open scoped BigOperators

/-! The reference's steps. -/

def norm1024 (o : FVec Ideal S32768x1024 .f32) (g : FVec Ideal S1024 .f32) : FVec Ideal S32768x1024 .f32 :=
  mulf (mulf o (broadcastInDim S32768x1024 ![0, 1] bcast_S32768x1_S32768x1024_0_1 (Host.rsqrt (addf (Host.divf (broadcastInDim S32768x1 ![0] bcast_S32768_S32768x1_0 (Host.reduceAdd (mulf o o) (constant S_ .f32 0x00000000#32) reducesTo_S32768x1024_S32768_d1 h_S_)) (broadcastInDim S32768x1 ![] bcast_S_S32768x1 (constant S_ .f32 0x44800000#32))) (broadcastInDim S32768x1 ![] bcast_S_S32768x1 (constant S_ .f32 0x358637BD#32))))))
    (broadcastInDim S32768x1024 ![0, 1] bcast_S1x1024_S32768x1024_0_1 (broadcastInDim S1x1024 ![1] bcast_S1024_S1x1024_1 g))

def norm256 (o : FVec Ideal S32768x256 .f32) (g : FVec Ideal S256 .f32) : FVec Ideal S32768x256 .f32 :=
  mulf (mulf o (broadcastInDim S32768x256 ![0, 1] bcast_S32768x1_S32768x256_0_1 (Host.rsqrt (addf (Host.divf (broadcastInDim S32768x1 ![0] bcast_S32768_S32768x1_0 (Host.reduceAdd (mulf o o) (constant S_ .f32 0x00000000#32) reducesTo_S32768x256_S32768_d1 h_S_)) (broadcastInDim S32768x1 ![] bcast_S_S32768x1 (constant S_ .f32 0x43800000#32))) (broadcastInDim S32768x1 ![] bcast_S_S32768x1 (constant S_ .f32 0x358637BD#32))))))
    (broadcastInDim S32768x256 ![0, 1] bcast_S1x256_S32768x256_0_1 (broadcastInDim S1x256 ![1] bcast_S256_S1x256_1 g))

def norm128 (o : FVec Ideal S32768x128 .f32) (g : FVec Ideal S128 .f32) : FVec Ideal S32768x128 .f32 :=
  mulf (mulf o (broadcastInDim S32768x128 ![0, 1] bcast_S32768x1_S32768x128_0_1 (Host.rsqrt (addf (Host.divf (broadcastInDim S32768x1 ![0] bcast_S32768_S32768x1_0 (Host.reduceAdd (mulf o o) (constant S_ .f32 0x00000000#32) reducesTo_S32768x128_S32768_d1 h_S_)) (broadcastInDim S32768x1 ![] bcast_S_S32768x1 (constant S_ .f32 0x43000000#32))) (broadcastInDim S32768x1 ![] bcast_S_S32768x1 (constant S_ .f32 0x358637BD#32))))))
    (broadcastInDim S32768x128 ![0, 1] bcast_S1x128_S32768x128_0_1 (broadcastInDim S1x128 ![1] bcast_S128_S1x128_1 g))

def proj (x : FVec Ideal S32768x1024 .f32) (g : FVec Ideal S1024 .f32) (w : FVec Ideal S1024x7728 .f32) : FVec Ideal S32768x7728 .f32 :=
  Host.dotGeneral dot_S32768x1024_S1024x7728_S32768x7728_1_0_0_1_n_n none (norm1024 x g) w

def queries (p : FVec Ideal S32768x7728 .f32) (g : FVec Ideal S256 .f32) (w : FVec Ideal S256x768 .f32) : FVec Ideal S8x4096x8x96 .f32 :=
  shapeCast _ (Host.dotGeneral dot_S32768x256_S256x768_S32768x768_1_0_0_1_n_n none (norm256 (extractStridedSlice S32768x256 ![0, 0] p slices_S32768x7728_S32768x256_0_0) g) w) shapeCasts_S32768x768_S8x4096x8x96

def keysValues (p : FVec Ideal S32768x7728 .f32) (g : FVec Ideal S128 .f32) (w : FVec Ideal S128x1024 .f32) : FVec Ideal S8x4096x8x128 .f32 :=
  shapeCast _ (Host.dotGeneral dot_S32768x128_S128x1024_S32768x1024_1_0_0_1_n_n none (norm128 (extractStridedSlice S32768x128 ![0, 256] p slices_S32768x7728_S32768x128_0_256) g) w) shapeCasts_S32768x1024_S8x4096x8x128

def freqs : FVec Ideal S16 .f32 :=
  Host.divf (broadcastInDim S16 ![] bcast_S_S16 (constant S_ .f32 0x3F800000#32)) (Host.powf (broadcastInDim S16 ![] bcast_S_S16 (constant S_ .f32 0x461C4000#32)) (Host.divf (addf (broadcastInDim S16 ![] bcast_S_S16 (constant S_ .f32 0x00000000#32)) (mulf (broadcastInDim S16 ![] bcast_S_S16 (constant S_ .f32 0x40000000#32)) (sitofp .f32 (iotaInDim S16 32 0)))) (broadcastInDim S16 ![] bcast_S_S16 (constant S_ .f32 0x42000000#32))))

def angles (p : IVec S8x4096 32) (f : FVec Ideal S16 .f32) : FVec Ideal S8x4096x16 .f32 :=
  mulf (broadcastInDim S8x4096x16 ![0, 1, 2] bcast_S8x4096x1_S8x4096x16_0_1_2 (broadcastInDim S8x4096x1 ![0, 1] bcast_S8x4096_S8x4096x1_0_1 (sitofp .f32 p))) (broadcastInDim S8x4096x16 ![0, 1, 2] bcast_S1x1x16_S8x4096x16_0_1_2 (broadcastInDim S1x1x16 ![2] bcast_S16_S1x1x16_2 f))

def spread (u : FVec Ideal S8x4096x16 .f32) : FVec Ideal S8x4096x8x16 .f32 :=
  broadcastInDim S8x4096x8x16 ![0, 1, 2, 3] bcast_S8x4096x1x16_S8x4096x8x16_0_1_2_3 (broadcastInDim S8x4096x1x16 ![0, 1, 3] bcast_S8x4096x16_S8x4096x1x16_0_1_3 u)

def turnQ (y : FVec Ideal S8x4096x8x32 .f32) (u v : FVec Ideal S8x4096x8x16 .f32) : FVec Ideal S8x4096x8x32 .f32 :=
  concatenate S8x4096x8x32 3 [⟨S8x4096x8x16, (subf (mulf (extractStridedSlice S8x4096x8x16 ![0, 0, 0, 0] y slices_S8x4096x8x32_S8x4096x8x16_0_0_0_0) u) (mulf (extractStridedSlice S8x4096x8x16 ![0, 0, 0, 16] y slices_S8x4096x8x32_S8x4096x8x16_0_0_0_16) v))⟩,
    ⟨S8x4096x8x16, (addf (mulf (extractStridedSlice S8x4096x8x16 ![0, 0, 0, 16] y slices_S8x4096x8x32_S8x4096x8x16_0_0_0_16) u) (mulf (extractStridedSlice S8x4096x8x16 ![0, 0, 0, 0] y slices_S8x4096x8x32_S8x4096x8x16_0_0_0_0) v))⟩] concatenates_S8x4096x8x16_S8x4096x8x16_S8x4096x8x32_d3

def turnK (y : FVec Ideal S8x4096x32 .f32) (u v : FVec Ideal S8x4096x16 .f32) : FVec Ideal S8x4096x32 .f32 :=
  concatenate S8x4096x32 2 [⟨S8x4096x16, (subf (mulf (extractStridedSlice S8x4096x16 ![0, 0, 0] y slices_S8x4096x32_S8x4096x16_0_0_0) u) (mulf (extractStridedSlice S8x4096x16 ![0, 0, 16] y slices_S8x4096x32_S8x4096x16_0_0_16) v))⟩,
    ⟨S8x4096x16, (addf (mulf (extractStridedSlice S8x4096x16 ![0, 0, 16] y slices_S8x4096x32_S8x4096x16_0_0_16) u) (mulf (extractStridedSlice S8x4096x16 ![0, 0, 0] y slices_S8x4096x32_S8x4096x16_0_0_0) v))⟩] concatenates_S8x4096x16_S8x4096x16_S8x4096x32_d2

def join (a : FVec Ideal S8x4096x8x64 .f32) (b : FVec Ideal S8x4096x8x32 .f32) : FVec Ideal S8x4096x8x128 .f32 :=
  (concatenate S8x4096x8x128 3 [⟨S8x4096x8x64, (a : (⟨S8x4096x8x64, .f32⟩ : BufTy).Contents (Elt Ideal))⟩, ⟨S8x4096x8x32, (b : (⟨S8x4096x8x32, .f32⟩ : BufTy).Contents (Elt Ideal))⟩, ⟨S8x4096x8x32, ((broadcastInDim S8x4096x8x32 ![] bcast_S_S8x4096x8x32 (constant (F := Ideal) S_ .f32 0x00000000#32)) : (⟨S8x4096x8x32, .f32⟩ : BufTy).Contents (Elt Ideal))⟩] concatenates_S8x4096x8x64_S8x4096x8x32_S8x4096x8x32_S8x4096x8x128_d3 : (⟨S8x4096x8x128, .f32⟩ : BufTy).Contents (Elt Ideal))

def query (q : FVec Ideal S8x4096x8x96 .f32) (a : FVec Ideal S8x4096x16 .f32) : FVec Ideal S8x8x4096x128 .bf16 :=
  truncf .bf16 (transpose S8x8x4096x128 [0, 2, 1, 3] (mulf (join (extractStridedSlice S8x4096x8x64 ![0, 0, 0, 0] q slices_S8x4096x8x96_S8x4096x8x64_0_0_0_0)
      (turnQ (extractStridedSlice S8x4096x8x32 ![0, 0, 0, 64] q slices_S8x4096x8x96_S8x4096x8x32_0_0_0_64) (spread (Host.cos a)) (spread (Host.sin a))))
    (broadcastInDim S8x4096x8x128 ![] bcast_S_S8x4096x8x128 (constant S_ .f32 0x3DD105EC#32))) transposes_S8x4096x8x128_S8x8x4096x128_0_2_1_3) bitsLt_bf16_f32

def shared (p : FVec Ideal S32768x7728 .f32) : FVec Ideal S8x4096x32 .f32 :=
  shapeCast _ (extractStridedSlice S32768x32 ![0, 384] p slices_S32768x7728_S32768x32_0_384) shapeCasts_S32768x32_S8x4096x32

def key (kv : FVec Ideal S8x4096x8x128 .f32) (y : FVec Ideal S8x4096x32 .f32) : FVec Ideal S8x8x4096x128 .bf16 :=
  truncf .bf16 (transpose S8x8x4096x128 [0, 2, 1, 3] (join (extractStridedSlice S8x4096x8x64 ![0, 0, 0, 0] kv slices_S8x4096x8x128_S8x4096x8x64_0_0_0_0)
      (broadcastInDim S8x4096x8x32 ![0, 1, 2, 3] bcast_S8x4096x1x32_S8x4096x8x32_0_1_2_3 (broadcastInDim S8x4096x1x32 ![0, 1, 3] bcast_S8x4096x32_S8x4096x1x32_0_1_3 y)))
    transposes_S8x4096x8x128_S8x8x4096x128_0_2_1_3) bitsLt_bf16_f32

def value (kv : FVec Ideal S8x4096x8x128 .f32) : FVec Ideal S8x4x4096x128 .bf16 :=
  truncf .bf16 (transpose S8x4x4096x128 [0, 2, 1, 3] (shapeCast _ (extractStridedSlice S8x4096x8x64 ![0, 0, 0, 64] kv slices_S8x4096x8x128_S8x4096x8x64_0_0_0_64) shapeCasts_S8x4096x8x64_S8x4096x4x128) transposes_S8x4096x4x128_S8x4x4096x128_0_2_1_3) bitsLt_bf16_f32

def rwkv (p : FVec Ideal S32768x7728 .f32) : FVec Ideal S32768x1664 .f32 :=
  extractStridedSlice S32768x1664 ![0, 416] p slices_S32768x7728_S32768x1664_0_416

def gla (p : FVec Ideal S32768x7728 .f32) : FVec Ideal S32768x1152 .f32 :=
  (concatenate S32768x1152 1 [⟨S32768x256, ((extractStridedSlice S32768x256 ![0, 2080] p slices_S32768x7728_S32768x256_0_2080) : (⟨S32768x256, .f32⟩ : BufTy).Contents (Elt Ideal))⟩, ⟨S32768x256, ((extractStridedSlice S32768x256 ![0, 2336] p slices_S32768x7728_S32768x256_0_2336) : (⟨S32768x256, .f32⟩ : BufTy).Contents (Elt Ideal))⟩, ⟨S32768x512, ((extractStridedSlice S32768x512 ![0, 2592] p slices_S32768x7728_S32768x512_0_2592) : (⟨S32768x512, .f32⟩ : BufTy).Contents (Elt Ideal))⟩, ⟨S32768x16, ((extractStridedSlice S32768x16 ![0, 3104] p slices_S32768x7728_S32768x16_0_3104) : (⟨S32768x16, .f32⟩ : BufTy).Contents (Elt Ideal))⟩, ⟨S32768x112, ((broadcastInDim S32768x112 ![] bcast_S_S32768x112 (constant (F := Ideal) S_ .f32 0x00000000#32)) : (⟨S32768x112, .f32⟩ : BufTy).Contents (Elt Ideal))⟩] concatenates_S32768x256_S32768x256_S32768x512_S32768x16_S32768x112_S32768x1152_d1 : (⟨S32768x1152, .f32⟩ : BufTy).Contents (Elt Ideal))

def gate (p : FVec Ideal S32768x7728 .f32) : FVec Ideal S32768x1536 .bf16 :=
  truncf .bf16 (extractStridedSlice S32768x1536 ![0, 3120] p slices_S32768x7728_S32768x1536_0_3120) bitsLt_bf16_f32

def merge (p : FVec Ideal S32768x7728 .f32) : FVec Ideal S32768x3072 .bf16 :=
  truncf .bf16 (extractStridedSlice S32768x3072 ![0, 4656] p slices_S32768x7728_S32768x3072_0_4656) bitsLt_bf16_f32

/-! Each step at one element. -/

theorem norm1024_at (o g) (r : Fin 32768) (d : Fin 1024) : norm1024 o g (ix2 r d) = Cert.Proj.normed 0x44800000#32 (fun d => o (ix2 r d)) (fun d => g (ix1 d)) d := by
  have z (x : EReal) : (0 : EReal) + x = x := zero_add x
  pointwise [norm1024, Cert.Proj.normed]

theorem norm256_at (o g) (r : Fin 32768) (d : Fin 256) : norm256 o g (ix2 r d) = Cert.Proj.normed 0x43800000#32 (fun d => o (ix2 r d)) (fun d => g (ix1 d)) d := by
  have z (x : EReal) : (0 : EReal) + x = x := zero_add x
  pointwise [norm256, Cert.Proj.normed]

theorem norm128_at (o g) (r : Fin 32768) (d : Fin 128) : norm128 o g (ix2 r d) = Cert.Proj.normed 0x43000000#32 (fun d => o (ix2 r d)) (fun d => g (ix1 d)) d := by
  have z (x : EReal) : (0 : EReal) + x = x := zero_add x
  pointwise [norm128, Cert.Proj.normed]

theorem proj_at (x g w) (r : Fin 32768) (j : Fin 7728) : proj x g w (ix2 r j) = dot (normed 0x44800000#32 (fun d => x (ix2 r d)) (fun d => g (ix1 d))) (fun k => w (ix2 k j)) := by
  have e : proj x g w (ix2 r j) = ∑ k : Fin 1024, norm1024 x g (ix2 r k) * w (ix2 k j) := by pointwise [proj]
  rw [e]
  exact Finset.sum_congr rfl fun k _ => congrArg (· * _) (norm1024_at x g r k)

theorem matq_at (x : FVec Ideal S32768x256 .f32) (w : FVec Ideal S256x768 .f32) (r : Fin 32768) (j : Fin 768) :
    Host.dotGeneral dot_S32768x256_S256x768_S32768x768_1_0_0_1_n_n none x w (ix2 r j) = ∑ k : Fin 256, x (ix2 r k) * w (ix2 k j) := by
  pointwise []

theorem matkv_at (x : FVec Ideal S32768x128 .f32) (w : FVec Ideal S128x1024 .f32) (r : Fin 32768) (j : Fin 1024) :
    Host.dotGeneral dot_S32768x128_S128x1024_S32768x1024_1_0_0_1_n_n none x w (ix2 r j) = ∑ k : Fin 128, x (ix2 r k) * w (ix2 k j) := by
  pointwise []

theorem castq_at (y : FVec Ideal S32768x768 .f32) (b : Fin 8) (s : Fin 4096) (n : Fin 8) (e : Fin 96) :
    (shapeCast _ y shapeCasts_S32768x768_S8x4096x8x96 : FVec Ideal S8x4096x8x96 .f32) (ix4 b s n e) = y (ix2 (rowOf b s) ⟨96 * n.val + e.val, by omega⟩) := by
  refine Eq.trans (b := y (ix2 (rowOf b s) ⟨n.val * 96 + e.val, by omega⟩)) (by pointwise [rowOf]) ?_
  exact congrArg (fun j => y (ix2 (rowOf b s) j)) (Fin.ext (by dsimp only; omega))

theorem castkv_at (y : FVec Ideal S32768x1024 .f32) (b : Fin 8) (s : Fin 4096) (n : Fin 8) (e : Fin 128) :
    (shapeCast _ y shapeCasts_S32768x1024_S8x4096x8x128 : FVec Ideal S8x4096x8x128 .f32) (ix4 b s n e) = y (ix2 (rowOf b s) ⟨128 * n.val + e.val, by omega⟩) := by
  refine Eq.trans (b := y (ix2 (rowOf b s) ⟨n.val * 128 + e.val, by omega⟩)) (by pointwise [rowOf]) ?_
  exact congrArg (fun j => y (ix2 (rowOf b s) j)) (Fin.ext (by dsimp only; omega))

theorem sliceq_at (p : FVec Ideal S32768x7728 .f32) (r : Fin 32768) (d : Fin 256) :
    extractStridedSlice S32768x256 ![0, 0] p slices_S32768x7728_S32768x256_0_0 (ix2 r d) = p (ix2 r ⟨d.val, by omega⟩) := by
  pointwise []

theorem slicekv_at (p : FVec Ideal S32768x7728 .f32) (r : Fin 32768) (d : Fin 128) :
    extractStridedSlice S32768x128 ![0, 256] p slices_S32768x7728_S32768x128_0_256 (ix2 r d) = p (ix2 r ⟨256 + d.val, by omega⟩) := by
  pointwise []

theorem queries_at (p g w) (b : Fin 8) (s : Fin 4096) (n : Fin 8) (e : Fin 96) :
    queries p g w (ix4 b s n e) = dot (normed 0x43800000#32 (fun j : Fin 256 => p (ix2 (rowOf b s) ⟨j.val, by omega⟩)) (fun j => g (ix1 j))) (fun k => w (ix2 k ⟨96 * n.val + e.val, by omega⟩)) := by
  refine Eq.trans (castq_at _ b s n e) ((matq_at _ w (rowOf b s) _).trans (Finset.sum_congr rfl fun k _ => congrArg (· * _) ((norm256_at _ g _ k).trans ?_)))
  exact congrArg (fun u => normed 0x43800000#32 u (fun j => g (ix1 j)) k) (funext fun d => sliceq_at p (rowOf b s) d)

theorem keysValues_at (p g w) (b : Fin 8) (s : Fin 4096) (n : Fin 8) (e : Fin 128) :
    keysValues p g w (ix4 b s n e) = dot (normed 0x43000000#32 (fun j : Fin 128 => p (ix2 (rowOf b s) ⟨256 + j.val, by omega⟩)) (fun j => g (ix1 j))) (fun k => w (ix2 k ⟨128 * n.val + e.val, by omega⟩)) := by
  refine Eq.trans (castkv_at _ b s n e) ((matkv_at _ w (rowOf b s) _).trans (Finset.sum_congr rfl fun k _ => congrArg (· * _) ((norm128_at _ g _ k).trans ?_)))
  exact congrArg (fun u => normed 0x43000000#32 u (fun j => g (ix1 j)) k) (funext fun d => slicekv_at p (rowOf b s) d)

theorem angles_at (p : IVec S8x4096 32) (f) (b : Fin 8) (s : Fin 4096) (j : Fin 16) :
    angles p f (ix3 b s j) = (sitofp .f32 p : FVec Ideal S8x4096 .f32) (ix2 b s) * f (ix1 j) := by
  pointwise [angles]

theorem spread_at (u) (b : Fin 8) (s : Fin 4096) (n : Fin 8) (j : Fin 16) : spread u (ix4 b s n j) = u (ix3 b s j) := by
  pointwise [spread]

theorem turnQ_at (y u v) (b : Fin 8) (s : Fin 4096) (n : Fin 8) (e : Fin 32) :
    turnQ y u v (ix4 b s n e) = if h : e.val < 16 then y (ix4 b s n e) * u (ix4 b s n ⟨e.val, h⟩) - y (ix4 b s n ⟨e.val + 16, by omega⟩) * v (ix4 b s n ⟨e.val, h⟩)
      else y (ix4 b s n e) * u (ix4 b s n ⟨e.val - 16, by omega⟩) + y (ix4 b s n ⟨e.val - 16, by omega⟩) * v (ix4 b s n ⟨e.val - 16, by omega⟩) := by
  split_ifs with h
  · pointwise [turnQ]
    simp only [dif_pos h, Nat.add_comm 16]
  · have back : 16 + (e.val - 16) = e.val := by omega
    pointwise [turnQ]
    simp only [dif_neg h, back]

theorem turnK_at (y u v) (b : Fin 8) (s : Fin 4096) (e : Fin 32) :
    turnK y u v (ix3 b s e) = if h : e.val < 16 then y (ix3 b s e) * u (ix3 b s ⟨e.val, h⟩) - y (ix3 b s ⟨e.val + 16, by omega⟩) * v (ix3 b s ⟨e.val, h⟩)
      else y (ix3 b s e) * u (ix3 b s ⟨e.val - 16, by omega⟩) + y (ix3 b s ⟨e.val - 16, by omega⟩) * v (ix3 b s ⟨e.val - 16, by omega⟩) := by
  split_ifs with h
  · pointwise [turnK]
    simp only [dif_pos h, Nat.add_comm 16]
  · have back : 16 + (e.val - 16) = e.val := by omega
    pointwise [turnK]
    simp only [dif_neg h, back]

theorem join_at (x y) (b : Fin 8) (s : Fin 4096) (n : Fin 8) (l : Fin 128) :
    join x y (ix4 b s n l) = if h : l.val < 64 then x (ix4 b s n ⟨l.val, h⟩) else if h' : l.val < 96 then y (ix4 b s n ⟨l.val - 64, by omega⟩) else 0 := by
  split_ifs with h h'
  · pointwise [join]
    simp only [dif_pos h]
  · have h32 : l.val - 64 < 32 := by omega
    pointwise [join]
    simp only [dif_neg h, dif_pos h32]
  · have h32 : ¬ l.val - 64 < 32 := by omega
    pointwise [join]
    simp only [dif_neg h, dif_neg h32]

theorem shared_at (p) (b : Fin 8) (s : Fin 4096) (e : Fin 32) : shared p (ix3 b s e) = p (ix2 (rowOf b s) ⟨384 + e.val, by omega⟩) := by
  pointwise [shared, rowOf]

theorem value_at (kv) (b : Fin 8) (p : Fin 4) (s : Fin 4096) (l : Fin 128) :
    value kv (ix4 b p s l) = kv (ix4 b s ⟨2 * p.val + l.val / 64, by omega⟩ ⟨64 + l.val % 64, by omega⟩) := by
  refine Eq.trans (b := kv (ix4 b s ⟨p.val * 2 + l.val / 64, by omega⟩ ⟨64 + l.val % 64, by omega⟩)) (by pointwise [value]) ?_
  exact congrArg (fun j => kv (ix4 b s j _)) (Fin.ext (by dsimp only; omega))

theorem rwkv_at (p) (r : Fin 32768) (j : Fin 1664) : rwkv p (ix2 r j) = p (ix2 r ⟨416 + j.val, by omega⟩) := by
  pointwise [rwkv]
theorem gate_at (p) (r : Fin 32768) (j : Fin 1536) : gate p (ix2 r j) = p (ix2 r ⟨3120 + j.val, by omega⟩) := by
  pointwise [gate]
theorem merge_at (p) (r : Fin 32768) (j : Fin 3072) : merge p (ix2 r j) = p (ix2 r ⟨4656 + j.val, by omega⟩) := by
  pointwise [merge]
theorem gla_at (p) (r : Fin 32768) (j : Fin 1152) : gla p (ix2 r j) = if h : j.val < 1040 then p (ix2 r ⟨2080 + j.val, by omega⟩) else 0 := by
  by_cases h : j.val < 1040
  · rw [dif_pos h]
    pointwise [gla]
    split_ifs <;> first | omega | exact congrArg (fun e => p (ix2 r e)) (Fin.ext (by dsimp only <;> omega))
  · rw [dif_neg h]
    pointwise [gla]
    split_ifs <;> first | rfl | omega

theorem query_at (q a) (b : Fin 8) (n : Fin 8) (s : Fin 4096) (l : Fin 128) :
    query q a (ix4 b n s l) = (if h : l.val < 64 then q (ix4 b s n ⟨l.val, by omega⟩)
      else if h' : l.val < 96 then rot (fun e => q (ix4 b s n ⟨64 + e.val, by omega⟩)) (fun j => a (ix3 b s j)) ⟨l.val - 64, by omega⟩ else 0)
        * Ideal.ofBits FTy.f32 0x3DD105EC#32 := by
  have e : query q a (ix4 b n s l) = join (extractStridedSlice S8x4096x8x64 ![0, 0, 0, 0] q slices_S8x4096x8x96_S8x4096x8x64_0_0_0_0)
      (turnQ (extractStridedSlice S8x4096x8x32 ![0, 0, 0, 64] q slices_S8x4096x8x96_S8x4096x8x32_0_0_0_64) (spread (Host.cos a)) (spread (Host.sin a))) (ix4 b s n l) * Ideal.ofBits FTy.f32 0x3DD105EC#32 := by
    pointwise [query]
  have f (e : Fin 32) : (extractStridedSlice S8x4096x8x32 ![0, 0, 0, 64] q slices_S8x4096x8x96_S8x4096x8x32_0_0_0_64 : FVec Ideal S8x4096x8x32 .f32) (ix4 b s n e) = q (ix4 b s n ⟨64 + e.val, by omega⟩) := by
    pointwise []
  have g (e : Fin 64) : (extractStridedSlice S8x4096x8x64 ![0, 0, 0, 0] q slices_S8x4096x8x96_S8x4096x8x64_0_0_0_0 : FVec Ideal S8x4096x8x64 .f32) (ix4 b s n e) = q (ix4 b s n ⟨e.val, by omega⟩) := by
    pointwise []
  have hc (j : Fin 16) : spread (Host.cos a) (ix4 b s n j) = Ideal.cos (a (ix3 b s j)) := spread_at _ b s n j
  have hs (j : Fin 16) : spread (Host.sin a) (ix4 b s n j) = Ideal.sin (a (ix3 b s j)) := spread_at _ b s n j
  rw [e, join_at]
  simp only [turnQ_at, f, g, hc, hs, rot]

theorem key_at (kv y) (b : Fin 8) (n : Fin 8) (s : Fin 4096) (l : Fin 128) :
    key kv y (ix4 b n s l) = if h : l.val < 64 then kv (ix4 b s n ⟨l.val, by omega⟩) else if h' : l.val < 96 then y (ix3 b s ⟨l.val - 64, by omega⟩) else 0 := by
  have e : key kv y (ix4 b n s l) = join (extractStridedSlice S8x4096x8x64 ![0, 0, 0, 0] kv slices_S8x4096x8x128_S8x4096x8x64_0_0_0_0)
      (broadcastInDim S8x4096x8x32 ![0, 1, 2, 3] bcast_S8x4096x1x32_S8x4096x8x32_0_1_2_3 (broadcastInDim S8x4096x1x32 ![0, 1, 3] bcast_S8x4096x32_S8x4096x1x32_0_1_3 y)) (ix4 b s n l) := by
    pointwise [key]
  have f (e : Fin 32) : (broadcastInDim S8x4096x8x32 ![0, 1, 2, 3] bcast_S8x4096x1x32_S8x4096x8x32_0_1_2_3 (broadcastInDim S8x4096x1x32 ![0, 1, 3] bcast_S8x4096x32_S8x4096x1x32_0_1_3 y) : FVec Ideal S8x4096x8x32 .f32) (ix4 b s n e) = y (ix3 b s e) := by
    pointwise []
  have g (e : Fin 64) : (extractStridedSlice S8x4096x8x64 ![0, 0, 0, 0] kv slices_S8x4096x8x128_S8x4096x8x64_0_0_0_0 : FVec Ideal S8x4096x8x64 .f32) (ix4 b s n e) = kv (ix4 b s n ⟨e.val, by omega⟩) := by
    pointwise []
  rw [e, join_at]
  simp only [f, g]

/-! The results, from the arguments. -/

section Results

variable (m : (ℓ : Loc nD τ sig) → Buf (Elt Ideal) ℓ) (c : Dev nD)

def argX : FVec Ideal S32768x1024 .f32 := m ((c : Thread nD τ).loc main_arg0)
def argPos : IVec S8x4096 32 := m ((c : Thread nD τ).loc main_arg1)
def argNorm : FVec Ideal S1024 .f32 := m ((c : Thread nD τ).loc main_arg2)
def argW : FVec Ideal S1024x7728 .f32 := m ((c : Thread nD τ).loc main_arg3)
def argQn : FVec Ideal S256 .f32 := m ((c : Thread nD τ).loc main_arg4)
def argKn : FVec Ideal S128 .f32 := m ((c : Thread nD τ).loc main_arg5)
def argUq : FVec Ideal S256x768 .f32 := m ((c : Thread nD τ).loc main_arg6)
def argUkv : FVec Ideal S128x1024 .f32 := m ((c : Thread nD τ).loc main_arg7)

/-- The arguments, by coordinates. -/
def inputs : Inputs where
  x r d := argX m c (ix2 r d)
  pos b s := (sitofp .f32 (argPos m c) : FVec Ideal S8x4096 .f32) (ix2 b s)
  freq j := freqs (ix1 j)
  norm d := argNorm m c (ix1 d)
  w k j := argW m c (ix2 k j)
  qn j := argQn m c (ix1 j)
  kn j := argKn m c (ix1 j)
  uq k j := argUq m c (ix2 k j)
  ukv k j := argUkv m c (ix2 k j)

def projected : FVec Ideal S32768x7728 .f32 := proj (argX m c) (argNorm m c) (argW m c)

theorem projected_at (r : Fin 32768) (j : Fin 7728) : projected m c (ix2 r j) = (inputs m c).col r j := proj_at _ _ _ r j

theorem q_at (b : Fin 8) (s : Fin 4096) (n : Fin 8) (e : Fin 96) : queries (projected m c) (argQn m c) (argUq m c) (ix4 b s n e) = (inputs m c).q (rowOf b s) n e :=
  (queries_at _ _ _ b s n e).trans (congrArg (fun u => dot (normed 0x43800000#32 u _) _) (funext fun j => projected_at m c _ _))

theorem kv_at (b : Fin 8) (s : Fin 4096) (n : Fin 8) (e : Fin 128) : keysValues (projected m c) (argKn m c) (argUkv m c) (ix4 b s n e) = (inputs m c).kv (rowOf b s) n e :=
  (keysValues_at _ _ _ b s n e).trans (congrArg (fun u => dot (normed 0x43000000#32 u _) _) (funext fun j => projected_at m c _ _))

theorem turned_at (b : Fin 8) (s : Fin 4096) (e : Fin 32) :
    turnK (shared (projected m c)) (Host.cos (angles (argPos m c) freqs)) (Host.sin (angles (argPos m c) freqs)) (ix3 b s e)
      = rot (fun e => (inputs m c).col (rowOf b s) ⟨384 + e.val, by omega⟩) ((inputs m c).angle b s) e := by
  have hc (j : Fin 16) : (Host.cos (angles (argPos m c) freqs) : FVec Ideal S8x4096x16 .f32) (ix3 b s j) = Ideal.cos ((inputs m c).angle b s j) := congrArg Ideal.cos (angles_at _ _ b s j)
  have hs (j : Fin 16) : (Host.sin (angles (argPos m c) freqs) : FVec Ideal S8x4096x16 .f32) (ix3 b s j) = Ideal.sin ((inputs m c).angle b s j) := congrArg Ideal.sin (angles_at _ _ b s j)
  rw [turnK_at]
  simp only [shared_at, projected_at, hc, hs, rot]

theorem res0_eq : Value.res_out0 m c = query (queries (projected m c) (argQn m c) (argUq m c)) (angles (argPos m c) freqs) := rfl

theorem res1_eq : Value.res_out1 m c = key (keysValues (projected m c) (argKn m c) (argUkv m c))
    (turnK (shared (projected m c)) (Host.cos (angles (argPos m c) freqs)) (Host.sin (angles (argPos m c) freqs))) := rfl

theorem res4_eq : Value.res_out4 m c = gla (projected m c) := rfl

theorem res0_at (b : Fin 8) (n : Fin 8) (s : Fin 4096) (l : Fin 128) : Value.res_out0 m c (ix4 b n s l) = (inputs m c).query b n s l := by
  rw [res0_eq, query_at]
  have ha (j : Fin 16) : angles (argPos m c) freqs (ix3 b s j) = (inputs m c).angle b s j := angles_at _ _ b s j
  simp only [q_at, ha]
  rfl

theorem res1_at (b : Fin 8) (n : Fin 8) (s : Fin 4096) (l : Fin 128) : Value.res_out1 m c (ix4 b n s l) = (inputs m c).key b n s l := by
  rw [res1_eq, key_at]
  simp only [kv_at, turned_at]
  rfl

theorem res2_at (b : Fin 8) (p : Fin 4) (s : Fin 4096) (l : Fin 128) :
    value (keysValues (projected m c) (argKn m c) (argUkv m c)) (ix4 b p s l) = (inputs m c).value b p s l := (value_at _ b p s l).trans (kv_at m c b s _ _)
theorem res3_at (r : Fin 32768) (j : Fin 1664) : rwkv (projected m c) (ix2 r j) = (inputs m c).rwkv r j := (rwkv_at _ r j).trans (projected_at m c r _)
theorem res4_at (r : Fin 32768) (j : Fin 1152) : Value.res_out4 m c (ix2 r j) = (inputs m c).gla r j := by
  rw [res4_eq, gla_at]
  simp only [projected_at]
  rfl
theorem res5_at (r : Fin 32768) (j : Fin 1536) : gate (projected m c) (ix2 r j) = (inputs m c).gate r j := (gate_at _ r j).trans (projected_at m c r _)
theorem res6_at (r : Fin 32768) (j : Fin 3072) : merge (projected m c) (ix2 r j) = (inputs m c).merge r j := (merge_at _ r j).trans (projected_at m c r _)

/-- The frequencies are the kernel's own. -/
theorem freqs_eq : freqs = Cert.Proj.freqs := rfl

end Results

end Cert.Reference3Ideal.Proj

end
-- ==== Proof.ProjFinite.lean ====
/-
  The input projection's precondition: two norm weights, and the columns of the projection's and of the query's weight that the rotation
  negates, are real numbers.
-/
module

public import proofs.«01_k».proof.Pre_finite_weights
public import proofs.«01_k».proof.Proof.Finite

@[expose] public section

set_option maxRecDepth 16384

noncomputable section

namespace Cert.Pre_finite_weights

open Idealize.ShloMosaic
open Cert.Pre_finite (real_of_bit)

theorem facts : Facts := ⟨by decide, by decide, by decide, by decide, by decide, by decide, by decide⟩

attribute [local instance] facts

section

variable {x : FVec Ideal S32768x1024 .f32} {p : IVec S8x4096 32} {g : FVec Ideal S1024 .f32} {w : FVec Ideal S1024x7728 .f32} {q : FVec Ideal S256 .f32}
  {k : FVec Ideal S128 .f32} {u : FVec Ideal S256x768 .f32} {v : FVec Ideal S128x1024 .f32} (h : fn x p g w q k u v = fun _ => 1#1)

def keyCols (w : FVec Ideal S1024x7728 .f32) : FVec Ideal S16384 .f32 :=
  shapeCast S16384 (extractStridedSlice S1024x16 ![0, 400] w Facts.slices_S1024x7728_S1024x16_0_400) Facts.shapeCasts_S1024x16_S16384

def queryCols (u : FVec Ideal S256x768 .f32) : FVec Ideal S32768 .f32 :=
  shapeCast S32768 (extractStridedSlice S256x8x16 ![0, 0, 80] (shapeCast S256x8x96 u Facts.shapeCasts_S256x768_S256x8x96) Facts.slices_S256x8x96_S256x8x16_0_0_80)
    Facts.shapeCasts_S256x8x16_S32768

/-- The array whose elements the precondition reads. -/
def joined (g : FVec Ideal S1024 .f32) (w : FVec Ideal S16384 .f32) (q : FVec Ideal S256 .f32) (u : FVec Ideal S32768 .f32) : FVec Ideal S50432 .f32 :=
  concatenate S50432 0 [⟨S1024, g⟩, ⟨S16384, w⟩, ⟨S256, q⟩, ⟨S32768, u⟩] Facts.concatenates_S1024_S16384_S256_S32768_S50432_d0

include h in
theorem joined_real (i : Fin 50432) : ∃ r : ℝ, joined g (keyCols w) q (queryCols u) (ix1 i) = r :=
  real_of_bit _ (congrFun h (ix1 i))

theorem keyCols_at (a : Fin 1024) (b : Fin 16) : keyCols w (ix1 ⟨a.val * 16 + b.val, by omega⟩) = w (ix2 a ⟨400 + b.val, by omega⟩) := by
  pointwise [keyCols]

theorem queryCols_at (a : Fin 256) (n : Fin 8) (b : Fin 16) :
    queryCols u (ix1 ⟨(a.val * 8 + n.val) * 16 + b.val, by omega⟩) = u (ix2 a ⟨n.val * 96 + (80 + b.val), by omega⟩) := by
  pointwise [queryCols]

variable {w' : FVec Ideal S16384 .f32} {u' : FVec Ideal S32768 .f32}

theorem joined_norm (i : Fin 1024) : joined g w' q u' (ix1 ⟨i.val, by omega⟩) = g (ix1 i) := by
  have h1 : i.val < 1024 := i.isLt
  pointwise [joined]
  try simp only [dif_pos h1]

theorem joined_in (i : Fin 16384) : joined g w' q u' (ix1 ⟨1024 + i.val, by omega⟩) = w' (ix1 i) := by
  have h1 : i.val < 16384 := i.isLt
  pointwise [joined]
  try rw [dif_pos h1]

theorem joined_q (i : Fin 256) : joined g w' q u' (ix1 ⟨17408 + i.val, by omega⟩) = q (ix1 i) := by
  have h1 : ¬ 17408 + i.val < 1024 := by omega
  have h2 : ¬ 17408 + i.val - 1024 < 16384 := by omega
  have h3 : 17408 + i.val - 1024 - 16384 < 256 := by omega
  pointwise [joined]
  rw [dif_neg h1, dif_neg h2, dif_pos h3]
  exact congrArg (fun e => q (ix1 e)) (Fin.ext (by dsimp only; omega))

theorem joined_up (i : Fin 32768) : joined g w' q u' (ix1 ⟨17664 + i.val, by omega⟩) = u' (ix1 i) := by
  have h1 : ¬ 17664 + i.val < 1024 := by omega
  have h2 : ¬ 17664 + i.val - 1024 < 16384 := by omega
  have h3 : ¬ 17664 + i.val - 1024 - 16384 < 256 := by omega
  pointwise [joined]
  rw [dif_neg h1, dif_neg h2, dif_neg h3]
  exact congrArg (fun e => u' (ix1 e)) (Fin.ext (by dsimp only; omega))

include h

theorem norm_real (i : Fin 1024) : ∃ r : ℝ, g (ix1 i) = r :=
  let ⟨r, hr⟩ := joined_real h _
  ⟨r, (joined_norm i).symm.trans hr⟩

theorem q_real (i : Fin 256) : ∃ r : ℝ, q (ix1 i) = r :=
  let ⟨r, hr⟩ := joined_real h _
  ⟨r, (joined_q i).symm.trans hr⟩

theorem in_real (a : Fin 1024) (b : Fin 7728) (h1 : 400 ≤ b.val) (h2 : b.val < 416) : ∃ r : ℝ, w (ix2 a b) = r := by
  obtain ⟨r, hr⟩ := joined_real h ⟨1024 + (a.val * 16 + (b.val - 400)), by omega⟩
  refine ⟨r, Eq.trans ?_ ((joined_in ⟨a.val * 16 + (b.val - 400), by omega⟩).symm.trans hr)⟩
  refine Eq.trans ?_ (keyCols_at a ⟨b.val - 400, by omega⟩).symm
  exact congrArg (fun e => w (ix2 a e)) (Fin.ext (by dsimp only; omega))

theorem up_real (a : Fin 256) (b : Fin 768) (h1 : 80 ≤ b.val % 96) : ∃ r : ℝ, u (ix2 a b) = r := by
  obtain ⟨r, hr⟩ := joined_real h ⟨17664 + ((a.val * 8 + b.val / 96) * 16 + (b.val % 96 - 80)), by omega⟩
  refine ⟨r, Eq.trans ?_ ((joined_up ⟨(a.val * 8 + b.val / 96) * 16 + (b.val % 96 - 80), by omega⟩).symm.trans hr)⟩
  refine Eq.trans ?_ (queryCols_at a ⟨b.val / 96, by omega⟩ ⟨b.val % 96 - 80, by omega⟩).symm
  exact congrArg (fun e => u (ix2 a e)) (Fin.ext (by dsimp only; omega))

end

end Cert.Pre_finite_weights

end
-- ==== Proof.lean ====
/-
  The claims of `proofs.«01_k».proof.Defs`: both programs of the kernel and the reference run and leave their arguments alone, and
  over the extended reals the kernel's result is the reference's.
-/
module

public import proofs.«01_k».proof.Defs
public import proofs.«01_k».proof.Proof.Gen.ReferenceIdeal.Run
public import proofs.«01_k».proof.Proof.Ref
public import proofs.«01_k».proof.Proof.Finite
public import proofs.«01_k».proof.Proof.Gen.Kernel2.Frame
public import proofs.«01_k».proof.Proof.Gen.Kernel2Ideal.Value
public import proofs.«01_k».proof.Proof.MergeRef
public import proofs.«01_k».proof.Proof.Gen.Kernel3.Frame
public import proofs.«01_k».proof.Proof.Gen.Kernel3Ideal.Frame
public import proofs.«01_k».proof.Proof.Gen.Reference3Ideal.Run
public import proofs.«01_k».proof.Proof.ProjRun
public import proofs.«01_k».proof.Proof.ProjValue
public import proofs.«01_k».proof.Proof.ProjRef
public import proofs.«01_k».proof.Proof.ProjFinite
public import Idealize.ShloMosaic.Lib.Claim

@[expose] public section

set_option maxRecDepth 16384

noncomputable section

namespace Cert.Proof

open Idealize.ShloMosaic Idealize.ShloMosaic.TcCoe Idealize.SL.Sem

attribute [local instance] Cert.Kernel.Gen.facts Cert.KernelIdeal.Gen.facts Cert.ReferenceIdeal.Gen.facts Cert.Kernel2.Gen.facts Cert.Kernel2Ideal.Gen.facts Cert.Reference2Ideal.Gen.facts Cert.Pre_finite.facts
  Cert.Kernel3.Gen.facts Cert.Kernel3Ideal.Gen.facts Cert.Reference3Ideal.Gen.facts Cert.Pre_finite_weights.facts

theorem scores_real (m : (ℓ : Loc Cert.KernelIdeal.nD Cert.KernelIdeal.τ Cert.KernelIdeal.sig) → Buf (Elt Ideal) ℓ)
    (h : Cert.Pre_KernelIdeal_finite m) (c : Dev Cert.KernelIdeal.nD) (b e : Fin 8) (i j : Fin 4096) :
    ∃ x : ℝ, Cert.Attn.score (Cert.Attn.argQ m c) (Cert.Attn.argK m c) b e i j = x := by
  refine Cert.Attn.sum_real Finset.univ _ fun d _ => ?_
  obtain ⟨x, hx⟩ := (Cert.Pre_finite.real_of_fn (h c) (ix4 b e i d)).1
  obtain ⟨y, hy⟩ := (Cert.Pre_finite.real_of_fn (h c) (ix4 b e j d)).2
  refine ⟨x * y, ?_⟩
  rw [EReal.coe_mul, ← hx, ← hy]
  rfl

theorem result_eq (m : (ℓ : Loc Cert.KernelIdeal.nD Cert.KernelIdeal.τ Cert.KernelIdeal.sig) → Buf (Elt Ideal) ℓ)
    (h : Cert.Pre_KernelIdeal_finite m) (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = Cert.Attn.argQ m c)
    (h1 : m' ((c.tc : Thread Cert.ReferenceIdeal.nD Cert.ReferenceIdeal.τ).loc Cert.ReferenceIdeal.main_arg1) = Cert.Attn.argK m c)
    (h2 : m' ((c.tc : Thread Cert.ReferenceIdeal.nD Cert.ReferenceIdeal.τ).loc Cert.ReferenceIdeal.main_arg2) = Cert.Attn.argV m c) :
    Cert.ReferenceIdeal.Value.res_out0 m' c = (Cert.Attn.dats m 0 c).arrAt 3 (Cert.KernelIdeal.cfgs 0).N := by
  rw [Cert.Attn.final m c (scores_real m h c)]
  refine funext fun y => ?_
  idx_vars y
  refine (Cert.ReferenceIdeal.Attn.res_at m' c y0 y1 y2).trans ?_
  rw [h0, h1, h2]
  rfl

theorem algebraic : Cert.algebraic_KernelIdeal_ReferenceIdeal_pre_finite := by
  intro m g m' g' hpre hargs
  refine ⟨fun c => (Cert.Attn.dats m 0 c).arrAt 3 (Cert.KernelIdeal.cfgs 0).N, ?_, ?_⟩
  · refine (θ_run _ _ _).mono (fun r h c => ?_) (Cert.Attn.run_main m g)
    exact ⟨h.1.out_eq c 3, h.1.in_eq c 0 rfl, h.1.in_eq c 1 rfl, h.1.in_eq c 2 rfl⟩
  · refine (θ_run _ _ _).mono (fun r h c => ?_) (Cert.ReferenceIdeal.Value.run m' g')
    exact ⟨(h c).1.trans (result_eq m hpre m' c (hargs c).1 (hargs c).2.1 (hargs c).2.2), (h c).2⟩

theorem frame_reference : Cert.quiescent_ReferenceIdeal := fun m g _ =>
  (θ_run _ _ _).mono (fun r h => ⟨fun c => (h c).2, sem_eq_zero_of_no_sems (by decide) r.2⟩) (Cert.ReferenceIdeal.Value.run m g)

theorem merge_result (m : (ℓ : Loc Cert.Kernel2Ideal.nD Cert.Kernel2Ideal.τ Cert.Kernel2Ideal.sig) → Buf (Elt Ideal) ℓ)
    (m' : (ℓ : Loc Cert.Reference2Ideal.nD Cert.Reference2Ideal.τ Cert.Reference2Ideal.sig) → Buf (Elt Ideal) ℓ) (c : Dev Cert.Kernel2Ideal.nD)
    (h0 : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0))
    (h1 : m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1))
    (h2 : m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2))
    (h3 : m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3))
    (h4 : m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4))
    (h5 : m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5))
    (h6 : m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6))
    (h7 : m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7))
    (h8 : m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) :
    Cert.Reference2Ideal.Value.res_out0 m' c = (Cert.Kernel2Ideal.Gen.dats m 0 c).arrAt 9 (Cert.Kernel2Ideal.cfgs 0).N := by
  rw [Cert.Merge.final m c]
  refine funext fun y => ?_
  idx_vars y
  refine (Cert.Reference2Ideal.Merge.res_at m' c y0 y1).trans ?_
  rw [h0, h1, h2, h3, h4, h5, h6, h7, h8]
  rfl

theorem algebraic_merge : Cert.algebraic_Kernel2Ideal_Reference2Ideal := by
  intro m g m' g' _ hargs
  refine ⟨fun c => (Cert.Kernel2Ideal.Gen.dats m 0 c).arrAt 9 (Cert.Kernel2Ideal.cfgs 0).N, Cert.Kernel2Ideal.Value.run_blocks m g, ?_⟩
  refine (θ_run _ _ _).mono (fun r h c => ?_) (Cert.Reference2Ideal.Value.run m' g')
  obtain ⟨h0, h1, h2, h3, h4, h5, h6, h7, h8⟩ := hargs c
  exact ⟨(h c).1.trans (merge_result m m' c h0 h1 h2 h3 h4 h5 h6 h7 h8), (h c).2⟩

theorem frame_reference2 : Cert.quiescent_Reference2Ideal := fun m g _ =>
  (θ_run _ _ _).mono (fun r h => ⟨fun c => (h c).2, sem_eq_zero_of_no_sems (by decide) r.2⟩) (Cert.Reference2Ideal.Value.run m g)

theorem proj_inputs (m : (ℓ : Loc Cert.Kernel3Ideal.nD Cert.Kernel3Ideal.τ Cert.Kernel3Ideal.sig) → Buf (Elt Ideal) ℓ) (m' : (ℓ : Loc Cert.Reference3Ideal.nD Cert.Reference3Ideal.τ Cert.Reference3Ideal.sig) → Buf (Elt Ideal) ℓ) (c : Dev Cert.Kernel3Ideal.nD)
    (h0 : m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0))
     (h1 : m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1))
     (h2 : m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2))
     (h3 : m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3))
     (h4 : m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4))
     (h5 : m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5))
     (h6 : m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6))
     (h7 : m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) :
    Cert.Reference3Ideal.Proj.inputs m' c = Cert.Proj.inputs m c := by
  unfold Cert.Reference3Ideal.Proj.inputs Cert.Reference3Ideal.Proj.argX Cert.Reference3Ideal.Proj.argPos Cert.Reference3Ideal.Proj.argNorm Cert.Reference3Ideal.Proj.argW Cert.Reference3Ideal.Proj.argQn Cert.Reference3Ideal.Proj.argKn Cert.Reference3Ideal.Proj.argUq Cert.Reference3Ideal.Proj.argUkv
  rw [h0, h1, h2, h3, h4, h5, h6, h7, Cert.Reference3Ideal.Proj.freqs_eq]
  rfl

theorem query_result (m : (ℓ : Loc Cert.Kernel3Ideal.nD Cert.Kernel3Ideal.τ Cert.Kernel3Ideal.sig) → Buf (Elt Ideal) ℓ) (m' : (ℓ : Loc Cert.Reference3Ideal.nD Cert.Reference3Ideal.τ Cert.Reference3Ideal.sig) → Buf (Elt Ideal) ℓ) (c : Dev Cert.Kernel3Ideal.nD)
    (e : Cert.Reference3Ideal.Proj.inputs m' c = Cert.Proj.inputs m c) : Cert.Reference3Ideal.Value.res_out0 m' c = Cert.Proj.queryResult m c := by
  refine funext fun y => ?_
  idx_vars y
  refine (Cert.Reference3Ideal.Proj.res0_at m' c y0 y1 y2 y3).trans ?_
  rw [e]
  rfl

theorem key_result (m : (ℓ : Loc Cert.Kernel3Ideal.nD Cert.Kernel3Ideal.τ Cert.Kernel3Ideal.sig) → Buf (Elt Ideal) ℓ) (m' : (ℓ : Loc Cert.Reference3Ideal.nD Cert.Reference3Ideal.τ Cert.Reference3Ideal.sig) → Buf (Elt Ideal) ℓ) (c : Dev Cert.Kernel3Ideal.nD)
    (e : Cert.Reference3Ideal.Proj.inputs m' c = Cert.Proj.inputs m c) : Cert.Reference3Ideal.Value.res_out1 m' c = Cert.Proj.keyResult m c := by
  refine funext fun y => ?_
  idx_vars y
  refine (Cert.Reference3Ideal.Proj.res1_at m' c y0 y1 y2 y3).trans ?_
  rw [e]
  rfl

theorem value_result (m : (ℓ : Loc Cert.Kernel3Ideal.nD Cert.Kernel3Ideal.τ Cert.Kernel3Ideal.sig) → Buf (Elt Ideal) ℓ) (m' : (ℓ : Loc Cert.Reference3Ideal.nD Cert.Reference3Ideal.τ Cert.Reference3Ideal.sig) → Buf (Elt Ideal) ℓ) (c : Dev Cert.Kernel3Ideal.nD)
    (e : Cert.Reference3Ideal.Proj.inputs m' c = Cert.Proj.inputs m c) : Cert.Reference3Ideal.Proj.value (Cert.Reference3Ideal.Proj.keysValues (Cert.Reference3Ideal.Proj.projected m' c) (Cert.Reference3Ideal.Proj.argKn m' c) (Cert.Reference3Ideal.Proj.argUkv m' c)) = Cert.Proj.valueResult m c := by
  refine funext fun y => ?_
  idx_vars y
  refine (Cert.Reference3Ideal.Proj.res2_at m' c y0 y1 y2 y3).trans ?_
  rw [e]
  rfl

theorem rwkv_result (m : (ℓ : Loc Cert.Kernel3Ideal.nD Cert.Kernel3Ideal.τ Cert.Kernel3Ideal.sig) → Buf (Elt Ideal) ℓ) (m' : (ℓ : Loc Cert.Reference3Ideal.nD Cert.Reference3Ideal.τ Cert.Reference3Ideal.sig) → Buf (Elt Ideal) ℓ) (c : Dev Cert.Kernel3Ideal.nD)
    (e : Cert.Reference3Ideal.Proj.inputs m' c = Cert.Proj.inputs m c) : Cert.Reference3Ideal.Proj.rwkv (Cert.Reference3Ideal.Proj.projected m' c) = Cert.Proj.rwkvResult m c := by
  refine funext fun y => ?_
  idx_vars y
  refine (Cert.Reference3Ideal.Proj.res3_at m' c y0 y1).trans ?_
  rw [e]
  rfl

theorem gla_result (m : (ℓ : Loc Cert.Kernel3Ideal.nD Cert.Kernel3Ideal.τ Cert.Kernel3Ideal.sig) → Buf (Elt Ideal) ℓ) (m' : (ℓ : Loc Cert.Reference3Ideal.nD Cert.Reference3Ideal.τ Cert.Reference3Ideal.sig) → Buf (Elt Ideal) ℓ) (c : Dev Cert.Kernel3Ideal.nD)
    (e : Cert.Reference3Ideal.Proj.inputs m' c = Cert.Proj.inputs m c) : Cert.Reference3Ideal.Value.res_out4 m' c = Cert.Proj.glaResult m c := by
  refine funext fun y => ?_
  idx_vars y
  refine (Cert.Reference3Ideal.Proj.res4_at m' c y0 y1).trans ?_
  rw [e]
  rfl

theorem gate_result (m : (ℓ : Loc Cert.Kernel3Ideal.nD Cert.Kernel3Ideal.τ Cert.Kernel3Ideal.sig) → Buf (Elt Ideal) ℓ) (m' : (ℓ : Loc Cert.Reference3Ideal.nD Cert.Reference3Ideal.τ Cert.Reference3Ideal.sig) → Buf (Elt Ideal) ℓ) (c : Dev Cert.Kernel3Ideal.nD)
    (e : Cert.Reference3Ideal.Proj.inputs m' c = Cert.Proj.inputs m c) : Cert.Reference3Ideal.Proj.gate (Cert.Reference3Ideal.Proj.projected m' c) = Cert.Proj.gateResult m c := by
  refine funext fun y => ?_
  idx_vars y
  refine (Cert.Reference3Ideal.Proj.res5_at m' c y0 y1).trans ?_
  rw [e]
  rfl

theorem merge_part_result (m : (ℓ : Loc Cert.Kernel3Ideal.nD Cert.Kernel3Ideal.τ Cert.Kernel3Ideal.sig) → Buf (Elt Ideal) ℓ) (m' : (ℓ : Loc Cert.Reference3Ideal.nD Cert.Reference3Ideal.τ Cert.Reference3Ideal.sig) → Buf (Elt Ideal) ℓ) (c : Dev Cert.Kernel3Ideal.nD)
    (e : Cert.Reference3Ideal.Proj.inputs m' c = Cert.Proj.inputs m c) : Cert.Reference3Ideal.Proj.merge (Cert.Reference3Ideal.Proj.projected m' c) = Cert.Proj.mergeResult m c := by
  refine funext fun y => ?_
  idx_vars y
  refine (Cert.Reference3Ideal.Proj.res6_at m' c y0 y1).trans ?_
  rw [e]
  rfl

theorem algebraic_proj : Cert.algebraic_Kernel3Ideal_Reference3Ideal_pre_finite_weights := by
  intro m g m' g' hpre hargs
  refine ⟨fun c => Cert.Proj.queryResult m c, fun c => Cert.Proj.keyResult m c, fun c => Cert.Proj.valueResult m c, fun c => Cert.Proj.rwkvResult m c,
    fun c => Cert.Proj.glaResult m c, fun c => Cert.Proj.gateResult m c, fun c => Cert.Proj.mergeResult m c, ?_, ?_⟩
  · refine (θ_run _ _ _).mono (fun r h c => ?_) (Cert.Proj.run m g)
    obtain ⟨h0, h1, h2, h3, h4, h5, h6, ha⟩ := h c
    have hp := hpre c
    exact ⟨h0.trans (Cert.Proj.final_query m g c (Cert.Pre_finite_weights.q_real hp) (Cert.Pre_finite_weights.up_real hp)),
      h1.trans (Cert.Proj.final_key m g c (Cert.Pre_finite_weights.norm_real hp) (Cert.Pre_finite_weights.in_real hp)),
      h2.trans (Cert.Proj.final_value m g c), h3.trans (Cert.Proj.final_rwkv m g c), h4.trans (Cert.Proj.final_gla m g c),
      h5.trans (Cert.Proj.final_gate m g c), h6.trans (Cert.Proj.final_merge m g c), ha⟩
  · refine (θ_run _ _ _).mono (fun r h c => ?_) (Cert.Reference3Ideal.Value.run m' g')
    obtain ⟨a0, a1, a2, a3, a4, a5, a6, a7⟩ := hargs c
    have e := proj_inputs m m' c a0 a1 a2 a3 a4 a5 a6 a7
    obtain ⟨h0, h1, h2, h3, h4, h5, h6, ha⟩ := h c
    exact ⟨h0.trans (query_result m m' c e), h1.trans (key_result m m' c e), h2.trans (value_result m m' c e), h3.trans (rwkv_result m m' c e),
      h4.trans (gla_result m m' c e), h5.trans (gate_result m m' c e), h6.trans (merge_part_result m m' c e), ha⟩

theorem frame_reference3 : Cert.quiescent_Reference3Ideal := fun m g _ =>
  (θ_run _ _ _).mono (fun r h => ⟨fun c => (h c).2.2.2.2.2.2.2, sem_eq_zero_of_no_sems (by decide) r.2⟩) (Cert.Reference3Ideal.Value.run m g)

theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts, Cert.Pre_finite.facts,
    Cert.Pre_finite_weights.facts,
    frame_kernel, frame_kernelIdeal, fun m g _ => frame_kernelIdeal m g trivial, frame_reference, fun m g _ => frame_reference m g trivial,
    fun m g _ => Cert.Kernel2.Gen.frame m g, fun m g _ => Cert.Kernel2Ideal.Gen.frame m g, frame_reference2,
    fun m g _ => Cert.Kernel3.Gen.frame m g, fun m g _ => Cert.Kernel3Ideal.Gen.frame m g, fun m g _ => Cert.Kernel3Ideal.Gen.frame m g,
    frame_reference3, fun m g _ => frame_reference3 m g trivial,
    trivial, algebraic, trivial, algebraic_merge, trivial, algebraic_proj⟩

end Cert.Proof

end
